-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_args_ok [hPre_args_ok : Cert.Pre_args_ok.Facts] (m : (ℓ : Loc Cert.KernelIdeal.nD Cert.KernelIdeal.τ Cert.KernelIdeal.sig) → Buf (Elt Ideal) ℓ) : Prop :=
  ∀ c : Dev Cert.KernelIdeal.nD,
    (Cert.Pre_args_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_ok [hPre_args_ok : Cert.Pre_args_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_args_ok [hKernelIdeal : Cert.KernelIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_args_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_args_ok [hReferenceIdeal : Cert.ReferenceIdeal.Facts] [hPre_args_ok : Cert.Pre_args_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e_over_teacher_temp" .f32 0x421044FE#32 ((25 * (Real.log 2)⁻¹ : ℝ) : EReal)
  ∧ IdealRules.bf16_pack.Statement Cert.KernelIdeal.S32x128
  ∧ IdealRules.named_const.Statement Cert.KernelIdeal.κ "log2e_over_student_temp" .f32 0x4166D4CA#32 ((10 * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "temps" .f32 0x3ECCCCCD#32 ((2 / 5 : ℝ) : EReal)

def algebraic_KernelIdeal_ReferenceIdeal_pre_args_ok [hKernelIdeal : Cert.KernelIdeal.Facts] [hReferenceIdeal : Cert.ReferenceIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_args_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_args_ok : Cert.Pre_args_ok.Facts),
    quiescent_Kernel (hKernel := hKernel)
    ∧ quiescent_KernelIdeal (hKernelIdeal := hKernelIdeal)
    ∧ quiescent_KernelIdeal_pre_args_ok (hKernelIdeal := hKernelIdeal) (hPre_args_ok := hPre_args_ok)
    ∧ quiescent_ReferenceIdeal (hReferenceIdeal := hReferenceIdeal)
    ∧ quiescent_ReferenceIdeal_pre_args_ok (hReferenceIdeal := hReferenceIdeal) (hPre_args_ok := hPre_args_ok)
    ∧ preserves_Kernel_KernelIdeal
    ∧ algebraic_KernelIdeal_ReferenceIdeal_pre_args_ok (hKernelIdeal := hKernelIdeal) (hReferenceIdeal := hReferenceIdeal) (hPre_args_ok := hPre_args_ok)
-- ==== Pre_args_ok.lean ====
abbrev S2x5x384x256 : Shape := ⟨4, ![2, 5, 384, 256]⟩
abbrev S2x5x384 : Shape := ⟨3, ![2, 5, 384]⟩
abbrev S4x5x384x256 : Shape := ⟨4, ![4, 5, 384, 256]⟩
abbrev S4x5x384 : Shape := ⟨3, ![4, 5, 384]⟩
abbrev S20480x256 : Shape := ⟨2, ![20480, 256]⟩
abbrev S20480 : Shape := ⟨1, ![20480]⟩
abbrev S_ : Shape := ⟨0, ![]⟩

class Facts : Prop where
  bcast_S_S4x5x384 : S_.BroadcastsInDim S4x5x384 (![] : Fin 0 → Fin S4x5x384.rank)
  reducesTo_S4x5x384_S_d0_1_2 : S4x5x384.ReducesTo [0, 1, 2] S_
  h_S_ : 0 < S_.numel
  bcast_S_S20480 : S_.BroadcastsInDim S20480 (![] : Fin 0 → Fin S20480.rank)
  reducesTo_S20480_S_d0 : S20480.ReducesTo [0] S_

variable [Facts]

def fn {F : FTy → Type} [FloatOps F] (main_arg0 : FVec F S2x5x384x256 .fp8e4m3) (main_arg1 : FVec F S2x5x384 .f32) (main_arg2 : FVec F S4x5x384x256 .fp8e4m3) (main_arg3 : FVec F S4x5x384 .f32) (main_arg4 : FVec F S20480x256 .fp8e4m3) (main_arg5 : FVec F S20480 .f32) (main_arg6 : FVec F S20480 .f32) : IVec S_ 1 :=
  let main_cst : FVec F S_ .f32 := constant S_ .f32 0x00000000#32
  let main_v0 : FVec F S4x5x384 .f32 := broadcastInDim S4x5x384 ![] bcast_S_S4x5x384 main_cst
  let main_v1 : IVec S4x5x384 1 := cmpf .oge main_arg3 main_v0
  let main_cst_0 : FVec F S_ .f32 := constant S_ .f32 0x7F800000#32
  let main_v2 : FVec F S4x5x384 .f32 := broadcastInDim S4x5x384 ![] bcast_S_S4x5x384 main_cst_0
  let main_v3 : IVec S4x5x384 1 := cmpf .olt main_arg3 main_v2
  let main_v4 : IVec S4x5x384 1 := andi main_v1 main_v3
  let main_c : IVec S_ 1 := constantI S_ 1 1#1
  let main_v5 : IVec S_ 1 := (fun x v => Host.reduce IntOp.andi x v reducesTo_S4x5x384_S_d0_1_2 h_S_) main_v4 main_c
  let main_cst_1 : FVec F S_ .f32 := constant S_ .f32 0xFF800000#32
  let main_v6 : FVec F S20480 .f32 := broadcastInDim S20480 ![] bcast_S_S20480 main_cst_1
  let main_v7 : IVec S20480 1 := cmpf .ogt main_arg5 main_v6
  let main_cst_2 : FVec F S_ .f32 := constant S_ .f32 0x7F800000#32
  let main_v8 : FVec F S20480 .f32 := broadcastInDim S20480 ![] bcast_S_S20480 main_cst_2
  let main_v9 : IVec S20480 1 := cmpf .olt main_arg5 main_v8
  let main_v10 : IVec S20480 1 := andi main_v7 main_v9
  let main_c_3 : IVec S_ 1 := constantI S_ 1 1#1
  let main_v11 : IVec S_ 1 := (fun x v => Host.reduce IntOp.andi x v reducesTo_S20480_S_d0 h_S_) main_v10 main_c_3
  let main_v12 : IVec S_ 1 := andi main_v5 main_v11
  main_v12
-- ==== Kernel.lean ====
abbrev S2x5x384x256 : Shape := ⟨4, ![2, 5, 384, 256]⟩
abbrev S2x5x384 : Shape := ⟨3, ![2, 5, 384]⟩
abbrev S4x5x384x256 : Shape := ⟨4, ![4, 5, 384, 256]⟩
abbrev S4x5x384 : Shape := ⟨3, ![4, 5, 384]⟩
abbrev S20480x256 : Shape := ⟨2, ![20480, 256]⟩
abbrev S20480 : Shape := ⟨1, ![20480]⟩
abbrev S3840x256 : Shape := ⟨2, ![3840, 256]⟩
abbrev S7680x256 : Shape := ⟨2, ![7680, 256]⟩
abbrev S3840x1 : Shape := ⟨2, ![3840, 1]⟩
abbrev S3840x128 : Shape := ⟨2, ![3840, 128]⟩
abbrev S7680x1 : Shape := ⟨2, ![7680, 1]⟩
abbrev S7680x128 : Shape := ⟨2, ![7680, 128]⟩
abbrev S1x20480 : Shape := ⟨2, ![1, 20480]⟩
abbrev S30x1x128 : Shape := ⟨3, ![30, 1, 128]⟩
abbrev S256x128 : Shape := ⟨2, ![256, 128]⟩
abbrev S256x256 : Shape := ⟨2, ![256, 256]⟩
abbrev S512x256 : Shape := ⟨2, ![512, 256]⟩
abbrev S256x512 : Shape := ⟨2, ![256, 512]⟩
abbrev S32x128 : Shape := ⟨2, ![32, 128]⟩
abbrev S1x128 : Shape := ⟨2, ![1, 128]⟩
abbrev S32x512 : Shape := ⟨2, ![32, 512]⟩
abbrev S128x128 : Shape := ⟨2, ![128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256 : Shape := ⟨1, ![256]⟩
abbrev S256x1 : Shape := ⟨2, ![256, 1]⟩
abbrev S60x1x128 : Shape := ⟨3, ![60, 1, 128]⟩
abbrev S2x4 : Shape := ⟨2, ![2, 4]⟩
abbrev S2x4x5x384 : Shape := ⟨4, ![2, 4, 5, 384]⟩
abbrev S128x256 : Shape := ⟨2, ![128, 256]⟩
abbrev S1x1x1x128 : Shape := ⟨4, ![1, 1, 1, 128]⟩
abbrev S1x1 : Shape := ⟨2, ![1, 1]⟩

abbrev nBuf : Space → Nat
  | .hbm => 20
  | .vmem => 27
  | .smem => 0
  | _ => 0

abbrev bufTy : (tb : Table) → Fin (tcTables nBuf tb) → BufTy
  | .hbm, ⟨0, _⟩ => ⟨S2x5x384x256, .fp8e4m3⟩
  | .hbm, ⟨1, _⟩ => ⟨S2x5x384, .f32⟩
  | .hbm, ⟨2, _⟩ => ⟨S4x5x384x256, .fp8e4m3⟩
  | .hbm, ⟨3, _⟩ => ⟨S4x5x384, .f32⟩
  | .hbm, ⟨4, _⟩ => ⟨S20480x256, .fp8e4m3⟩
  | .hbm, ⟨5, _⟩ => ⟨S20480, .f32⟩
  | .hbm, ⟨6, _⟩ => ⟨S20480, .f32⟩
  | .hbm, ⟨7, _⟩ => ⟨S3840x256, .fp8e4m3⟩
  | .hbm, ⟨8, _⟩ => ⟨S7680x256, .fp8e4m3⟩
  | .hbm, ⟨9, _⟩ => ⟨S3840x1, .f32⟩
  | .hbm, ⟨10, _⟩ => ⟨S3840x128, .f32⟩
  | .hbm, ⟨11, _⟩ => ⟨S7680x1, .f32⟩
  | .hbm, ⟨12, _⟩ => ⟨S7680x128, .f32⟩
  | .hbm, ⟨13, _⟩ => ⟨S1x20480, .f32⟩
  | .hbm, ⟨14, _⟩ => ⟨S1x20480, .f32⟩
  | .hbm, ⟨15, _⟩ => ⟨S30x1x128, .f32⟩
  | .hbm, ⟨16, _⟩ => ⟨S3840x256, .f32⟩
  | .hbm, ⟨17, _⟩ => ⟨S60x1x128, .f32⟩
  | .hbm, ⟨18, _⟩ => ⟨S2x4, .f32⟩
  | .hbm, ⟨19, _⟩ => ⟨S2x4x5x384, .f32⟩
  | .local _ .vmem, ⟨0, _⟩ => ⟨S3840x256, .fp8e4m3⟩
  | .local _ .vmem, ⟨1, _⟩ => ⟨S3840x128, .f32⟩
  | .local _ .vmem, ⟨2, _⟩ => ⟨S20480x256, .fp8e4m3⟩
  | .local _ .vmem, ⟨3, _⟩ => ⟨S1x20480, .f32⟩
  | .local _ .vmem, ⟨4, _⟩ => ⟨S1x20480, .f32⟩
  | .local _ .vmem, ⟨5, _⟩ => ⟨S30x1x128, .f32⟩
  | .local _ .vmem, ⟨6, _⟩ => ⟨S3840x256, .f32⟩
  | .local _ .vmem, ⟨7, _⟩ => ⟨S256x128, .f32⟩
  | .local _ .vmem, ⟨8, _⟩ => ⟨S256x128, .f32⟩
  | .local _ .vmem, ⟨9, _⟩ => ⟨S1x20480, .f32⟩
  | .local _ .vmem, ⟨10, _⟩ => ⟨S1x20480, .f32⟩
  | .local _ .vmem, ⟨11, _⟩ => ⟨S7680x256, .fp8e4m3⟩
  | .local _ .vmem, ⟨12, _⟩ => ⟨S7680x128, .f32⟩
  | .local _ .vmem, ⟨13, _⟩ => ⟨S20480x256, .fp8e4m3⟩
  | .local _ .vmem, ⟨14, _⟩ => ⟨S1x20480, .f32⟩
  | .local _ .vmem, ⟨15, _⟩ => ⟨S1x20480, .f32⟩
  | .local _ .vmem, ⟨16, _⟩ => ⟨S60x1x128, .f32⟩
  | .local _ .vmem, ⟨17, _⟩ => ⟨S256x128, .f32⟩
  | .local _ .vmem, ⟨18, _⟩ => ⟨S256x128, .f32⟩
  | .local _ .vmem, ⟨19, _⟩ => ⟨S1x20480, .f32⟩
  | .local _ .vmem, ⟨20, _⟩ => ⟨S3840x256, .f32⟩
  | .local _ .vmem, ⟨21, _⟩ => ⟨S30x1x128, .f32⟩
  | .local _ .vmem, ⟨22, _⟩ => ⟨S60x1x128, .f32⟩
  | .local _ .vmem, ⟨23, _⟩ => ⟨S7680x256, .fp8e4m3⟩
  | .local _ .vmem, ⟨24, _⟩ => ⟨S7680x128, .f32⟩
  | .local _ .vmem, ⟨25, _⟩ => ⟨S2x4, .f32⟩
  | .local _ .vmem, ⟨26, _⟩ => ⟨S2x4x5x384, .f32⟩
  | _, _ => ⟨S2x5x384x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c15_i32 : BitVec 32 := 15#32
  let v14 : BitVec 32 := Scalar.addi c0_i32 c15_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  v15
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v21 : Index := Scalar.indexCast v16
  let c0_12 : Index := 0#32
  ![v21.toNat, 0]
def k0_off2 (k0_t1 : Fin k0_t1_loop.trips) (c0_i32_16 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26 : BitVec 32 := Scalar.addi v16 c0_i32_16
  let v27 : Index := Scalar.indexCast v26
  let c0_17 : Index := 0#32
  ![v27.toNat, 0]
def k0_off3 (k0_t1 : Fin k0_t1_loop.trips) (c0_i32_11043 : BitVec 32) : Fin 3 → Nat :=
  let c0_i32 : BitVec 32 := 0#32
  let c1_i32 : BitVec 32 := 1#32
  let arg11 : BitVec 32 := Scf.iv c0_i32 c1_i32 k0_t1
  let c2_i32 : BitVec 32 := 2#32
  let v26786 : BitVec 32 := Scalar.muli arg11 c2_i32
  let v26787 : BitVec 32 := Scalar.addi v26786 c0_i32_11043
  let v26788 : Index := Scalar.indexCast v26787
  let c0_11044 : Index := 0#32
  let c0_11045 : Index := 0#32
  ![v26788.toNat, 0, 0]
@[reducible] def k0_t2_loop : Scf.Loop 32 :=
  let c0_i32_11070 : BitVec 32 := 0#32
  let c40_i32 : BitVec 32 := 40#32
  let v26834 : BitVec 32 := Scalar.addi c0_i32_11070 c40_i32
  let c1_i32_11071 : BitVec 32 := 1#32
  ⟨c0_i32_11070, v26834, c1_i32_11071⟩
def k0_mult2 (k0_t2 : Fin k0_t2_loop.trips) : BitVec 32 :=
  let c0_i32_11070 : BitVec 32 := 0#32
  let c1_i32_11071 : BitVec 32 := 1#32
  let arg12 : BitVec 32 := Scf.iv c0_i32_11070 c1_i32_11071 k0_t2
  let c512_i32 : BitVec 32 := 512#32
  let v26867 : BitVec 32 := Scalar.muli arg12 c512_i32
  v26867
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26869 : Index := Scalar.indexCast v16
  let c0_11098 : Index := 0#32
  ![v26869.toNat, 0]
def k0_off5 (k0_t2 : Fin k0_t2_loop.trips) : Fin 2 → Nat :=
  let c0_i32_11070 : BitVec 32 := 0#32
  let c1_i32_11071 : BitVec 32 := 1#32
  let arg12 : BitVec 32 := Scf.iv c0_i32_11070 c1_i32_11071 k0_t2
  let c512_i32 : BitVec 32 := 512#32
  let v26867 : BitVec 32 := Scalar.muli arg12 c512_i32
  let v26868 : BitVec 32 := v26867
  let v26872 : Index := Scalar.indexCast v26868
  let c0_11099 : Index := 0#32
  ![v26872.toNat, 0]
def k0_off6 (k0_t1 : Fin k0_t1_loop.trips) (c0_i32_11101 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26875 : BitVec 32 := Scalar.addi v16 c0_i32_11101
  let v26876 : Index := Scalar.indexCast v26875
  let c0_11102 : Index := 0#32
  ![v26876.toNat, 0]
def k0_off7 (k0_t2 : Fin k0_t2_loop.trips) (c0_i32_11103 : BitVec 32) : Fin 2 → Nat :=
  let c0_11104 : Index := 0#32
  let c0_i32_11070 : BitVec 32 := 0#32
  let c1_i32_11071 : BitVec 32 := 1#32
  let arg12 : BitVec 32 := Scf.iv c0_i32_11070 c1_i32_11071 k0_t2
  let c512_i32 : BitVec 32 := 512#32
  let v26867 : BitVec 32 := Scalar.muli arg12 c512_i32
  let v26868 : BitVec 32 := v26867
  let v26881 : BitVec 32 := Scalar.addi v26868 c0_i32_11103
  let v26882 : Index := Scalar.indexCast v26881
  ![0, v26882.toNat]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26844 : Index := Scalar.indexCast v16
  let c0_11079 : Index := 0#32
  ![v26844.toNat, 0]
@[reducible] def k0_t3_loop : Scf.Loop 32 :=
  let c0_i32_11080 : BitVec 32 := 0#32
  let c40_i32_11081 : BitVec 32 := 40#32
  let v26846 : BitVec 32 := Scalar.addi c0_i32_11080 c40_i32_11081
  let c1_i32_11082 : BitVec 32 := 1#32
  ⟨c0_i32_11080, v26846, c1_i32_11082⟩
def k0_mult3 (k0_t3 : Fin k0_t3_loop.trips) : BitVec 32 :=
  let c0_i32_11080 : BitVec 32 := 0#32
  let c1_i32_11082 : BitVec 32 := 1#32
  let arg12 : BitVec 32 := Scf.iv c0_i32_11080 c1_i32_11082 k0_t3
  let c512_i32 : BitVec 32 := 512#32
  let v26867 : BitVec 32 := Scalar.muli arg12 c512_i32
  v26867
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26869 : Index := Scalar.indexCast v16
  let c0_11098 : Index := 0#32
  ![v26869.toNat, 0]
def k0_off10 (k0_t3 : Fin k0_t3_loop.trips) : Fin 2 → Nat :=
  let c0_i32_11080 : BitVec 32 := 0#32
  let c1_i32_11082 : BitVec 32 := 1#32
  let arg12 : BitVec 32 := Scf.iv c0_i32_11080 c1_i32_11082 k0_t3
  let c512_i32 : BitVec 32 := 512#32
  let v26867 : BitVec 32 := Scalar.muli arg12 c512_i32
  let v26868 : BitVec 32 := v26867
  let v26872 : Index := Scalar.indexCast v26868
  let c0_11099 : Index := 0#32
  ![v26872.toNat, 0]
def k0_off11 (k0_t1 : Fin k0_t1_loop.trips) (c0_i32_11101 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v15 : BitVec 32 := Scalar.muli arg11 c256_i32
  let v16 : BitVec 32 := v15
  let v26875 : BitVec 32 := Scalar.addi v16 c0_i32_11101
  let v26876 : Index := Scalar.indexCast v26875
  let c0_11102 : Index := 0#32
  ![v26876.toNat, 0]
def k0_off12 (k0_t3 : Fin k0_t3_loop.trips) (c0_i32_11103 : BitVec 32) : Fin 2 → Nat :=
  let c0_11104 : Index := 0#32
  let c0_i32_11080 : BitVec 32 := 0#32
  let c1_i32_11082 : BitVec 32 := 1#32
  let arg12 : BitVec 32 := Scf.iv c0_i32_11080 c1_i32_11082 k0_t3
  let c512_i32 : BitVec 32 := 512#32
  let v26867 : BitVec 32 := Scalar.muli arg12 c512_i32
  let v26868 : BitVec 32 := v26867
  let v26881 : BitVec 32 := Scalar.addi v26868 c0_i32_11103
  let v26882 : Index := Scalar.indexCast v26881
  ![0, v26882.toNat]
def k0_off13 (k0_t1 : Fin k0_t1_loop.trips) (c0_i32_11088 : BitVec 32) : Fin 3 → Nat :=
  let c0_i32 : BitVec 32 := 0#32
  let c1_i32 : BitVec 32 := 1#32
  let arg11 : BitVec 32 := Scf.iv c0_i32 c1_i32 k0_t1
  let c2_i32_11087 : BitVec 32 := 2#32
  let v26851 : BitVec 32 := Scalar.muli arg11 c2_i32_11087
  let v26852 : BitVec 32 := Scalar.addi v26851 c0_i32_11088
  let v26853 : Index := Scalar.indexCast v26852
  let c0_11089 : Index := 0#32
  let c0_11090 : Index := 0#32
  ![v26853.toNat, 0, 0]
abbrev stage0_0 : Fin 1 → Memref sig .tc .vmem S3840x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c30_i32 : BitVec 32 := 30#32
  let v7 : BitVec 32 := Scalar.addi c0_i32 c30_i32
  let c1_i32 : BitVec 32 := 1#32
  ⟨c0_i32, v7, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  v8
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v14 : Index := Scalar.indexCast v9
  let c0_7 : Index := 0#32
  ![v14.toNat, 0]
def k1_off2 (k1_t1 : Fin k1_t1_loop.trips) (c0_i32_11 : BitVec 32) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v19 : BitVec 32 := Scalar.addi v9 c0_i32_11
  let v20 : Index := Scalar.indexCast v19
  let c0_12 : Index := 0#32
  ![v20.toNat, 0]
def k1_off3 (k1_t1 : Fin k1_t1_loop.trips) (c0_i32_4480 : BitVec 32) : Fin 3 → Nat :=
  let c0_i32 : BitVec 32 := 0#32
  let c1_i32 : BitVec 32 := 1#32
  let arg9 : BitVec 32 := Scf.iv c0_i32 c1_i32 k1_t1
  let c2_i32 : BitVec 32 := 2#32
  let v11743 : BitVec 32 := Scalar.muli arg9 c2_i32
  let v11744 : BitVec 32 := Scalar.addi v11743 c0_i32_4480
  let v11745 : Index := Scalar.indexCast v11744
  let c0_4481 : Index := 0#32
  let c0_4482 : Index := 0#32
  ![v11745.toNat, 0, 0]
@[reducible] def k1_t2_loop : Scf.Loop 32 :=
  let c0_i32_4509 : BitVec 32 := 0#32
  let c40_i32 : BitVec 32 := 40#32
  let v11796 : BitVec 32 := Scalar.addi c0_i32_4509 c40_i32
  let c1_i32_4510 : BitVec 32 := 1#32
  ⟨c0_i32_4509, v11796, c1_i32_4510⟩
def k1_mult2 (k1_t2 : Fin k1_t2_loop.trips) : BitVec 32 :=
  let c0_i32_4509 : BitVec 32 := 0#32
  let c1_i32_4510 : BitVec 32 := 1#32
  let arg10 : BitVec 32 := Scf.iv c0_i32_4509 c1_i32_4510 k1_t2
  let c512_i32 : BitVec 32 := 512#32
  let v11844 : BitVec 32 := Scalar.muli arg10 c512_i32
  v11844
def k1_off4 (k1_t1 : Fin k1_t1_loop.trips) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v11846 : Index := Scalar.indexCast v9
  let c0_4543 : Index := 0#32
  ![v11846.toNat, 0]
def k1_off5 (k1_t2 : Fin k1_t2_loop.trips) : Fin 2 → Nat :=
  let c0_i32_4509 : BitVec 32 := 0#32
  let c1_i32_4510 : BitVec 32 := 1#32
  let arg10 : BitVec 32 := Scf.iv c0_i32_4509 c1_i32_4510 k1_t2
  let c512_i32 : BitVec 32 := 512#32
  let v11844 : BitVec 32 := Scalar.muli arg10 c512_i32
  let v11845 : BitVec 32 := v11844
  let v11849 : Index := Scalar.indexCast v11845
  let c0_4544 : Index := 0#32
  ![v11849.toNat, 0]
def k1_off6 (k1_t1 : Fin k1_t1_loop.trips) (c0_i32_4546 : BitVec 32) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v11852 : BitVec 32 := Scalar.addi v9 c0_i32_4546
  let v11853 : Index := Scalar.indexCast v11852
  let c0_4547 : Index := 0#32
  ![v11853.toNat, 0]
def k1_off7 (k1_t2 : Fin k1_t2_loop.trips) (c0_i32_4548 : BitVec 32) : Fin 2 → Nat :=
  let c0_4549 : Index := 0#32
  let c0_i32_4509 : BitVec 32 := 0#32
  let c1_i32_4510 : BitVec 32 := 1#32
  let arg10 : BitVec 32 := Scf.iv c0_i32_4509 c1_i32_4510 k1_t2
  let c512_i32 : BitVec 32 := 512#32
  let v11844 : BitVec 32 := Scalar.muli arg10 c512_i32
  let v11845 : BitVec 32 := v11844
  let v11858 : BitVec 32 := Scalar.addi v11845 c0_i32_4548
  let v11859 : Index := Scalar.indexCast v11858
  ![0, v11859.toNat]
@[reducible] def k1_t3_loop : Scf.Loop 32 :=
  let c0_i32_4517 : BitVec 32 := 0#32
  let c40_i32_4518 : BitVec 32 := 40#32
  let v11805 : BitVec 32 := Scalar.addi c0_i32_4517 c40_i32_4518
  let c1_i32_4519 : BitVec 32 := 1#32
  ⟨c0_i32_4517, v11805, c1_i32_4519⟩
def k1_mult3 (k1_t3 : Fin k1_t3_loop.trips) : BitVec 32 :=
  let c0_i32_4517 : BitVec 32 := 0#32
  let c1_i32_4519 : BitVec 32 := 1#32
  let arg10 : BitVec 32 := Scf.iv c0_i32_4517 c1_i32_4519 k1_t3
  let c512_i32 : BitVec 32 := 512#32
  let v11844 : BitVec 32 := Scalar.muli arg10 c512_i32
  v11844
def k1_off8 (k1_t1 : Fin k1_t1_loop.trips) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v11846 : Index := Scalar.indexCast v9
  let c0_4543 : Index := 0#32
  ![v11846.toNat, 0]
def k1_off9 (k1_t3 : Fin k1_t3_loop.trips) : Fin 2 → Nat :=
  let c0_i32_4517 : BitVec 32 := 0#32
  let c1_i32_4519 : BitVec 32 := 1#32
  let arg10 : BitVec 32 := Scf.iv c0_i32_4517 c1_i32_4519 k1_t3
  let c512_i32 : BitVec 32 := 512#32
  let v11844 : BitVec 32 := Scalar.muli arg10 c512_i32
  let v11845 : BitVec 32 := v11844
  let v11849 : Index := Scalar.indexCast v11845
  let c0_4544 : Index := 0#32
  ![v11849.toNat, 0]
def k1_off10 (k1_t1 : Fin k1_t1_loop.trips) (c0_i32_4546 : BitVec 32) : Fin 2 → Nat :=
  let c0_i32 : BitVec 32 := 0#32
  let c1_i32 : BitVec 32 := 1#32
  let arg9 : BitVec 32 := Scf.iv c0_i32 c1_i32 k1_t1
  let c256_i32 : BitVec 32 := 256#32
  let v8 : BitVec 32 := Scalar.muli arg9 c256_i32
  let v9 : BitVec 32 := v8
  let v11852 : BitVec 32 := Scalar.addi v9 c0_i32_4546
  let v11853 : Index := Scalar.indexCast v11852
  let c0_4547 : Index := 0#32
  ![v11853.toNat, 0]
def k1_off11 (k1_t3 : Fin k1_t3_loop.trips) (c0_i32_4548 : BitVec 32) : Fin 2 → Nat :=
  let c0_4549 : Index := 0#32
  let c0_i32_4517 : BitVec 32 := 0#32
  let c1_i32_4519 : BitVec 32 := 1#32
  let arg10 : BitVec 32 := Scf.iv c0_i32_4517 c1_i32_4519 k1_t3
  let c512_i32 : BitVec 32 := 512#32
  let v11844 : BitVec 32 := Scalar.muli arg10 c512_i32
  let v11845 : BitVec 32 := v11844
  let v11858 : BitVec 32 := Scalar.addi v11845 c0_i32_4548
  let v11859 : Index := Scalar.indexCast v11858
  ![0, v11859.toNat]
def k1_off12 (k1_t1 : Fin k1_t1_loop.trips) (c0_i32_4529 : BitVec 32) : Fin 3 → Nat :=
  let c0_i32 : BitVec 32 := 0#32
  let c1_i32 : BitVec 32 := 1#32
  let arg9 : BitVec 32 := Scf.iv c0_i32 c1_i32 k1_t1
  let c2_i32_4528 : BitVec 32 := 2#32
  let v11819 : BitVec 32 := Scalar.muli arg9 c2_i32_4528
  let v11820 : BitVec 32 := Scalar.addi v11819 c0_i32_4529
  let v11821 : Index := Scalar.indexCast v11820
  let c0_4530 : Index := 0#32
  let c0_4531 : Index := 0#32
  ![v11821.toNat, 0, 0]
abbrev stage1_0 : Fin 1 → Memref sig .tc .vmem S7680x256 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S7680x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S20480x256 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x20480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x20480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S60x1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S3840x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S30x1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S60x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S7680x256 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S7680x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S2x4x5x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_student_temp" => some ((10 * (Real.log 2)⁻¹ : ℝ) : EReal)
  | "log2e_over_teacher_temp" => some ((25 * (Real.log 2)⁻¹ : ℝ) : EReal)
  | "temps" => some ((2 / 5 : ℝ) : EReal)
  | _ => none
-- ==== ReferenceIdeal.lean ====
abbrev S2x5x384x256 : Shape := ⟨4, ![2, 5, 384, 256]⟩
abbrev S2x5x384 : Shape := ⟨3, ![2, 5, 384]⟩
abbrev S4x5x384x256 : Shape := ⟨4, ![4, 5, 384, 256]⟩
abbrev S4x5x384 : Shape := ⟨3, ![4, 5, 384]⟩
abbrev S20480x256 : Shape := ⟨2, ![20480, 256]⟩
abbrev S20480 : Shape := ⟨1, ![20480]⟩
abbrev S3840x256 : Shape := ⟨2, ![3840, 256]⟩
abbrev S3840x1 : Shape := ⟨2, ![3840, 1]⟩
abbrev S7680x256 : Shape := ⟨2, ![7680, 256]⟩
abbrev S7680x1 : Shape := ⟨2, ![7680, 1]⟩
abbrev S1x20480 : Shape := ⟨2, ![1, 20480]⟩
abbrev S2x4 : Shape := ⟨2, ![2, 4]⟩
abbrev S2x4x5x384 : Shape := ⟨4, ![2, 4, 5, 384]⟩
abbrev S3840x20480 : Shape := ⟨2, ![3840, 20480]⟩
abbrev S3840 : Shape := ⟨1, ![3840]⟩
abbrev S7680x20480 : Shape := ⟨2, ![7680, 20480]⟩
abbrev S7680 : Shape := ⟨1, ![7680]⟩
abbrev S1920x1 : Shape := ⟨2, ![1920, 1]⟩
abbrev S5x384 : Shape := ⟨2, ![5, 384]⟩
abbrev S1x1x5x384 : Shape := ⟨4, ![1, 1, 5, 384]⟩
abbrev S1 : Shape := ⟨1, ![1]⟩
abbrev S1x1 : Shape := ⟨2, ![1, 1]⟩
abbrev S1920x256 : Shape := ⟨2, ![1920, 256]⟩
abbrev S1920 : Shape := ⟨1, ![1920]⟩

abbrev nBuf : Space → Nat
  | .hbm => 15
  | .vmem => 9
  | .smem => 0
  | _ => 0

abbrev bufTy : (tb : Table) → Fin (tcTables nBuf tb) → BufTy
  | .hbm, ⟨0, _⟩ => ⟨S2x5x384x256, .fp8e4m3⟩
  | .hbm, ⟨1, _⟩ => ⟨S2x5x384, .f32⟩
  | .hbm, ⟨2, _⟩ => ⟨S4x5x384x256, .fp8e4m3⟩
  | .hbm, ⟨3, _⟩ => ⟨S4x5x384, .f32⟩
  | .hbm, ⟨4, _⟩ => ⟨S20480x256, .fp8e4m3⟩
  | .hbm, ⟨5, _⟩ => ⟨S20480, .f32⟩
  | .hbm, ⟨6, _⟩ => ⟨S20480, .f32⟩
  | .hbm, ⟨7, _⟩ => ⟨S3840x256, .fp8e4m3⟩
  | .hbm, ⟨8, _⟩ => ⟨S3840x1, .f32⟩
  | .hbm, ⟨9, _⟩ => ⟨S7680x256, .fp8e4m3⟩
  | .hbm, ⟨10, _⟩ => ⟨S7680x1, .f32⟩
  | .hbm, ⟨11, _⟩ => ⟨S1x20480, .f32⟩
  | .hbm, ⟨12, _⟩ => ⟨S1x20480, .f32⟩
  | .hbm, ⟨13, _⟩ => ⟨S2x4, .f32⟩
  | .hbm, ⟨14, _⟩ => ⟨S2x4x5x384, .f32⟩
  | .local _ .vmem, ⟨0, _⟩ => ⟨S3840x256, .fp8e4m3⟩
  | .local _ .vmem, ⟨1, _⟩ => ⟨S3840x1, .f32⟩
  | .local _ .vmem, ⟨2, _⟩ => ⟨S7680x256, .fp8e4m3⟩
  | .local _ .vmem, ⟨3, _⟩ => ⟨S7680x1, .f32⟩
  | .local _ .vmem, ⟨4, _⟩ => ⟨S20480x256, .fp8e4m3⟩
  | .local _ .vmem, ⟨5, _⟩ => ⟨S1x20480, .f32⟩
  | .local _ .vmem, ⟨6, _⟩ => ⟨S1x20480, .f32⟩
  | .local _ .vmem, ⟨7, _⟩ => ⟨S2x4, .f32⟩
  | .local _ .vmem, ⟨8, _⟩ => ⟨S2x4x5x384, .f32⟩
  | _, _ => ⟨S2x5x384x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "student_temp" => some ((1 / 10 : ℝ) : EReal)
  | "teacher_temp" => some ((1 / 25 : ℝ) : EReal)
  | _ => none

abbrev grid0 : Pipeline.Grid := .none

abbrev stage0_0 : Fin 1 → Memref sig .tc .vmem S3840x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x5x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Blocks.lean ====
/-
  The student kernel's body written compactly: one 32-row block of an accumulate step, of a maximum step and of a
  shifted accumulate step; a step (one 256 × 512 tile of logits, eight blocks); the stores of a row block's results;
  a whole row block. The programs are over any memrefs, so that one text serves both printed kernels.
-/
module

public import Idealize.ShloMosaic.Lib.VecWindow
public import Idealize.ShloMosaic.Lib.Scf
public import Idealize.ShloMosaic.Lib.Tactic
public import Idealize.ShloMosaic.Lib.Ring

@[expose] public section

noncomputable section

namespace Cert.Student

open Idealize.ShloMosaic Idealize.ShloMosaic.TcCoe Idealize.SL.Sem

abbrev S7680x256 : Shape := ⟨2, ![7680, 256]⟩
abbrev S7680x128 : Shape := ⟨2, ![7680, 128]⟩
abbrev S20480x256 : Shape := ⟨2, ![20480, 256]⟩
abbrev S1x20480 : Shape := ⟨2, ![1, 20480]⟩
abbrev S60x1x128 : Shape := ⟨3, ![60, 1, 128]⟩
abbrev S1x1x128 : Shape := ⟨3, ![1, 1, 128]⟩
abbrev S1x1x1 : Shape := ⟨3, ![1, 1, 1]⟩
abbrev S256x128 : Shape := ⟨2, ![256, 128]⟩
abbrev S256x256 : Shape := ⟨2, ![256, 256]⟩
abbrev S512x256 : Shape := ⟨2, ![512, 256]⟩
abbrev S256x512 : Shape := ⟨2, ![256, 512]⟩
abbrev S256x1 : Shape := ⟨2, ![256, 1]⟩
abbrev S32x128 : Shape := ⟨2, ![32, 128]⟩
abbrev S1x128 : Shape := ⟨2, ![1, 128]⟩
abbrev S128x128 : Shape := ⟨2, ![128, 128]⟩
abbrev S128 : Shape := ⟨1, ![128]⟩
abbrev S256 : Shape := ⟨1, ![256]⟩
abbrev S1 : Shape := ⟨1, ![1]⟩

/-! ### Bounds -/

theorem inbA (b : Fin 8) : ∀ a, (![32 * b.val, 0] : Fin 2 → ℕ) a + S32x128.size a ≤ S256x128.size a := by
  have := b.isLt
  intro a; fin_cases a <;> simp [S32x128, S256x128]; omega
theorem inbH (h : Fin 2) : ∀ a, (![128 * h.val, 0] : Fin 2 → ℕ) a + S128x128.size a ≤ S256x128.size a := by
  have := h.isLt
  intro a; fin_cases a <;> simp [S128x128, S256x128]; omega
theorem inbV (j : Fin 40) : ∀ a, (![512 * j.val, 0] : Fin 2 → ℕ) a + S512x256.size a ≤ S20480x256.size a := by
  have := j.isLt
  intro a; fin_cases a <;> simp [S512x256, S20480x256]; omega
theorem inbW (j : Fin 40) (c : Fin 4) : ∀ a, (![0, 512 * j.val + 128 * c.val] : Fin 2 → ℕ) a + S1x128.size a ≤ S1x20480.size a := by
  have := j.isLt
  have := c.isLt
  intro a; fin_cases a <;> simp [S1x128, S1x20480]; omega
theorem slicesZ (b : Fin 8) (c : Fin 4) : S256x512.Slices ![32 * b.val, 128 * c.val] S32x128 := by
  revert b c; decide
theorem inbAll : ∀ a, (![0, 0] : Fin 2 → ℕ) a + S256x128.size a ≤ S256x128.size a := by decide
theorem inbWAll : ∀ a, (![0, 0] : Fin 2 → ℕ) a + S1x20480.size a ≤ S1x20480.size a := by decide
theorem pos_S32x128 : 0 < S32x128.numel := by decide
theorem pos_S1x128 : 0 < S1x128.numel := by decide
theorem pos_S256x128 : 0 < S256x128.numel := by decide
theorem pos_S128x128 : 0 < S128x128.numel := by decide
theorem pos_S256x256 : 0 < S256x256.numel := by decide
theorem pos_S512x256 : 0 < S512x256.numel := by decide
theorem pos_S1x1x128 : 0 < S1x1x128.numel := by decide
theorem pos_S1x20480 : 0 < S1x20480.numel := by decide
theorem cast_32 : S32x128.ShapeCasts S32x128 := by decide
theorem cast_256 : S256x128.ShapeCasts S256x128 := by decide
theorem cast_codes : S256x256.ShapeCasts S256x256 := by decide
theorem cast_w : S1x20480.ShapeCasts S1x20480 := by decide
theorem cast_128 : S128.ShapeCasts S1x128 := by decide
theorem cast_lane : S1x128.ShapeCasts S1x1x128 := by decide
theorem cast_one : S1.ShapeCasts S1x1x1 := by decide
theorem cast_col : S256.ShapeCasts S256x1 := by decide
theorem cast_col' : S256x1.ShapeCasts S256x1 := by decide
theorem bcast_w : S1x128.Broadcasts S32x128 := by decide
theorem bcast_col : S256x1.Broadcasts S256x128 := by decide
theorem transp : S128x128.Transposes [1, 0] S128x128 := by decide
theorem red_lane : S128x128.Reduces [0] S128 := by decide
theorem red_row : S256x128.Reduces [1] S256 := by decide
theorem red_all : S1x1x128.Reduces [1, 2] S1 := by decide
theorem slice_row : S128x128.Slices ![0, 0] S1x128 := by decide
theorem inpos_one : ∀ a, (![0, 0, 0] : Fin 3 → ℕ) a < S1x1x1.size a := by decide

/-- The product of a code tile and a prototype tile, both contracted over their second axis. -/
def dimsZ : DotDims S256x256 S512x256 S256x512 where
  lhsContracting := [1]
  rhsContracting := [1]
  lhsNonContracting := [0]
  rhsNonContracting := [0]
  lhsBatch := []
  rhsBatch := []
  wf := by decide

section Programs

variable {F : FTy → Type} [FloatOps F] {nD : ℕ} {τ : Topo} {sig : RefSig} {Λ : Labels}

/-- One 32 × 128 block of scaled logits: rows `32 b`, columns `128 c` of the tile, times the row scale, times the column weight. -/
def logit (z : FVec F S256x512 .f32) (rep : FVec F S32x128 .f32) (w : FVec F S1x128 .f32) (b : Fin 8) (c : Fin 4) : FVec F S32x128 .f32 :=
  mulf (mulf (extractStridedSlice S32x128 ![32 * b.val, 128 * c.val] z (slicesZ b c)) (shapeCast S32x128 rep cast_32)) (broadcastTo S32x128 w bcast_w)

/-- Load four column weights and hand on the four blocks of scaled logits. -/
def logits {α : Type} (rep : Memref sig .tc .vmem S7680x128 .f32) (ws : Memref sig .tc .vmem S1x20480 .f32)
    (z : FVec F S256x512 .f32) (b : Fin 8)
    (oR : Fin 2 → ℕ) (hR : ∀ a, oR a + S32x128.size a ≤ S7680x128.size a)
    (oW : Fin 4 → Fin 2 → ℕ) (hW : ∀ c, ∀ a, oW c a + S1x128.size a ≤ S1x20480.size a)
    (k : FVec F S32x128 .f32 → FVec F S32x128 .f32 → FVec F S32x128 .f32 → FVec F S32x128 .f32 → Prog (TpuEff nD τ sig (Elt F) Λ .tc) α) :
    Prog (TpuEff nD τ sig (Elt F) Λ .tc) α := do
  let r : Vec F S32x128 .f32 ← Prog.lift (.load rep (Rect.unit (s := S7680x128) oR S32x128.size hR).toLoadRect (View.loadsAt_vmem pos_S32x128))
  let w0 : Vec F S1x128 .f32 ← Prog.lift (.load ws (Rect.unit (s := S1x20480) (oW 0) S1x128.size (hW 0)).toLoadRect (View.loadsAt_vmem pos_S1x128))
  let w1 : Vec F S1x128 .f32 ← Prog.lift (.load ws (Rect.unit (s := S1x20480) (oW 1) S1x128.size (hW 1)).toLoadRect (View.loadsAt_vmem pos_S1x128))
  let w2 : Vec F S1x128 .f32 ← Prog.lift (.load ws (Rect.unit (s := S1x20480) (oW 2) S1x128.size (hW 2)).toLoadRect (View.loadsAt_vmem pos_S1x128))
  let w3 : Vec F S1x128 .f32 ← Prog.lift (.load ws (Rect.unit (s := S1x20480) (oW 3) S1x128.size (hW 3)).toLoadRect (View.loadsAt_vmem pos_S1x128))
  k (logit z r w0 b 0) (logit z r w1 b 1) (logit z r w2 b 2) (logit z r w3 b 3)

/-- Replace block `b` of an accumulator `A` by `f` of it. -/
def update (A : Memref sig .tc .vmem S256x128 .f32) (b : Fin 8) (f : FVec F S32x128 .f32 → FVec F S32x128 .f32) :
    Prog (TpuEff nD τ sig (Elt F) Λ .tc) PUnit := do
  let a : Vec F S32x128 .f32 ← Prog.lift (.load A (Rect.unit (s := S256x128) ![32 * b.val, 0] S32x128.size (inbA b)).toLoadRect (View.loadsAt_vmem pos_S32x128))
  let _ : Vec F S32x128 .f32 ← Prog.lift (.load A (Rect.unit (s := S256x128) ![32 * b.val, 0] S32x128.size (inbA b)).toLoadRect (View.loadsAt_vmem pos_S32x128))
  Prog.lift (.store A (Rect.unit (s := S256x128) ![32 * b.val, 0] S32x128.size (inbA b)) (shapeCast S32x128 (f a) cast_32) Finset.univ (View.stores_vmem_bits_univ pos_S32x128 rfl) (.inl rfl))

/-- The four blocks' powers of two, added in pairs and to the accumulator. -/
def addExp (y0 y1 y2 y3 a : FVec F S32x128 .f32) : FVec F S32x128 .f32 :=
  addf a (addf (addf (exp2 y0) (exp2 y1)) (addf (exp2 y2) (exp2 y3)))

/-- The four blocks' maximum in pairs, and with the accumulator. -/
def maxOf (y0 y1 y2 y3 a : FVec F S32x128 .f32) : FVec F S32x128 .f32 :=
  maximumf a (maximumf (maximumf y0 y1) (maximumf y2 y3))

/-- Block `b` of an accumulate step. -/
def accBlk (rep : Memref sig .tc .vmem S7680x128 .f32) (ws : Memref sig .tc .vmem S1x20480 .f32) (A : Memref sig .tc .vmem S256x128 .f32)
    (z : FVec F S256x512 .f32) (b : Fin 8)
    (oR : Fin 2 → ℕ) (hR : ∀ a, oR a + S32x128.size a ≤ S7680x128.size a)
    (oW : Fin 4 → Fin 2 → ℕ) (hW : ∀ c, ∀ a, oW c a + S1x128.size a ≤ S1x20480.size a) : Prog (TpuEff nD τ sig (Elt F) Λ .tc) PUnit :=
  logits rep ws z b oR hR oW hW fun y0 y1 y2 y3 => update A b (addExp y0 y1 y2 y3)

/-- Block `b` of a maximum step. -/
def maxBlk (rep : Memref sig .tc .vmem S7680x128 .f32) (ws : Memref sig .tc .vmem S1x20480 .f32) (A : Memref sig .tc .vmem S256x128 .f32)
    (z : FVec F S256x512 .f32) (b : Fin 8)
    (oR : Fin 2 → ℕ) (hR : ∀ a, oR a + S32x128.size a ≤ S7680x128.size a)
    (oW : Fin 4 → Fin 2 → ℕ) (hW : ∀ c, ∀ a, oW c a + S1x128.size a ≤ S1x20480.size a) : Prog (TpuEff nD τ sig (Elt F) Λ .tc) PUnit :=
  logits rep ws z b oR hR oW hW fun y0 y1 y2 y3 => update A b (maxOf y0 y1 y2 y3)

/-- Block `b` of an accumulate step shifted by the row maxima `B`. -/
def subBlk (rep : Memref sig .tc .vmem S7680x128 .f32) (ws : Memref sig .tc .vmem S1x20480 .f32) (A B : Memref sig .tc .vmem S256x128 .f32)
    (z : FVec F S256x512 .f32) (b : Fin 8)
    (oR : Fin 2 → ℕ) (hR : ∀ a, oR a + S32x128.size a ≤ S7680x128.size a)
    (oW : Fin 4 → Fin 2 → ℕ) (hW : ∀ c, ∀ a, oW c a + S1x128.size a ≤ S1x20480.size a) : Prog (TpuEff nD τ sig (Elt F) Λ .tc) PUnit :=
  logits rep ws z b oR hR oW hW fun y0 y1 y2 y3 => do
    let m0 : Vec F S32x128 .f32 ← Prog.lift (.load B (Rect.unit (s := S256x128) ![32 * b.val, 0] S32x128.size (inbA b)).toLoadRect (View.loadsAt_vmem pos_S32x128))
    let m1 : Vec F S32x128 .f32 ← Prog.lift (.load B (Rect.unit (s := S256x128) ![32 * b.val, 0] S32x128.size (inbA b)).toLoadRect (View.loadsAt_vmem pos_S32x128))
    let m2 : Vec F S32x128 .f32 ← Prog.lift (.load B (Rect.unit (s := S256x128) ![32 * b.val, 0] S32x128.size (inbA b)).toLoadRect (View.loadsAt_vmem pos_S32x128))
    let m3 : Vec F S32x128 .f32 ← Prog.lift (.load B (Rect.unit (s := S256x128) ![32 * b.val, 0] S32x128.size (inbA b)).toLoadRect (View.loadsAt_vmem pos_S32x128))
    update A b (addExp (subf y0 m0) (subf y1 m1) (subf y2 m2) (subf y3 m3))

/-- Eight blocks one after another. -/
def eight (f : Fin 8 → Prog (TpuEff nD τ sig (Elt F) Λ .tc) PUnit) : Prog (TpuEff nD τ sig (Elt F) Λ .tc) PUnit := do
  f 0; f 1; f 2; f 3; f 4; f 5; f 6; f 7

/-- One step: load the code tile and the prototype tile, multiply, go through the eight blocks. -/
def tile (codes : Memref sig .tc .vmem S7680x256 .fp8e4m3) (protos : Memref sig .tc .vmem S20480x256 .fp8e4m3)
    (oC : Fin 2 → ℕ) (hC : ∀ a, oC a + S256x256.size a ≤ S7680x256.size a)
    (oV : Fin 2 → ℕ) (hV : ∀ a, oV a + S512x256.size a ≤ S20480x256.size a)
    (f : FVec F S256x512 .f32 → Fin 8 → Prog (TpuEff nD τ sig (Elt F) Λ .tc) PUnit) : Prog (TpuEff nD τ sig (Elt F) Λ .tc) PUnit := do
  let x : Vec F S256x256 .fp8e4m3 ← Prog.lift (.load codes (Rect.unit (s := S7680x256) oC S256x256.size hC).toLoadRect (View.loadsAt_vmem pos_S256x256))
  let v : Vec F S512x256 .fp8e4m3 ← Prog.lift (.load protos (Rect.unit (s := S20480x256) oV S512x256.size hV).toLoadRect (View.loadsAt_vmem pos_S512x256))
  eight (f (matmul dimsZ none (shapeCast S256x256 x cast_codes : FVec F S256x256 .fp8e4m3) (v : FVec F S512x256 .fp8e4m3) (constant S256x512 .f32 0x00000000#32)))

/-- The steps `j, j + 1, …, 39`, then `K`. -/
def steps {α : Type} (f : Fin 40 → Prog (TpuEff nD τ sig (Elt F) Λ .tc) PUnit) (K : Prog (TpuEff nD τ sig (Elt F) Λ .tc) α) :
    (n j : ℕ) → n + j = 40 → Prog (TpuEff nD τ sig (Elt F) Λ .tc) α
  | 0, _, _ => K
  | n + 1, j, h => f ⟨j, by omega⟩ >>= fun _ => steps f K n (j + 1) (by omega)

/-- Set an accumulator to a constant. -/
def fill (A : Memref sig .tc .vmem S256x128 .f32) (x : BitVec 32) : Prog (TpuEff nD τ sig (Elt F) Λ .tc) PUnit := do
  let _ : Vec F S256x128 .f32 ← Prog.lift (.load A (Rect.unit (s := S256x128) ![0, 0] S256x128.size inbAll).toLoadRect (View.loadsAt_vmem pos_S256x128))
  Prog.lift (.store A (Rect.unit (s := S256x128) ![0, 0] S256x128.size inbAll) (shapeCast S256x128 (broadcast S256x128 (Scalar.ofBits .f32 x : F .f32) : FVec F S256x128 .f32) cast_256) Finset.univ (View.stores_vmem_bits_univ pos_S256x128 rfl) (.inl rfl))

/-- The row sums of one half of the accumulator, laid along the lanes. -/
def rowSum (s : FVec F S128x128 .f32) : FVec F S1x128 .f32 :=
  shapeCast S1x128 (multiReduction .add [0] S128 (transpose S128x128 [1, 0] s transp) 0x00000000#32 red_lane (.inl rfl) rfl) cast_128

/-- `1` where a row sum is outside the two bounds, `0` elsewhere. -/
def badOf (s : FVec F S1x128 .f32) : FVec F S1x128 .f32 :=
  select (andi (cmpf .oge s (broadcast S1x128 (Scalar.ofBits .f32 0x21800000#32 : F .f32))) (cmpf .ole s (broadcast S1x128 (Scalar.ofBits .f32 0x76800000#32 : F .f32))))
    (broadcast S1x128 (Scalar.ofBits .f32 0x00000000#32 : F .f32)) (broadcast S1x128 (Scalar.ofBits .f32 0x3F800000#32 : F .f32))

/-- The total over the lanes. -/
def badSum (b : FVec F S1x128 .f32) : F .f32 :=
  extractAt ![0, 0, 0] (shapeCast S1x1x1 (multiReduction .add [1, 2] S1 (shapeCast S1x1x128 b cast_lane) 0x00000000#32 red_all (.inl rfl) rfl) cast_one) inpos_one

/-- Store one row of results. -/
def storeRow (O : Memref sig .tc .vmem S60x1x128 .f32) (oO : Fin 3 → ℕ) (hO : ∀ a, oO a + S1x1x128.size a ≤ S60x1x128.size a)
    (x : FVec F S1x128 .f32) : Prog (TpuEff nD τ sig (Elt F) Λ .tc) PUnit := do
  let _ : Vec F S1x1x128 .f32 ← Prog.lift (.load O (Rect.unit (s := S60x1x128) oO S1x1x128.size hO).toLoadRect (View.loadsAt_vmem pos_S1x1x128))
  Prog.lift (.store O (Rect.unit (s := S60x1x128) oO S1x1x128.size hO) (shapeCast S1x1x128 x cast_lane) Finset.univ (View.stores_vmem_bits_univ pos_S1x1x128 rfl) (.inl rfl))

/-- Load one half of an accumulator. -/
def half (A : Memref sig .tc .vmem S256x128 .f32) (h : Fin 2) : Prog (TpuEff nD τ sig (Elt F) Λ .tc) (FVec F S128x128 .f32) :=
  (.op (.load A (Rect.unit (s := S256x128) ![128 * h.val, 0] S128x128.size (inbH h)).toLoadRect (View.loadsAt_vmem pos_S128x128)) fun x : Vec F S128x128 .f32 => .ret x)

/-- The logarithm of the sums in base two, then in base `e`. -/
def plain (cE cL : F .f32) (s : FVec F S1x128 .f32) : FVec F S1x128 .f32 :=
  mulf (mulf (log s) (broadcast S1x128 cE)) (broadcast S1x128 cL)

/-- The logarithm in base two of shifted sums, the row maxima added back. -/
def shiftedLog (cE : F .f32) (s : FVec F S1x128 .f32) (m : FVec F S128x128 .f32) : FVec F S1x128 .f32 :=
  addf (mulf (log s) (broadcast S1x128 cE)) (extractStridedSlice S1x128 ![0, 0] (transpose S128x128 [1, 0] m transp) slice_row)

/-- The same in base `e`. -/
def shifted (cE cL : F .f32) (s : FVec F S1x128 .f32) (m : FVec F S128x128 .f32) : FVec F S1x128 .f32 :=
  mulf (shiftedLog cE s m) (broadcast S1x128 cL)

/-- The row maxima over the lanes, in every lane. -/
def spread (m : FVec F S256x128 .f32) : FVec F S256x128 .f32 :=
  broadcastTo S256x128 (shapeCast S256x1 (shapeCast S256x1 (multiReduction .maximumf [1] S256 m 0xFF800000#32 red_row (.inl rfl) rfl) cast_col) cast_col') bcast_col

/-- Replace the lane maxima by the row maxima. -/
def spreadMax (B : Memref sig .tc .vmem S256x128 .f32) : Prog (TpuEff nD τ sig (Elt F) Λ .tc) PUnit := do
  let m : Vec F S256x128 .f32 ← Prog.lift (.load B (Rect.unit (s := S256x128) ![0, 0] S256x128.size inbAll).toLoadRect (View.loadsAt_vmem pos_S256x128))
  let _ : Vec F S256x128 .f32 ← Prog.lift (.load B (Rect.unit (s := S256x128) ![0, 0] S256x128.size inbAll).toLoadRect (View.loadsAt_vmem pos_S256x128))
  Prog.lift (.store B (Rect.unit (s := S256x128) ![0, 0] S256x128.size inbAll) (shapeCast S256x128 (spread m) cast_256) Finset.univ (View.stores_vmem_bits_univ pos_S256x128 rfl) (.inl rfl))

/-- One row block: the forty accumulate steps, the two rows of results, and — `resc`, when a sum is out of bounds — the second pass. -/
def rowBlock (A : Memref sig .tc .vmem S256x128 .f32) (O : Memref sig .tc .vmem S60x1x128 .f32)
    (f : Fin 40 → Prog (TpuEff nD τ sig (Elt F) Λ .tc) PUnit) (cE cL : F .f32)
    (oO : Fin 2 → Fin 3 → ℕ) (hO : ∀ h, ∀ a, oO h a + S1x1x128.size a ≤ S60x1x128.size a)
    (resc : Prog (TpuEff nD τ sig (Elt F) Λ .tc) PUnit) : Prog (TpuEff nD τ sig (Elt F) Λ .tc) PUnit := do
  fill A 0x00000000#32
  steps f (do
    let s0 ← half A 0
    storeRow O (oO 0) (hO 0) (plain cE cL (rowSum s0))
    let s1 ← half A 1
    storeRow O (oO 1) (hO 1) (plain cE cL (rowSum s1))
    if Scalar.cmpi .ne (Scalar.extui (Scalar.cmpf .ogt (badSum (addf (badOf (rowSum s0)) (badOf (rowSum s1)))) (Scalar.ofBits .f32 0x00000000#32 : F .f32)) : BitVec 32) 0#32 = 1#1
      then resc else pure ⟨⟩) 40 0 rfl

/-- The second pass up to the first half's results: the row maxima, the shifted sums. -/
def rescuePass (A B : Memref sig .tc .vmem S256x128 .f32)
    (L2 L3 : Scf.Loop 32) (h2 : L2.OK) (h3 : L3.OK)
    (f2 : Fin L2.trips → Prog (TpuEff nD τ sig (Elt F) Λ .tc) PUnit) (f3 : Fin L3.trips → Prog (TpuEff nD τ sig (Elt F) Λ .tc) PUnit)
    (cE cL : F .f32) : Prog (TpuEff nD τ sig (Elt F) Λ .tc) (Σ' (_ : FVec F S1x128 .f32), F .f32) := do
  fill A 0x00000000#32
  fill B 0xFF800000#32
  Scf.Loop.for L2 h2 ⟨⟩ fun k _ => do f2 k; pure ⟨⟩
  spreadMax B
  Scf.Loop.for L3 h3 ⟨⟩ fun k _ => do f3 k; pure ⟨⟩
  let s0 ← half A 0
  let m0 ← half B 0
  pure ⟨shiftedLog cE (rowSum s0) m0, cL⟩

/-- The second pass: the row maxima, the shifted sums, the two rows of results again. -/
def rescue (A B : Memref sig .tc .vmem S256x128 .f32) (O : Memref sig .tc .vmem S60x1x128 .f32)
    (L2 L3 : Scf.Loop 32) (h2 : L2.OK) (h3 : L3.OK)
    (f2 : Fin L2.trips → Prog (TpuEff nD τ sig (Elt F) Λ .tc) PUnit) (f3 : Fin L3.trips → Prog (TpuEff nD τ sig (Elt F) Λ .tc) PUnit)
    (cE cL : F .f32) (oO : Fin 2 → Fin 3 → ℕ) (hO : ∀ h, ∀ a, oO h a + S1x1x128.size a ≤ S60x1x128.size a) : Prog (TpuEff nD τ sig (Elt F) Λ .tc) PUnit := do
  let p ← rescuePass A B L2 L3 h2 h3 f2 f3 cE cL
  storeRow O (oO 0) (hO 0) (mulf p.1 (broadcast S1x128 p.2))
  let s1 ← half A 1
  let m1 ← half B 1
  storeRow O (oO 1) (hO 1) (shifted cE cL (rowSum s1) m1)
  pure ⟨⟩

/-- The column weights times the constant, written once. -/
def scaleW (w ws : Memref sig .tc .vmem S1x20480 .f32) (cT : F .f32) : Prog (TpuEff nD τ sig (Elt F) Λ .tc) PUnit := do
  let x : Vec F S1x20480 .f32 ← Prog.lift (.load w (Rect.unit (s := S1x20480) ![0, 0] S1x20480.size inbWAll).toLoadRect (View.loadsAt_vmem pos_S1x20480))
  let _ : Vec F S1x20480 .f32 ← Prog.lift (.load ws (Rect.unit (s := S1x20480) ![0, 0] S1x20480.size inbWAll).toLoadRect (View.loadsAt_vmem pos_S1x20480))
  Prog.lift (.store ws (Rect.unit (s := S1x20480) ![0, 0] S1x20480.size inbWAll)
    (shapeCast S1x20480 (mulf (shapeCast S1x20480 x cast_w : FVec F S1x20480 .f32) (broadcast S1x20480 cT)) cast_w) Finset.univ (View.stores_vmem_bits_univ pos_S1x20480 rfl) (.inl rfl))

end Programs

end Cert.Student

end
-- ==== Proof.Run.lean ====
/-
  Runs by values. The kernel's nine buffers but the unread one hold plain vectors (`St`); a program takes such a state
  to another and returns a value (`Runs`). Loads, stores, sequences and counted loops of programs are then equations
  between states, with no assertion left in them.
-/
module

public import proofs.«01_k».proof.Proof.Blocks

@[expose] public section

noncomputable section

namespace Cert.Student

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules

variable {F : FTy → Type} [FloatOps F] {nD : ℕ} {τ : Topo} {sig : RefSig} {Λ : Labels} {U : Type} [URA U]

local notation "𝕄" => MT nD τ sig Unit (Elt F) ℕ U ℕ

/-- The program's contents of the kernel's buffers. -/
structure St (F : FTy → Type) where
  codes : Vec F S7680x256 .fp8e4m3
  rep : Vec F S7680x128 .f32
  protos : Vec F S20480x256 .fp8e4m3
  w : Vec F S1x20480 .f32
  out : Vec F S60x1x128 .f32
  A : Vec F S256x128 .f32
  B : Vec F S256x128 .f32
  ws : Vec F S1x20480 .f32

/-- The buffers. -/
structure Mem (sig : RefSig) where
  codes : Memref sig .tc .vmem S7680x256 .fp8e4m3
  rep : Memref sig .tc .vmem S7680x128 .f32
  protos : Memref sig .tc .vmem S20480x256 .fp8e4m3
  w : Memref sig .tc .vmem S1x20480 .f32
  out : Memref sig .tc .vmem S60x1x128 .f32
  A : Memref sig .tc .vmem S256x128 .f32
  B : Memref sig .tc .vmem S256x128 .f32
  ws : Memref sig .tc .vmem S1x20480 .f32

/-- Core `c` holds the buffers at the state. -/
def holds (c : Dev nD) (M : Mem sig) (s : St F) : sProp 𝕄 :=
  iprop(owns (c : Thread nD τ) M.codes fullShare s.codes ∗ owns (c : Thread nD τ) M.rep fullShare s.rep
    ∗ owns (c : Thread nD τ) M.protos fullShare s.protos ∗ owns (c : Thread nD τ) M.w fullShare s.w
    ∗ owns (c : Thread nD τ) M.out fullShare s.out ∗ owns (c : Thread nD τ) M.A fullShare s.A
    ∗ owns (c : Thread nD τ) M.B fullShare s.B ∗ owns (c : Thread nD τ) M.ws fullShare s.ws)

variable (defs : Defs nD τ sig (Elt F) Λ) (c : Dev nD) (M : Mem sig) (U)

/-- From state `s` the program runs to its return with value `a`, leaving state `s'`. -/
def Runs {α : Type} (p : Prog (TpuEff nD τ sig (Elt F) Λ .tc) α) (s s' : St F) (a : α) : Prop :=
  ∀ (E : Set ℕ) (Q : α → sProp 𝕄), iprop(holds (U := U) c M s ∗ (holds (U := U) c M s' -∗ Q a)) ⊢ wp frame (wpE defs Variants.none (c : Thread nD τ) none) E p Q

variable {defs c M U}

theorem Runs.ret {α : Type} {s : St F} (a : α) : Runs U defs c M (.ret a) s s a := fun E Q => by
  rw [wp_ret]
  iintro ⟨H, K⟩
  imodintro
  iapply K; iexact H

theorem Runs.bind {α β : Type} {p : Prog (TpuEff nD τ sig (Elt F) Λ .tc) α} {k : α → Prog (TpuEff nD τ sig (Elt F) Λ .tc) β} {s s1 s2 : St F} {a : α} {b : β}
    (h : Runs U defs c M p s s1 a) (h' : Runs U defs c M (k a) s1 s2 b) : Runs U defs c M (p >>= k) s s2 b := fun E Q => by
  rw [wp_bind]
  iintro ⟨H, K⟩
  iapply (h E _)
  isplitl [H]; · iexact H
  iintro H
  iapply (h' E Q)
  isplitl [H] <;> iassumption

/-- A load through a memref the state holds. -/
theorem load_step {e : EltTy} {sh : Shape} {m : Memref sig .tc .vmem sh e} {X : sh.Idx → Elt F e} {s : St F}
    (hs : (holds (U := U) (τ := τ) c M s : sProp 𝕄) ⊢ iprop(owns (c : Thread nD τ) m fullShare X ∗ (owns (c : Thread nD τ) m fullShare X -∗ holds (U := U) c M s)))
    {off size : Fin sh.rank → ℕ} (inb : ∀ a, off a + size a ≤ sh.size a) (hl : m.view.LoadsAt (Rect.unit off size inb).toLoadRect) :
    Runs U defs c M (.op (.load m (Rect.unit off size inb).toLoadRect hl) .ret) s s (VecWindow.window X off size inb) := fun E Q => by
  refine (sep_mono_left hs).trans ?_
  unfold owns
  iintro ⟨⟨⟨%f, %hf, H⟩, K⟩, HQ⟩
  iapply (wp_load Variants.none (c : Thread nD τ) none E (m := m) (S := m.view.set) (View.setOn_subset_set _ _)) $$ H
  iintro H
  rw [wp_ret]
  imodintro
  rw [View.readAt_unit m.view f inb rfl inb, hf]
  iapply HQ
  iapply K
  iexists f
  isplitr; · ipureintro; exact hf
  iexact H

/-- A store through a memref the state holds. -/
theorem store_step {e : EltTy} {sh : Shape} {m : Memref sig .tc .vmem sh e} {X : sh.Idx → Elt F e} {s s' : St F}
    {off size : Fin sh.rank → ℕ} (inb : ∀ a, off a + size a ≤ sh.size a) {w : (Rect.unit off size inb).shape.Idx → Elt F e}
    (hs : (holds (U := U) (τ := τ) c M s : sProp 𝕄) ⊢ iprop(owns (c : Thread nD τ) m fullShare X ∗ (owns (c : Thread nD τ) m fullShare (VecWindow.put X off size w) -∗ holds (U := U) c M s')))
    (hx : (m.access (Rect.unit off size inb)).Stores Finset.univ) (hm) :
    Runs U defs c M (.op (.store m (Rect.unit off size inb) w Finset.univ hx hm) .ret) s s' ⟨⟩ := fun E Q => by
  refine (sep_mono_left hs).trans ?_
  unfold owns
  iintro ⟨⟨⟨%f, %hf, H⟩, K⟩, HQ⟩
  iapply (wp_store Variants.none (c : Thread nD τ) none E (m := m) (r := Rect.unit off size inb) (S := (m.view.set : Finset (Idx (m.view.loc (c : Thread nD τ))))) (View.set_slice_subset m.view _)) $$ H
  iintro H
  rw [wp_ret]
  imodintro
  iapply HQ
  iapply K
  iexists _
  isplitr
  swap; · iexact H
  ipureintro
  have := View.read_writes_cons_put m.view f inb w [] rfl
  rw [View.writes_nil, hf] at this
  exact this

/-- A counted loop: the state before trip `k` is `T k`. -/
theorem Runs.loop {L : Scf.Loop 32} {h : L.OK} {f : Fin L.trips → PUnit → Prog (TpuEff nD τ sig (Elt F) Λ .tc) PUnit} {T : ℕ → St F}
    (hf : ∀ k : Fin L.trips, Runs U defs c M (f k ⟨⟩) (T k.val) (T (k.val + 1)) ⟨⟩) :
    Runs U defs c M (Scf.Loop.for L h ⟨⟩ f) (T 0) (T L.trips) ⟨⟩ := fun E Q => by
  have hb : ∀ (k : Fin L.trips) (acc : PUnit), (holds (U := U) (τ := τ) c M (T k.val) : sProp 𝕄)
      ⊢ wp frame (wpE defs Variants.none (c : Thread nD τ) none) E (f k acc) (fun _ => holds (U := U) c M (T (k.val + 1))) := fun k acc => by
    iintro H
    iapply (hf k E (fun _ => holds (U := U) c M (T (k.val + 1))))
    isplitl [H]; · iexact H
    iintro H; iexact H
  iintro ⟨H, K⟩
  iapply (Scf.wp_for frame (wpE defs Variants.none (c : Thread nD τ) none) E L.lb L.ub L.st h ⟨⟩ f (fun k _ => holds (U := U) c M (T k)) hb)
  isplitl [H]; · iexact H
  iintro %acc H
  iapply K; iexact H

end Rules

end Cert.Student

end
-- ==== Proof.Steps.lean ====
/-
  What each piece of the student kernel's body does to the buffers' contents: the loads and stores, one block, the eight
  blocks of a step, the forty steps, the stores of a row of results. Everything is over any float instance.
-/
module

public import proofs.«01_k».proof.Proof.Run
public import Idealize.ShloMosaic.Lib.ValueIdx
public import Idealize.ShloMosaic.Lib.Pipeline.Value
public import Idealize.ShloMosaic.Lib.Pipeline.ValueKit

@[expose] public section

noncomputable section

namespace Cert.Student

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Steps

variable {F : FTy → Type} [FloatOps F] {nD : ℕ} {τ : Topo} {sig : RefSig} {Λ : Labels} {U : Type} [URA U]

local notation "𝕄" => MT nD τ sig Unit (Elt F) ℕ U ℕ

/-- The state with the two accumulators and the results replaced. -/
def St.at (s : St F) (A B : FVec F S256x128 .f32) (O : FVec F S60x1x128 .f32) : St F := { s with A := A, B := B, out := O }

variable {defs : Defs nD τ sig (Elt F) Λ} {c : Dev nD} {M : Mem sig} {s : St F} {A B : FVec F S256x128 .f32} {O : FVec F S60x1x128 .f32}

/-! ### One buffer taken out of the state and put back -/

theorem split_codes (s : St F) : (holds (U := U) (τ := τ) c M s : sProp 𝕄) ⊢ iprop(owns (c : Thread nD τ) M.codes fullShare s.codes ∗ (owns (c : Thread nD τ) M.codes fullShare s.codes -∗ holds (U := U) c M s)) := by
  unfold holds
  iintro ⟨H0, H1, H2, H3, H4, H5, H6, H7⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_rep (s : St F) : (holds (U := U) (τ := τ) c M s : sProp 𝕄) ⊢ iprop(owns (c : Thread nD τ) M.rep fullShare s.rep ∗ (owns (c : Thread nD τ) M.rep fullShare s.rep -∗ holds (U := U) c M s)) := by
  unfold holds
  iintro ⟨H0, H1, H2, H3, H4, H5, H6, H7⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_protos (s : St F) : (holds (U := U) (τ := τ) c M s : sProp 𝕄) ⊢ iprop(owns (c : Thread nD τ) M.protos fullShare s.protos ∗ (owns (c : Thread nD τ) M.protos fullShare s.protos -∗ holds (U := U) c M s)) := by
  unfold holds
  iintro ⟨H0, H1, H2, H3, H4, H5, H6, H7⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_w (s : St F) : (holds (U := U) (τ := τ) c M s : sProp 𝕄) ⊢ iprop(owns (c : Thread nD τ) M.w fullShare s.w ∗ (owns (c : Thread nD τ) M.w fullShare s.w -∗ holds (U := U) c M s)) := by
  unfold holds
  iintro ⟨H0, H1, H2, H3, H4, H5, H6, H7⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_out (s : St F) (X : FVec F S60x1x128 .f32) : (holds (U := U) (τ := τ) c M s : sProp 𝕄) ⊢ iprop(owns (c : Thread nD τ) M.out fullShare s.out ∗ (owns (c : Thread nD τ) M.out fullShare X -∗ holds (U := U) c M { s with out := X })) := by
  unfold holds
  iintro ⟨H0, H1, H2, H3, H4, H5, H6, H7⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_A (s : St F) (X : FVec F S256x128 .f32) : (holds (U := U) (τ := τ) c M s : sProp 𝕄) ⊢ iprop(owns (c : Thread nD τ) M.A fullShare s.A ∗ (owns (c : Thread nD τ) M.A fullShare X -∗ holds (U := U) c M { s with A := X })) := by
  unfold holds
  iintro ⟨H0, H1, H2, H3, H4, H5, H6, H7⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_B (s : St F) (X : FVec F S256x128 .f32) : (holds (U := U) (τ := τ) c M s : sProp 𝕄) ⊢ iprop(owns (c : Thread nD τ) M.B fullShare s.B ∗ (owns (c : Thread nD τ) M.B fullShare X -∗ holds (U := U) c M { s with B := X })) := by
  unfold holds
  iintro ⟨H0, H1, H2, H3, H4, H5, H6, H7⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6] <;> iassumption

theorem split_ws (s : St F) (X : FVec F S1x20480 .f32) : (holds (U := U) (τ := τ) c M s : sProp 𝕄) ⊢ iprop(owns (c : Thread nD τ) M.ws fullShare s.ws ∗ (owns (c : Thread nD τ) M.ws fullShare X -∗ holds (U := U) c M { s with ws := X })) := by
  unfold holds
  iintro ⟨H0, H1, H2, H3, H4, H5, H6, H7⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6] <;> iassumption

/-! ### Windows at a coordinate -/

theorem emb2 {n0 n1 m0 m1 : ℕ} {o0 o1 : ℕ} (inb) (y : (⟨2, ![m0, m1]⟩ : Shape).Idx) (i : Fin n0) (j : Fin n1) (hi : o0 + (y 0).val = i.val) (hj : o1 + (y 1).val = j.val) :
    (Rect.unit (s := (⟨2, ![n0, n1]⟩ : Shape)) ![o0, o1] ![m0, m1] inb).emb y = ValueIdx.ix2 i j := by
  funext a
  match a with
  | ⟨0, _⟩ => exact Fin.ext (by show o0 + 1 * (y 0).val = i.val; omega)
  | ⟨1, _⟩ => exact Fin.ext (by show o1 + 1 * (y 1).val = j.val; omega)

theorem window_all (X : FVec F S256x128 .f32) (inb) : VecWindow.window X ![0, 0] S256x128.size inb = X := by
  funext y
  unfold VecWindow.window
  rw [emb2 (n0 := 256) (n1 := 128) inb y (y 0) (y 1) (by omega) (by omega)]
  exact congrArg X (ValueIdx.eq_ix2 (n0 := 256) (n1 := 128) y).symm

theorem put_all (X : FVec F S256x128 .f32) (w : S256x128.Idx → F .f32) : VecWindow.put X ![0, 0] S256x128.size w = w := by
  funext y
  have h : ∀ a, (![0, 0] : Fin 2 → ℕ) a ≤ (y a).val ∧ (y a).val < (![0, 0] : Fin 2 → ℕ) a + S256x128.size a := fun a => by
    match a with
    | ⟨0, _⟩ => exact ⟨Nat.zero_le _, by show (y 0).val < 0 + 256; have := ValueIdx.idx2_lt0 (n0 := 256) (n1 := 128) y; omega⟩
    | ⟨1, _⟩ => exact ⟨Nat.zero_le _, by show (y 1).val < 0 + 128; have := ValueIdx.idx2_lt1 (n0 := 256) (n1 := 128) y; omega⟩
  refine (dif_pos h).trans (congrArg w (funext fun a => Fin.ext ?_))
  rw [Rect.unitLocal_val]
  match a with
  | ⟨0, _⟩ => rfl
  | ⟨1, _⟩ => rfl

theorem window_wall (X : FVec F S1x20480 .f32) (inb) : VecWindow.window X ![0, 0] S1x20480.size inb = X := by
  funext y
  unfold VecWindow.window
  rw [emb2 (n0 := 1) (n1 := 20480) inb y (y 0) (y 1) (by omega) (by omega)]
  exact congrArg X (ValueIdx.eq_ix2 (n0 := 1) (n1 := 20480) y).symm

theorem put_wall (X : FVec F S1x20480 .f32) (w : S1x20480.Idx → F .f32) : VecWindow.put X ![0, 0] S1x20480.size w = w := by
  funext y
  have h : ∀ a, (![0, 0] : Fin 2 → ℕ) a ≤ (y a).val ∧ (y a).val < (![0, 0] : Fin 2 → ℕ) a + S1x20480.size a := fun a => by
    match a with
    | ⟨0, _⟩ => exact ⟨Nat.zero_le _, by show (y 0).val < 0 + 1; have := ValueIdx.idx2_lt0 (n0 := 1) (n1 := 20480) y; omega⟩
    | ⟨1, _⟩ => exact ⟨Nat.zero_le _, by show (y 1).val < 0 + 20480; have := ValueIdx.idx2_lt1 (n0 := 1) (n1 := 20480) y; omega⟩
  refine (dif_pos h).trans (congrArg w (funext fun a => Fin.ext ?_))
  rw [Rect.unitLocal_val]
  match a with
  | ⟨0, _⟩ => rfl
  | ⟨1, _⟩ => rfl

/-- Block `b`'s element `y` as an element of the whole accumulator. -/
def blkIdx (b : Fin 8) (y : S32x128.Idx) : S256x128.Idx := (Rect.unit (s := S256x128) ![32 * b.val, 0] S32x128.size (inbA b)).emb y

theorem blkIdx0 (b : Fin 8) (y : S32x128.Idx) : (blkIdx b y 0).val = 32 * b.val + (y 0).val := by
  show 32 * b.val + 1 * (y 0).val = _; omega
theorem blkIdx1 (b : Fin 8) (y : S32x128.Idx) : (blkIdx b y 1).val = (y 1).val := by
  show 0 + 1 * (y 1).val = _; omega

/-- The accumulator with the rows of its first `k` blocks replaced by `n`. -/
def mix (n : S256x128.Idx → F .f32 → F .f32) (X : FVec F S256x128 .f32) (k : ℕ) : FVec F S256x128 .f32 :=
  fun y => if (y 0).val < 32 * k then n y (X y) else X y

theorem put_mix (n : S256x128.Idx → F .f32 → F .f32) (X : FVec F S256x128 .f32) (b : Fin 8) :
    VecWindow.put (mix n X b.val) ![32 * b.val, 0] S32x128.size (fun y : S32x128.Idx => n (blkIdx b y) (mix n X b.val (blkIdx b y))) = mix n X (b.val + 1) := by
  funext y
  unfold VecWindow.put
  have h1 := ValueIdx.idx2_lt1 (n0 := 256) (n1 := 128) y
  split
  · next h =>
    have h0 := h 0
    have hy : blkIdx b (Rect.unitLocal (s := S256x128) (off := ![32 * b.val, 0]) (size := S32x128.size) y h) = y := by
      funext a
      match a with
      | ⟨0, _⟩ => exact Fin.ext (by rw [show (⟨0, by decide⟩ : Fin 2) = 0 from rfl, blkIdx0, Rect.unitLocal_val]; show 32 * b.val + ((y 0).val - 32 * b.val) = _; have : 32 * b.val ≤ (y 0).val := h0.1; omega)
      | ⟨1, _⟩ => exact Fin.ext (by rw [show (⟨1, by decide⟩ : Fin 2) = 1 from rfl, blkIdx1, Rect.unitLocal_val]; rfl)
    beta_reduce
    rw [hy]
    have g0 : 32 * b.val ≤ (y 0).val := h0.1
    have g1 : (y 0).val < 32 * b.val + 32 := h0.2
    unfold mix
    rw [if_neg (by omega), if_pos (by omega)]
  · next h =>
    have h' : ¬ (32 * b.val ≤ (y 0).val ∧ (y 0).val < 32 * b.val + 32) := fun hh => h fun a => by
      match a with
      | ⟨0, _⟩ => exact hh
      | ⟨1, _⟩ => exact ⟨Nat.zero_le _, by show (y 1).val < 0 + 128; omega⟩
    unfold mix
    by_cases g : (y 0).val < 32 * b.val
    · rw [if_pos g, if_pos (by omega)]
    · rw [if_neg g, if_neg (by omega)]

theorem mix_zero (n : S256x128.Idx → F .f32 → F .f32) (X : FVec F S256x128 .f32) : mix n X 0 = X := funext fun y => if_neg (by omega)
theorem mix_eight (n : S256x128.Idx → F .f32 → F .f32) (X : FVec F S256x128 .f32) : mix n X 8 = fun y => n y (X y) :=
  funext fun y => if_pos (by have := ValueIdx.idx2_lt0 (n0 := 256) (n1 := 128) y; omega)

/-! ### Blocks -/

/-- Four column weights and the row scales loaded, the four blocks of scaled logits handed on. -/
theorem logits_run {α : Type} {z : FVec F S256x512 .f32} {b : Fin 8} {oR hR oW hW} {k} {s' : St F} {a : α}
    (h : Runs U defs c M (k (logit z (VecWindow.window s.rep oR S32x128.size hR) (VecWindow.window s.ws (oW 0) S1x128.size (hW 0)) b 0)
      (logit z (VecWindow.window s.rep oR S32x128.size hR) (VecWindow.window s.ws (oW 1) S1x128.size (hW 1)) b 1)
      (logit z (VecWindow.window s.rep oR S32x128.size hR) (VecWindow.window s.ws (oW 2) S1x128.size (hW 2)) b 2)
      (logit z (VecWindow.window s.rep oR S32x128.size hR) (VecWindow.window s.ws (oW 3) S1x128.size (hW 3)) b 3)) s s' a) :
    Runs U defs c M (logits M.rep M.ws z b oR hR oW hW k) s s' a := by
  unfold logits
  refine Runs.bind (load_step (split_rep s) _ _) ?_
  refine Runs.bind (load_step (split_ws s s.ws) _ _) ?_
  refine Runs.bind (load_step (split_ws s s.ws) _ _) ?_
  refine Runs.bind (load_step (split_ws s s.ws) _ _) ?_
  refine Runs.bind (load_step (split_ws s s.ws) _ _) ?_
  exact h

/-- An accumulator's place in the state: `upd X` is the state where it holds `X`. -/
def Place (U : Type) [URA U] {F : FTy → Type} [FloatOps F] {nD : ℕ} (τ : Topo) {sig : RefSig} (c : Dev nD) (M : Mem sig)
    (m : Memref sig .tc .vmem S256x128 .f32) (upd : FVec F S256x128 .f32 → St F) : Prop :=
  ∀ X X' : FVec F S256x128 .f32, (holds (U := U) (τ := τ) c M (upd X) : sProp (MT nD τ sig Unit (Elt F) ℕ U ℕ)) ⊢ iprop(owns (c : Thread nD τ) m fullShare X ∗ (owns (c : Thread nD τ) m fullShare X' -∗ holds (U := U) c M (upd X')))

theorem placeA : Place U τ c M M.A (fun X => s.at X B O) := fun X X' => split_A (s.at X B O) X'
theorem placeB : Place U τ c M M.B (fun X => s.at A X O) := fun X X' => split_B (s.at A X O) X'

theorem update_run {m : Memref sig .tc .vmem S256x128 .f32} {upd : FVec F S256x128 .f32 → St F} (hp : Place U τ c M m upd)
    {b : Fin 8} {f : FVec F S32x128 .f32 → FVec F S32x128 .f32} (X : FVec F S256x128 .f32) (n : S256x128.Idx → F .f32 → F .f32)
    (hn : ∀ y, f (VecWindow.window X ![32 * b.val, 0] S32x128.size (inbA b)) y = n (blkIdx b y) (X (blkIdx b y))) :
    Runs U defs c M (update m b f) (upd X) (upd (VecWindow.put X ![32 * b.val, 0] S32x128.size (fun y : S32x128.Idx => n (blkIdx b y) (X (blkIdx b y))))) ⟨⟩ := by
  unfold update
  refine Runs.bind (load_step (hp X X) _ _) ?_
  refine Runs.bind (load_step (hp X X) _ _) ?_
  rw [shapeCast_self, show f (VecWindow.window X ![32 * b.val, 0] S32x128.size (inbA b)) = (fun y : S32x128.Idx => n (blkIdx b y) (X (blkIdx b y))) from funext hn]
  exact store_step _ (hp X _) _ _

theorem eight_run {f : Fin 8 → Prog (TpuEff nD τ sig (Elt F) Λ .tc) PUnit} {upd : FVec F S256x128 .f32 → St F} (n : S256x128.Idx → F .f32 → F .f32)
    (hf : ∀ b X, Runs U defs c M (f b) (upd X) (upd (VecWindow.put X ![32 * b.val, 0] S32x128.size (fun y : S32x128.Idx => n (blkIdx b y) (X (blkIdx b y))))) ⟨⟩)
    (X : FVec F S256x128 .f32) : Runs U defs c M (eight f) (upd X) (upd fun y => n y (X y)) ⟨⟩ := by
  have hb : ∀ b : Fin 8, Runs U defs c M (f b) (upd (mix n X b.val)) (upd (mix n X (b.val + 1))) ⟨⟩ := fun b => by
    have := hf b (mix n X b.val)
    rwa [put_mix] at this
  rw [← mix_eight, ← mix_zero n X]
  rw [mix_zero n X]
  have h0 := hb 0
  rw [show mix n X (0 : Fin 8).val = X from mix_zero n X] at h0
  unfold eight
  exact Runs.bind h0 (Runs.bind (hb 1) (Runs.bind (hb 2) (Runs.bind (hb 3) (Runs.bind (hb 4) (Runs.bind (hb 5) (Runs.bind (hb 6) (hb 7)))))))

/-! ### Steps -/

/-- The product tile of row block `i` and step `j`. -/
def prod (C : FVec F S7680x256 .fp8e4m3) (V : FVec F S20480x256 .fp8e4m3) (i : Fin 30) (j : Fin 40) : FVec F S256x512 .f32 :=
  matmul dimsZ none (VecWindow.window C ![256 * i.val, 0] S256x256.size (by intro a; have := i.isLt; fin_cases a <;> simp [S256x256, S7680x256]; omega) : FVec F S256x256 .fp8e4m3)
    (VecWindow.window V ![512 * j.val, 0] S512x256.size (inbV j) : FVec F S512x256 .fp8e4m3) (constant S256x512 .f32 0x00000000#32)

/-- The scaled logit in row `y 0` of row block `i` and column `128 c + y 1` of step `j`. -/
def lg (s : St F) (i : Fin 30) (j : Fin 40) (c : Fin 4) (y : S256x128.Idx) : F .f32 :=
  FloatOps.mulf (FloatOps.mulf (prod s.codes s.protos i j (ValueIdx.ix2 (n0 := 256) (n1 := 512) (y 0) ⟨128 * c.val + (y 1).val, by have := c.isLt; have := ValueIdx.idx2_lt1 (n0 := 256) (n1 := 128) y; omega⟩))
      (s.rep (ValueIdx.ix2 (n0 := 7680) (n1 := 128) ⟨256 * i.val + (y 0).val, by have := i.isLt; have := ValueIdx.idx2_lt0 (n0 := 256) (n1 := 128) y; omega⟩ (y 1))))
    (s.ws (ValueIdx.ix2 (n0 := 1) (n1 := 20480) 0 ⟨512 * j.val + 128 * c.val + (y 1).val, by have := j.isLt; have := c.isLt; have := ValueIdx.idx2_lt1 (n0 := 256) (n1 := 128) y; omega⟩))

/-- The block of scaled logits of the loaded row scales and column weights. -/
abbrev lgW (s : St F) (i : Fin 30) (j : Fin 40) {oR : Fin 2 → ℕ} (hR : ∀ a, oR a + S32x128.size a ≤ S7680x128.size a) {oW : Fin 2 → ℕ} (hW : ∀ a, oW a + S1x128.size a ≤ S1x20480.size a)
    (b : Fin 8) (c : Fin 4) (y : S32x128.Idx) : F .f32 :=
  logit (prod s.codes s.protos i j) (VecWindow.window s.rep oR S32x128.size hR) (VecWindow.window s.ws oW S1x128.size hW) b c y

theorem logit_eq (s : St F) (i : Fin 30) (j : Fin 40) (c : Fin 4) (b : Fin 8) {oR : Fin 2 → ℕ} {hR : ∀ a, oR a + S32x128.size a ≤ S7680x128.size a} {oW : Fin 2 → ℕ} {hW : ∀ a, oW a + S1x128.size a ≤ S1x20480.size a}
    (eR : oR = ![256 * i.val + 32 * b.val, 0]) (eW : oW = ![0, 512 * j.val + 128 * c.val]) (y : S32x128.Idx) :
    lgW s i j hR hW b c y = lg s i j c (blkIdx b y) := by
  subst eR eW
  have h1 := ValueIdx.idx2_lt1 (n0 := 32) (n1 := 128) y
  have h0 := ValueIdx.idx2_lt0 (n0 := 32) (n1 := 128) y
  have b0 := blkIdx0 b y
  have b1 := blkIdx1 b y
  unfold lgW logit lg
  rw [shapeCast_self]
  show FloatOps.mulf (FloatOps.mulf _ _) _ = _
  congr 1
  · congr 1
    · exact extractStridedSlice_apply _ _ _ _ _ fun a => by
        match a with
        | ⟨0, _⟩ => exact b0
        | ⟨1, _⟩ => show 128 * c.val + (blkIdx b y 1).val = 128 * c.val + (y 1).val; omega
    · unfold VecWindow.window
      exact congrArg s.rep (emb2 (n0 := 7680) (n1 := 128) hR y _ _ (by show _ = 256 * i.val + (blkIdx b y 0).val; omega) (by rw [b1]; omega))
  · refine (broadcastTo_apply _ _ y (ValueIdx.ix2 (n0 := 1) (n1 := 128) 0 (y 1)) fun a => by
      match a with
      | ⟨0, _⟩ => rfl
      | ⟨1, _⟩ => rfl).trans ?_
    unfold VecWindow.window
    exact congrArg s.ws (emb2 (n0 := 1) (n1 := 20480) hW _ _ _ rfl (by show 512 * j.val + 128 * c.val + (y 1).val = 512 * j.val + 128 * c.val + (blkIdx b y 1).val; omega))

/-- What an accumulate step, a maximum step and a shifted accumulate step make of an accumulator's element. -/
def accN (s : St F) (i : Fin 30) (j : Fin 40) (y : S256x128.Idx) (a : F .f32) : F .f32 :=
  FloatOps.addf a (FloatOps.addf (FloatOps.addf (FloatOps.exp2 (lg s i j 0 y)) (FloatOps.exp2 (lg s i j 1 y))) (FloatOps.addf (FloatOps.exp2 (lg s i j 2 y)) (FloatOps.exp2 (lg s i j 3 y))))
def maxN (s : St F) (i : Fin 30) (j : Fin 40) (y : S256x128.Idx) (a : F .f32) : F .f32 :=
  FloatOps.maximumf a (FloatOps.maximumf (FloatOps.maximumf (lg s i j 0 y) (lg s i j 1 y)) (FloatOps.maximumf (lg s i j 2 y) (lg s i j 3 y)))
def subN (s : St F) (m : FVec F S256x128 .f32) (i : Fin 30) (j : Fin 40) (y : S256x128.Idx) (a : F .f32) : F .f32 :=
  FloatOps.addf a (FloatOps.addf (FloatOps.addf (FloatOps.exp2 (FloatOps.subf (lg s i j 0 y) (m y))) (FloatOps.exp2 (FloatOps.subf (lg s i j 1 y) (m y))))
    (FloatOps.addf (FloatOps.exp2 (FloatOps.subf (lg s i j 2 y) (m y))) (FloatOps.exp2 (FloatOps.subf (lg s i j 3 y) (m y)))))

/-- The steps' code and prototype tiles. -/
theorem tile_run {i : Fin 30} {j : Fin 40} {oC hC oV hV} {f : FVec F S256x512 .f32 → Fin 8 → Prog (TpuEff nD τ sig (Elt F) Λ .tc) PUnit} {s' : St F}
    (eC : oC = ![256 * i.val, 0]) (eV : oV = ![512 * j.val, 0])
    (h : Runs U defs c M (eight (f (prod s.codes s.protos i j))) s s' ⟨⟩) : Runs U defs c M (tile M.codes M.protos oC hC oV hV f) s s' ⟨⟩ := by
  subst eC eV
  unfold tile
  refine Runs.bind (load_step (split_codes s) _ _) ?_
  refine Runs.bind (load_step (split_protos s) _ _) ?_
  rw [shapeCast_self]
  exact h

section Step

variable {i : Fin 30} {j : Fin 40} {oC : Fin 2 → ℕ} {hC} {oV : Fin 2 → ℕ} {hV} {oR : Fin 8 → Fin 2 → ℕ} {hR : ∀ b a, oR b a + S32x128.size a ≤ S7680x128.size a}
  {oW : Fin 4 → Fin 2 → ℕ} {hW : ∀ c a, oW c a + S1x128.size a ≤ S1x20480.size a}

theorem accStep (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (tile M.codes M.protos oC hC oV hV fun z b => accBlk M.rep M.ws M.A z b (oR b) (hR b) oW hW)
      (s.at X B O) (s.at (fun y => accN s i j y (X y)) B O) ⟨⟩ := by
  refine tile_run (i := i) (j := j) eC eV (eight_run (upd := fun X => s.at X B O) (accN s i j) (fun b X => ?_) X)
  refine logits_run (update_run placeA X (accN s i j) fun y => ?_)
  show FloatOps.addf _ (FloatOps.addf (FloatOps.addf (FloatOps.exp2 (lgW s i j (hR b) (hW 0) b 0 y)) (FloatOps.exp2 (lgW s i j (hR b) (hW 1) b 1 y))) (FloatOps.addf (FloatOps.exp2 (lgW s i j (hR b) (hW 2) b 2 y)) (FloatOps.exp2 (lgW s i j (hR b) (hW 3) b 3 y)))) = _
  rw [logit_eq s i j 0 b (eR b) (eW 0), logit_eq s i j 1 b (eR b) (eW 1), logit_eq s i j 2 b (eR b) (eW 2), logit_eq s i j 3 b (eR b) (eW 3)]
  rfl

theorem maxStep (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (tile M.codes M.protos oC hC oV hV fun z b => maxBlk M.rep M.ws M.B z b (oR b) (hR b) oW hW)
      (s.at A X O) (s.at A (fun y => maxN s i j y (X y)) O) ⟨⟩ := by
  refine tile_run (i := i) (j := j) eC eV (eight_run (upd := fun X => s.at A X O) (maxN s i j) (fun b X => ?_) X)
  refine logits_run (update_run placeB X (maxN s i j) fun y => ?_)
  show FloatOps.maximumf _ (FloatOps.maximumf (FloatOps.maximumf (lgW s i j (hR b) (hW 0) b 0 y) (lgW s i j (hR b) (hW 1) b 1 y)) (FloatOps.maximumf (lgW s i j (hR b) (hW 2) b 2 y) (lgW s i j (hR b) (hW 3) b 3 y))) = _
  rw [logit_eq s i j 0 b (eR b) (eW 0), logit_eq s i j 1 b (eR b) (eW 1), logit_eq s i j 2 b (eR b) (eW 2), logit_eq s i j 3 b (eR b) (eW 3)]
  rfl

theorem subStep (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (tile M.codes M.protos oC hC oV hV fun z b => subBlk M.rep M.ws M.A M.B z b (oR b) (hR b) oW hW)
      (s.at X B O) (s.at (fun y => subN s B i j y (X y)) B O) ⟨⟩ := by
  refine tile_run (i := i) (j := j) eC eV (eight_run (upd := fun X => s.at X B O) (subN s B i j) (fun b X => ?_) X)
  refine logits_run ?_
  refine Runs.bind (load_step (split_B _ B) _ _) ?_
  refine Runs.bind (load_step (split_B _ B) _ _) ?_
  refine Runs.bind (load_step (split_B _ B) _ _) ?_
  refine Runs.bind (load_step (split_B _ B) _ _) ?_
  refine update_run placeA X (subN s B i j) fun y => ?_
  show FloatOps.addf _ (FloatOps.addf (FloatOps.addf (FloatOps.exp2 (FloatOps.subf (lgW s i j (hR b) (hW 0) b 0 y) _)) (FloatOps.exp2 (FloatOps.subf (lgW s i j (hR b) (hW 1) b 1 y) _))) (FloatOps.addf (FloatOps.exp2 (FloatOps.subf (lgW s i j (hR b) (hW 2) b 2 y) _)) (FloatOps.exp2 (FloatOps.subf (lgW s i j (hR b) (hW 3) b 3 y) _)))) = _
  rw [logit_eq s i j 0 b (eR b) (eW 0), logit_eq s i j 1 b (eR b) (eW 1), logit_eq s i j 2 b (eR b) (eW 2), logit_eq s i j 3 b (eR b) (eW 3)]
  rfl

end Step

/-- The forty unrolled steps. -/
theorem steps_run {α : Type} {f : Fin 40 → Prog (TpuEff nD τ sig (Elt F) Λ .tc) PUnit} {K : Prog (TpuEff nD τ sig (Elt F) Λ .tc) α} {T : ℕ → St F} {s' : St F} {a : α}
    (hf : ∀ j : Fin 40, Runs U defs c M (f j) (T j.val) (T (j.val + 1)) ⟨⟩) (hK : Runs U defs c M K (T 40) s' a) :
    ∀ n j h, Runs U defs c M (steps f K n j h) (T j) s' a
  | 0, j, h => by obtain rfl : j = 40 := by omega
                  exact hK
  | n + 1, j, h => Runs.bind (hf ⟨j, by omega⟩) (steps_run hf hK n (j + 1) (by omega))

/-! ### Fills, halves and rows of results -/

theorem fill_run {m : Memref sig .tc .vmem S256x128 .f32} {upd : FVec F S256x128 .f32 → St F} (hp : Place U τ c M m upd) (x : BitVec 32) (X : FVec F S256x128 .f32) :
    Runs U defs c M (fill m x) (upd X) (upd fun _ => FloatOps.ofBits .f32 x) ⟨⟩ := by
  unfold fill
  refine Runs.bind (load_step (hp X X) _ _) ?_
  rw [shapeCast_self]
  have := store_step (defs := defs) (off := ![0, 0]) (size := S256x128.size) inbAll (hp X (VecWindow.put X ![0, 0] S256x128.size _)) (View.stores_vmem_bits_univ pos_S256x128 rfl) (.inl rfl)
    (w := (broadcast S256x128 (Scalar.ofBits .f32 x : F .f32) : FVec F S256x128 .f32))
  rw [put_all] at this
  exact this

theorem spreadMax_run (X : FVec F S256x128 .f32) : Runs U defs c M (spreadMax M.B) (s.at A X O) (s.at A (spread X) O) ⟨⟩ := by
  unfold spreadMax
  refine Runs.bind (load_step (placeB X X) _ _) ?_
  refine Runs.bind (load_step (placeB X X) _ _) ?_
  rw [shapeCast_self, window_all]
  have := store_step (U := U) (τ := τ) (c := c) (M := M) (defs := defs) (off := ![0, 0]) (size := S256x128.size) inbAll (placeB (s := s) (A := A) (O := O) X (VecWindow.put X ![0, 0] S256x128.size _)) (View.stores_vmem_bits_univ pos_S256x128 rfl) (.inl rfl)
    (w := spread X)
  rw [put_all] at this
  exact this

/-- Half `h` of an accumulator. -/
def halfOf (X : FVec F S256x128 .f32) (h : Fin 2) : FVec F S128x128 .f32 := VecWindow.window X ![128 * h.val, 0] S128x128.size (inbH h)

theorem half_run {m : Memref sig .tc .vmem S256x128 .f32} {upd : FVec F S256x128 .f32 → St F} (hp : Place U τ c M m upd) (h : Fin 2) (X : FVec F S256x128 .f32) :
    Runs U defs c M (half m h) (upd X) (upd X) (halfOf X h) := load_step (hp X X) _ _

/-- The results with row `k` replaced. -/
def setRow (O : FVec F S60x1x128 .f32) (k : ℕ) (x : FVec F S1x128 .f32) : FVec F S60x1x128 .f32 :=
  fun y => if (y 0).val = k then x (ValueIdx.ix2 (n0 := 1) (n1 := 128) 0 (y 2)) else O y

theorem put_row (O : FVec F S60x1x128 .f32) (k : ℕ) (x : FVec F S1x128 .f32) :
    VecWindow.put O ![k, 0, 0] S1x1x128.size (shapeCast S1x1x128 x cast_lane : S1x1x128.Idx → F .f32) = setRow O k x := by
  funext y
  unfold VecWindow.put setRow
  have h1 : (y 1).val < 1 := (y 1).isLt
  have h2 : (y 2).val < 128 := (y 2).isLt
  split
  · next h =>
    have h0 : k ≤ (y 0).val ∧ (y 0).val < k + 1 := h 0
    rw [if_pos (by omega)]
    refine shapeCast_apply _ _ _ _ ?_
    refine (Shape.rowMajor_val_two (d := ![1, 128]) _).trans (Eq.trans ?_ (Shape.rowMajor_val_three (d := ![1, 1, 128]) _).symm)
    show 0 * 128 + (y 2).val = (((y 0).val - k) * 1 + ((y 1).val - 0)) * 128 + ((y 2).val - 0)
    omega
  · next h =>
    refine (if_neg fun hk => h fun a => ?_).symm
    match a with
    | ⟨0, _⟩ => exact ⟨hk.ge, by show (y 0).val < k + 1; omega⟩
    | ⟨1, _⟩ => exact ⟨Nat.zero_le _, by show (y 1).val < 0 + 1; omega⟩
    | ⟨2, _⟩ => exact ⟨Nat.zero_le _, by show (y 2).val < 0 + 128; omega⟩

theorem storeRow_run {oO hO} {k : ℕ} (e : oO = ![k, 0, 0]) (x : FVec F S1x128 .f32) :
    Runs U defs c M (storeRow M.out oO hO x) (s.at A B O) (s.at A B (setRow O k x)) ⟨⟩ := by
  subst e
  unfold storeRow
  refine Runs.bind (load_step (split_out _ O) _ _) ?_
  rw [← put_row]
  exact store_step _ (split_out (s.at A B O) _) _ _

/-- The column weights times the constant. -/
theorem scaleW_run (cT : F .f32) : Runs U defs c M (scaleW M.w M.ws cT) s { s with ws := fun y => FloatOps.mulf (s.w y) cT } ⟨⟩ := by
  unfold scaleW
  refine Runs.bind (load_step (split_w s) _ _) ?_
  refine Runs.bind (load_step (split_ws s s.ws) _ _) ?_
  rw [shapeCast_self, shapeCast_self, window_wall]
  have := store_step (U := U) (τ := τ) (c := c) (M := M) (defs := defs) (off := ![0, 0]) (size := S1x20480.size) inbWAll (split_ws s (VecWindow.put s.ws ![0, 0] S1x20480.size _)) (View.stores_vmem_bits_univ pos_S1x20480 rfl) (.inl rfl)
    (w := (mulf s.w (broadcast S1x20480 cT) : FVec F S1x20480 .f32))
  rw [put_wall] at this
  exact this

end Steps

end Cert.Student

end
-- ==== Proof.Whole.lean ====
/-
  The whole body by values: a row block, its second pass, the thirty row blocks, and what the results then hold.
-/
module

public import proofs.«01_k».proof.Proof.Steps

@[expose] public section

noncomputable section

namespace Cert.Student

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Values

variable {F : FTy → Type} [FloatOps F]

/-- The accumulator after `j` accumulate steps. -/
def accAt (s : St F) (i : Fin 30) : ℕ → FVec F S256x128 .f32
  | 0 => fun _ => FloatOps.ofBits .f32 0x00000000#32
  | j + 1 => if h : j < 40 then fun y => accN s i ⟨j, h⟩ y (accAt s i j y) else accAt s i j

/-- The lane maxima after `j` maximum steps. -/
def maxAt (s : St F) (i : Fin 30) : ℕ → FVec F S256x128 .f32
  | 0 => fun _ => FloatOps.ofBits .f32 0xFF800000#32
  | j + 1 => if h : j < 40 then fun y => maxN s i ⟨j, h⟩ y (maxAt s i j y) else maxAt s i j

/-- The accumulator after `j` accumulate steps shifted by `m`. -/
def subAt (s : St F) (m : FVec F S256x128 .f32) (i : Fin 30) : ℕ → FVec F S256x128 .f32
  | 0 => fun _ => FloatOps.ofBits .f32 0x00000000#32
  | j + 1 => if h : j < 40 then fun y => subN s m i ⟨j, h⟩ y (subAt s m i j y) else subAt s m i j

/-- The row sums of half `h` of the accumulator. -/
def sumOf (X : FVec F S256x128 .f32) (h : Fin 2) : FVec F S1x128 .f32 := rowSum (halfOf X h)

/-- Some row sum of the accumulator is out of bounds. -/
def Bad (X : FVec F S256x128 .f32) : Prop :=
  Scalar.cmpi .ne (Scalar.extui (Scalar.cmpf .ogt (badSum (addf (badOf (sumOf X 0)) (badOf (sumOf X 1)))) (Scalar.ofBits .f32 0x00000000#32 : F .f32)) : BitVec 32) 0#32 = 1#1

instance (X : FVec F S256x128 .f32) : Decidable (Bad X) := by unfold Bad; infer_instance

/-- The row maxima of row block `i`, in every lane. -/
def rowMax (s : St F) (i : Fin 30) : FVec F S256x128 .f32 := spread (maxAt s i 40)

/-- The first pass's results of half `h`, and the second pass's. -/
def first (s : St F) (cE cL : F .f32) (i : Fin 30) (h : Fin 2) : FVec F S1x128 .f32 := plain cE cL (sumOf (accAt s i 40) h)
def second (s : St F) (cE cL : F .f32) (i : Fin 30) (h : Fin 2) : FVec F S1x128 .f32 :=
  shifted cE cL (sumOf (subAt s (rowMax s i) i 40) h) (halfOf (rowMax s i) h)

/-- The two rows of row block `i` replaced. -/
def setRows (O : FVec F S60x1x128 .f32) (i : Fin 30) (x : Fin 2 → FVec F S1x128 .f32) : FVec F S60x1x128 .f32 :=
  setRow (setRow O (2 * i.val + 0) (x 0)) (2 * i.val + 1) (x 1)

/-- The state a row block leaves of the state before it. -/
def trip (s : St F) (cE cL : F .f32) (i : Fin 30) (t : St F) : St F :=
  if Bad (accAt s i 40) then s.at (subAt s (rowMax s i) i 40) (rowMax s i) (setRows (setRows t.out i (first s cE cL i)) i (second s cE cL i))
  else s.at (accAt s i 40) t.B (setRows t.out i (first s cE cL i))

/-- The state before row block `k`, from state `t` before row block 0. -/
def trips (s : St F) (cE cL : F .f32) (t : St F) : ℕ → St F
  | 0 => t
  | k + 1 => if h : k < 30 then trip s cE cL ⟨k, h⟩ (trips s cE cL t k) else trips s cE cL t k

/-- Half `h` of row block `i` of the results. -/
def res (s : St F) (cE cL : F .f32) (i : Fin 30) (h : Fin 2) : FVec F S1x128 .f32 :=
  if Bad (accAt s i 40) then second s cE cL i h else first s cE cL i h

theorem trips_succ (s : St F) (cE cL : F .f32) (t : St F) (k : ℕ) (h : k < 30) : trips s cE cL t (k + 1) = trip s cE cL ⟨k, h⟩ (trips s cE cL t k) := dif_pos h

theorem at_eta (s : St F) (A B : FVec F S256x128 .f32) (O : FVec F S60x1x128 .f32) : s.at A B O = s.at (s.at A B O).A (s.at A B O).B (s.at A B O).out := rfl

theorem trip_at (s : St F) (cE cL : F .f32) (i : Fin 30) (t : St F) :
    trip s cE cL i t = s.at (trip s cE cL i t).A (trip s cE cL i t).B (trip s cE cL i t).out := by
  by_cases hb : Bad (accAt s i 40)
  · rw [show trip s cE cL i t = _ from if_pos hb]; exact at_eta ..
  · rw [show trip s cE cL i t = _ from if_neg hb]; exact at_eta ..

theorem trips_at (s : St F) (cE cL : F .f32) (t : St F) (ht : t = s.at t.A t.B t.out) (k : ℕ) : trips s cE cL t k = s.at (trips s cE cL t k).A (trips s cE cL t k).B (trips s cE cL t k).out := by
  induction k with
  | zero => exact ht
  | succ k ih =>
    by_cases h : k < 30
    · rw [trips_succ s cE cL t k h]; exact trip_at ..
    · rw [show trips s cE cL t (k + 1) = trips s cE cL t k from dif_neg h]; exact ih

theorem setRows_setRows (O : FVec F S60x1x128 .f32) (i : Fin 30) (x x' : Fin 2 → FVec F S1x128 .f32) : setRows (setRows O i x) i x' = setRows O i x' := by
  funext y
  unfold setRows setRow
  dsimp only
  split_ifs <;> rfl

theorem trip_out (s : St F) (cE cL : F .f32) (i : Fin 30) (t : St F) : (trip s cE cL i t).out = setRows t.out i (res s cE cL i) := by
  unfold trip
  by_cases hb : Bad (accAt s i 40)
  · rw [if_pos hb, show res s cE cL i = second s cE cL i from funext fun h => if_pos hb]
    exact setRows_setRows _ _ _ _
  · rw [if_neg hb, show res s cE cL i = first s cE cL i from funext fun h => if_neg hb]
    rfl

/-- What all row blocks write: row `2 i + h` of the results. -/
def outAt (s : St F) (cE cL : F .f32) : FVec F S60x1x128 .f32 := fun y =>
  res s cE cL ⟨(y 0).val / 2, by have : (y 0).val < 60 := (y 0).isLt; omega⟩ ⟨(y 0).val % 2, Nat.mod_lt _ (by decide)⟩ (ValueIdx.ix2 (n0 := 1) (n1 := 128) 0 (y 2))

theorem res_congr (s : St F) (cE cL : F .f32) {i i' : Fin 30} {h h' : Fin 2} (z : S1x128.Idx) (hi : i.val = i'.val) (hh : h.val = h'.val) :
    res s cE cL i h z = res s cE cL i' h' z := by rw [Fin.ext hi, Fin.ext hh]

theorem trips_out (s : St F) (cE cL : F .f32) (t : St F) (k : ℕ) (hk : k ≤ 30) (y : S60x1x128.Idx) :
    (trips s cE cL t k).out y = if (y 0).val < 2 * k then outAt s cE cL y else t.out y := by
  induction k with
  | zero => rw [if_neg (by omega)]; rfl
  | succ k ih =>
    rw [show trips s cE cL t (k + 1) = trip s cE cL ⟨k, hk⟩ (trips s cE cL t k) from dif_pos hk, trip_out]
    unfold setRows setRow
    have ih := ih (by omega)
    by_cases h1 : (y 0).val = 2 * k + 1
    · rw [if_pos h1, if_pos (by omega)]
      unfold outAt
      exact res_congr s cE cL _ (by show k = (y 0).val / 2; omega) (by show 1 = (y 0).val % 2; omega)
    · rw [if_neg h1]
      dsimp only
      by_cases h0 : (y 0).val = 2 * k + 0
      · rw [if_pos h0, if_pos (by omega)]
        unfold outAt
        exact res_congr s cE cL _ (by show k = (y 0).val / 2; omega) (by show 0 = (y 0).val % 2; omega)
      · rw [if_neg h0, ih]
        by_cases h2 : (y 0).val < 2 * k
        · rw [if_pos h2, if_pos (by omega)]
        · rw [if_neg h2, if_neg (by omega)]

theorem trips_all (s : St F) (cE cL : F .f32) (t : St F) : (trips s cE cL t 30).out = outAt s cE cL := funext fun y => by
  rw [trips_out s cE cL t 30 le_rfl, if_pos (by have : (y 0).val < 60 := (y 0).isLt; omega)]

end Values

section Whole

variable {F : FTy → Type} [FloatOps F] {nD : ℕ} {τ : Topo} {sig : RefSig} {Λ : Labels} {U : Type} [URA U]
variable {defs : Defs nD τ sig (Elt F) Λ} {c : Dev nD} {M : Mem sig} {s : St F}

/-- The second pass. -/
theorem rescue_run {i : Fin 30} {L2 L3 : Scf.Loop 32} {h2 : L2.OK} {h3 : L3.OK} (t2 : L2.trips = 40) (t3 : L3.trips = 40)
    {f2 : Fin L2.trips → Prog (TpuEff nD τ sig (Elt F) Λ .tc) PUnit} {f3 : Fin L3.trips → Prog (TpuEff nD τ sig (Elt F) Λ .tc) PUnit}
    (hf2 : ∀ (k : Fin L2.trips) (j : Fin 40), k.val = j.val → ∀ A X O, Runs U defs c M (f2 k) (s.at A X O) (s.at A (fun y => maxN s i j y (X y)) O) ⟨⟩)
    (hf3 : ∀ (k : Fin L3.trips) (j : Fin 40), k.val = j.val → ∀ X B O, Runs U defs c M (f3 k) (s.at X B O) (s.at (fun y => subN s B i j y (X y)) B O) ⟨⟩)
    (cE cL : F .f32) {oO : Fin 2 → Fin 3 → ℕ} {hO} (e : ∀ h : Fin 2, oO h = ![2 * i.val + h.val, 0, 0]) (A B : FVec F S256x128 .f32) (O : FVec F S60x1x128 .f32) :
    Runs U defs c M (rescue M.A M.B M.out L2 L3 h2 h3 f2 f3 cE cL oO hO) (s.at A B O)
      (s.at (subAt s (rowMax s i) i 40) (rowMax s i) (setRows O i (second s cE cL i))) ⟨⟩ := by
  have hp : Runs U defs c M (rescuePass M.A M.B L2 L3 h2 h3 f2 f3 cE cL) (s.at A B O) (s.at (subAt s (rowMax s i) i 40) (rowMax s i) O)
      ⟨shiftedLog cE (sumOf (subAt s (rowMax s i) i 40) 0) (halfOf (rowMax s i) 0), cL⟩ := by
    unfold rescuePass
    refine Runs.bind (fill_run placeA _ A) ?_
    refine Runs.bind (fill_run placeB _ B) ?_
    refine Runs.bind (s1 := s.at (accAt s i 0) (maxAt s i L2.trips) O) (Runs.loop (T := fun j => s.at (accAt s i 0) (maxAt s i j) O) fun k => ?_) ?_
    · have hk : k.val < 40 := t2 ▸ k.isLt
      refine Runs.bind (a := PUnit.unit) ?_ (Runs.ret _)
      rw [show maxAt s i (k.val + 1) = fun y => maxN s i ⟨k.val, hk⟩ y (maxAt s i k.val y) from dif_pos hk]
      exact hf2 k ⟨k.val, hk⟩ rfl _ _ _
    rw [t2]
    refine Runs.bind (spreadMax_run _) ?_
    refine Runs.bind (s1 := s.at (subAt s (rowMax s i) i L3.trips) (rowMax s i) O) (Runs.loop (T := fun j => s.at (subAt s (rowMax s i) i j) (rowMax s i) O) fun k => ?_) ?_
    · have hk : k.val < 40 := t3 ▸ k.isLt
      refine Runs.bind (a := PUnit.unit) ?_ (Runs.ret _)
      rw [show subAt s (rowMax s i) i (k.val + 1) = fun y => subN s (rowMax s i) i ⟨k.val, hk⟩ y (subAt s (rowMax s i) i k.val y) from dif_pos hk]
      exact hf3 k ⟨k.val, hk⟩ rfl _ _ _
    rw [t3]
    refine Runs.bind (half_run placeA 0 _) ?_
    refine Runs.bind (half_run placeB 0 _) ?_
    exact Runs.ret _
  unfold rescue
  refine Runs.bind hp ?_
  refine Runs.bind (storeRow_run (e 0) _) ?_
  refine Runs.bind (half_run placeA 1 _) ?_
  refine Runs.bind (half_run placeB 1 _) ?_
  refine Runs.bind (storeRow_run (e 1) _) ?_
  exact Runs.ret _

/-- A row block. -/
theorem rowBlock_run {i : Fin 30} {f : Fin 40 → Prog (TpuEff nD τ sig (Elt F) Λ .tc) PUnit} {cE cL : F .f32} {oO : Fin 2 → Fin 3 → ℕ} {hO}
    {resc : Prog (TpuEff nD τ sig (Elt F) Λ .tc) PUnit} (e : ∀ h : Fin 2, oO h = ![2 * i.val + h.val, 0, 0])
    (hf : ∀ j X B O, Runs U defs c M (f j) (s.at X B O) (s.at (fun y => accN s i j y (X y)) B O) ⟨⟩)
    (hr : ∀ A B O, Runs U defs c M resc (s.at A B O) (s.at (subAt s (rowMax s i) i 40) (rowMax s i) (setRows O i (second s cE cL i))) ⟨⟩)
    (A B : FVec F S256x128 .f32) (O : FVec F S60x1x128 .f32) :
    Runs U defs c M (rowBlock M.A M.out f cE cL oO hO resc) (s.at A B O) (trip s cE cL i (s.at A B O)) ⟨⟩ := by
  unfold rowBlock
  refine Runs.bind (fill_run placeA _ A) ?_
  refine steps_run (T := fun j => s.at (accAt s i j) B O) (fun j => ?_) ?_ 40 0 rfl
  · rw [show accAt s i (j.val + 1) = fun y => accN s i j y (accAt s i j.val y) from dif_pos j.isLt]
    exact hf j _ _ _
  refine Runs.bind (half_run placeA 0 _) ?_
  refine Runs.bind (storeRow_run (e 0) _) ?_
  refine Runs.bind (half_run placeA 1 _) ?_
  refine Runs.bind (storeRow_run (e 1) _) ?_
  show Runs U defs c M (if Bad (accAt s i 40) then resc else pure PUnit.unit) _ _ PUnit.unit
  unfold trip
  by_cases hb : Bad (accAt s i 40)
  · rw [if_pos hb, if_pos hb]
    exact hr _ _ _
  · rw [if_neg hb, if_neg hb]
    exact Runs.ret _

/-- The state after the column weights are scaled. -/
def St.scaled (s : St F) (cT : F .f32) : St F := { s with ws := fun y => FloatOps.mulf (s.w y) cT }

/-- The whole body. -/
theorem body_run {L : Scf.Loop 32} {h : L.OK} (t : L.trips = 30) (cT cE cL : F .f32) {p : Fin L.trips → Prog (TpuEff nD τ sig (Elt F) Λ .tc) PUnit}
    (hp : ∀ (k : Fin L.trips) (i : Fin 30), k.val = i.val → ∀ A B O, Runs U defs c M (p k) ((s.scaled cT).at A B O) (trip (s.scaled cT) cE cL i ((s.scaled cT).at A B O)) ⟨⟩)
    (A B : FVec F S256x128 .f32) (O : FVec F S60x1x128 .f32) (W : FVec F S1x20480 .f32) :
    Runs U defs c M (do scaleW M.w M.ws cT; Scf.Loop.for L h PUnit.unit fun k _ => p k; pure PUnit.unit)
      { s with A := A, B := B, out := O, ws := W } (trips (s.scaled cT) cE cL ((s.scaled cT).at A B O) 30) PUnit.unit := by
  refine Runs.bind (scaleW_run cT) ?_
  refine Runs.bind (s1 := trips (s.scaled cT) cE cL ((s.scaled cT).at A B O) L.trips) (Runs.loop (T := trips (s.scaled cT) cE cL ((s.scaled cT).at A B O)) fun k => ?_) ?_
  rotate_left
  · rw [t]; exact Runs.ret _
  have hk : k.val < 30 := t ▸ k.isLt
  rw [show trips (s.scaled cT) cE cL ((s.scaled cT).at A B O) (k.val + 1) = trip (s.scaled cT) cE cL ⟨k.val, hk⟩ (trips (s.scaled cT) cE cL ((s.scaled cT).at A B O) k.val) from dif_pos hk, trips_at _ _ _ _ rfl]
  exact hp k ⟨k.val, hk⟩ rfl _ _ _

end Whole

end Cert.Student

end
-- ==== Proof.TBlocks.lean ====
/-
  The teacher kernel's body written compactly. It goes through the row blocks as the student's does; its logits carry a
  subtracted centre, its results are the plain sums, and besides the sums each step yields the product of the weighted
  powers of two with the prototype tile, split into a truncated part and the rest. The truncation is a parameter, since the
  two printed kernels spell it differently.
-/
module

public import proofs.«01_k».proof.Proof.Blocks

@[expose] public section

noncomputable section

namespace Cert.Teacher

open Idealize.ShloMosaic Idealize.ShloMosaic.TcCoe Idealize.SL.Sem
open Cert.Student (S20480x256 S1x20480 S1x1x128 S1x1x1 S256x128 S256x256 S512x256 S256x512 S256x1 S32x128 S1x128 S128x128 S128 S256 S1
  inbA inbH inbV inbW slicesZ inbAll inbWAll pos_S32x128 pos_S1x128 pos_S256x128 pos_S128x128 pos_S256x256 pos_S512x256 pos_S1x1x128 pos_S1x20480
  cast_32 cast_256 cast_codes cast_w cast_128 cast_lane bcast_w dimsZ logit update addExp maxOf fill rowSum badOf badSum half spread spreadMax scaleW)

abbrev S3840x256 : Shape := ⟨2, ![3840, 256]⟩
abbrev S3840x128 : Shape := ⟨2, ![3840, 128]⟩
abbrev S30x1x128 : Shape := ⟨3, ![30, 1, 128]⟩
abbrev S32x512 : Shape := ⟨2, ![32, 512]⟩

theorem concat_cols : Shape.Concatenates [S32x128, S32x128, S32x128, S32x128] S32x512 1 := by decide
theorem concat_rows : Shape.Concatenates [S32x512, S32x512, S32x512, S32x512, S32x512, S32x512, S32x512, S32x512] S256x512 0 := by decide

/-- The product of a tile of weighted powers of two with a prototype tile. -/
def dimsG : DotDims S256x512 S512x256 S256x256 where
  lhsContracting := [1]
  rhsContracting := [0]
  lhsNonContracting := [0]
  rhsNonContracting := [1]
  lhsBatch := []
  rhsBatch := []
  wf := by decide

section Programs

variable {F : FTy → Type} [FloatOps F] {nD : ℕ} {τ : Topo} {sig : RefSig} {Λ : Labels}

/-- A block of logits, the centre subtracted. -/
def tlogit (z : FVec F S256x512 .f32) (rep : FVec F S32x128 .f32) (w cb : FVec F S1x128 .f32) (b : Fin 8) (c : Fin 4) : FVec F S32x128 .f32 :=
  subf (logit z rep w b c) (broadcastTo S32x128 cb bcast_w)

/-- Load the row scales, four column weights and four centres, and hand on the four blocks of logits. -/
def logits {α : Type} (rep : Memref sig .tc .vmem S3840x128 .f32) (ws cb : Memref sig .tc .vmem S1x20480 .f32)
    (z : FVec F S256x512 .f32) (b : Fin 8)
    (oR : Fin 2 → ℕ) (hR : ∀ a, oR a + S32x128.size a ≤ S3840x128.size a)
    (oW : Fin 4 → Fin 2 → ℕ) (hW : ∀ c, ∀ a, oW c a + S1x128.size a ≤ S1x20480.size a)
    (k : FVec F S32x128 .f32 → FVec F S32x128 .f32 → FVec F S32x128 .f32 → FVec F S32x128 .f32 → Prog (TpuEff nD τ sig (Elt F) Λ .tc) α) :
    Prog (TpuEff nD τ sig (Elt F) Λ .tc) α := do
  let r : Vec F S32x128 .f32 ← Prog.lift (.load rep (Rect.unit (s := S3840x128) oR S32x128.size hR).toLoadRect (View.loadsAt_vmem pos_S32x128))
  let w0 : Vec F S1x128 .f32 ← Prog.lift (.load ws (Rect.unit (s := S1x20480) (oW 0) S1x128.size (hW 0)).toLoadRect (View.loadsAt_vmem pos_S1x128))
  let c0 : Vec F S1x128 .f32 ← Prog.lift (.load cb (Rect.unit (s := S1x20480) (oW 0) S1x128.size (hW 0)).toLoadRect (View.loadsAt_vmem pos_S1x128))
  let w1 : Vec F S1x128 .f32 ← Prog.lift (.load ws (Rect.unit (s := S1x20480) (oW 1) S1x128.size (hW 1)).toLoadRect (View.loadsAt_vmem pos_S1x128))
  let c1 : Vec F S1x128 .f32 ← Prog.lift (.load cb (Rect.unit (s := S1x20480) (oW 1) S1x128.size (hW 1)).toLoadRect (View.loadsAt_vmem pos_S1x128))
  let w2 : Vec F S1x128 .f32 ← Prog.lift (.load ws (Rect.unit (s := S1x20480) (oW 2) S1x128.size (hW 2)).toLoadRect (View.loadsAt_vmem pos_S1x128))
  let c2 : Vec F S1x128 .f32 ← Prog.lift (.load cb (Rect.unit (s := S1x20480) (oW 2) S1x128.size (hW 2)).toLoadRect (View.loadsAt_vmem pos_S1x128))
  let w3 : Vec F S1x128 .f32 ← Prog.lift (.load ws (Rect.unit (s := S1x20480) (oW 3) S1x128.size (hW 3)).toLoadRect (View.loadsAt_vmem pos_S1x128))
  let c3 : Vec F S1x128 .f32 ← Prog.lift (.load cb (Rect.unit (s := S1x20480) (oW 3) S1x128.size (hW 3)).toLoadRect (View.loadsAt_vmem pos_S1x128))
  k (tlogit z r w0 c0 b 0) (tlogit z r w1 c1 b 1) (tlogit z r w2 c2 b 2) (tlogit z r w3 c3 b 3)

/-- The truncated weighted powers of two and what the truncation left, 32 × 512 each. -/
structure HiLo (F : FTy → Type) where
  hi : FVec F S32x512 .f32
  lo : FVec F S32x512 .f32

/-- The weighted powers of two. -/
def wexp (y : FVec F S32x128 .f32) (w : FVec F S1x128 .f32) : FVec F S32x128 .f32 := mulf (exp2 y) (broadcastTo S32x128 w bcast_w)

/-- Four blocks side by side, truncated, and the rests. -/
def split (tr : FVec F S32x128 .f32 → FVec F S32x128 .f32) (p0 p1 p2 p3 : FVec F S32x128 .f32) : HiLo F where
  hi := concatenate S32x512 1 [⟨S32x128, tr p0⟩, ⟨S32x128, tr p1⟩, ⟨S32x128, tr p2⟩, ⟨S32x128, tr p3⟩] concat_cols
  lo := concatenate S32x512 1 [⟨S32x128, subf p0 (tr p0)⟩, ⟨S32x128, subf p1 (tr p1)⟩, ⟨S32x128, subf p2 (tr p2)⟩, ⟨S32x128, subf p3 (tr p3)⟩] concat_cols

/-- Load four column weights and split the weighted powers of two. -/
def weigh (tr : FVec F S32x128 .f32 → FVec F S32x128 .f32) (ws : Memref sig .tc .vmem S1x20480 .f32)
    (oW : Fin 4 → Fin 2 → ℕ) (hW : ∀ c, ∀ a, oW c a + S1x128.size a ≤ S1x20480.size a)
    (y0 y1 y2 y3 : FVec F S32x128 .f32) : Prog (TpuEff nD τ sig (Elt F) Λ .tc) (HiLo F) := do
  let w0 : Vec F S1x128 .f32 ← Prog.lift (.load ws (Rect.unit (s := S1x20480) (oW 0) S1x128.size (hW 0)).toLoadRect (View.loadsAt_vmem pos_S1x128))
  let w1 : Vec F S1x128 .f32 ← Prog.lift (.load ws (Rect.unit (s := S1x20480) (oW 1) S1x128.size (hW 1)).toLoadRect (View.loadsAt_vmem pos_S1x128))
  let w2 : Vec F S1x128 .f32 ← Prog.lift (.load ws (Rect.unit (s := S1x20480) (oW 2) S1x128.size (hW 2)).toLoadRect (View.loadsAt_vmem pos_S1x128))
  let w3 : Vec F S1x128 .f32 ← Prog.lift (.load ws (Rect.unit (s := S1x20480) (oW 3) S1x128.size (hW 3)).toLoadRect (View.loadsAt_vmem pos_S1x128))
  pure (split tr (wexp y0 w0) (wexp y1 w1) (wexp y2 w2) (wexp y3 w3))

/-- Block `b` of an accumulate step. -/
def accBlk (tr : FVec F S32x128 .f32 → FVec F S32x128 .f32) (rep : Memref sig .tc .vmem S3840x128 .f32) (ws cb : Memref sig .tc .vmem S1x20480 .f32) (A : Memref sig .tc .vmem S256x128 .f32)
    (z : FVec F S256x512 .f32) (b : Fin 8)
    (oR : Fin 2 → ℕ) (hR : ∀ a, oR a + S32x128.size a ≤ S3840x128.size a)
    (oW : Fin 4 → Fin 2 → ℕ) (hW : ∀ c, ∀ a, oW c a + S1x128.size a ≤ S1x20480.size a) : Prog (TpuEff nD τ sig (Elt F) Λ .tc) (HiLo F) :=
  logits rep ws cb z b oR hR oW hW fun y0 y1 y2 y3 => do
    update A b (addExp y0 y1 y2 y3)
    weigh tr ws oW hW y0 y1 y2 y3

/-- Block `b` of a maximum step. -/
def maxBlk (rep : Memref sig .tc .vmem S3840x128 .f32) (ws cb : Memref sig .tc .vmem S1x20480 .f32) (A : Memref sig .tc .vmem S256x128 .f32)
    (z : FVec F S256x512 .f32) (b : Fin 8)
    (oR : Fin 2 → ℕ) (hR : ∀ a, oR a + S32x128.size a ≤ S3840x128.size a)
    (oW : Fin 4 → Fin 2 → ℕ) (hW : ∀ c, ∀ a, oW c a + S1x128.size a ≤ S1x20480.size a) : Prog (TpuEff nD τ sig (Elt F) Λ .tc) PUnit :=
  logits rep ws cb z b oR hR oW hW fun y0 y1 y2 y3 => update A b (maxOf y0 y1 y2 y3)

/-- Block `b` of an accumulate step shifted by the row maxima `B`. -/
def subBlk (tr : FVec F S32x128 .f32 → FVec F S32x128 .f32) (rep : Memref sig .tc .vmem S3840x128 .f32) (ws cb : Memref sig .tc .vmem S1x20480 .f32) (A B : Memref sig .tc .vmem S256x128 .f32)
    (z : FVec F S256x512 .f32) (b : Fin 8)
    (oR : Fin 2 → ℕ) (hR : ∀ a, oR a + S32x128.size a ≤ S3840x128.size a)
    (oW : Fin 4 → Fin 2 → ℕ) (hW : ∀ c, ∀ a, oW c a + S1x128.size a ≤ S1x20480.size a) : Prog (TpuEff nD τ sig (Elt F) Λ .tc) (HiLo F) :=
  logits rep ws cb z b oR hR oW hW fun y0 y1 y2 y3 => do
    let m0 : Vec F S32x128 .f32 ← Prog.lift (.load B (Rect.unit (s := S256x128) ![32 * b.val, 0] S32x128.size (inbA b)).toLoadRect (View.loadsAt_vmem pos_S32x128))
    let m1 : Vec F S32x128 .f32 ← Prog.lift (.load B (Rect.unit (s := S256x128) ![32 * b.val, 0] S32x128.size (inbA b)).toLoadRect (View.loadsAt_vmem pos_S32x128))
    let m2 : Vec F S32x128 .f32 ← Prog.lift (.load B (Rect.unit (s := S256x128) ![32 * b.val, 0] S32x128.size (inbA b)).toLoadRect (View.loadsAt_vmem pos_S32x128))
    let m3 : Vec F S32x128 .f32 ← Prog.lift (.load B (Rect.unit (s := S256x128) ![32 * b.val, 0] S32x128.size (inbA b)).toLoadRect (View.loadsAt_vmem pos_S32x128))
    update A b (addExp (subf y0 m0) (subf y1 m1) (subf y2 m2) (subf y3 m3))
    weigh tr ws oW hW (subf y0 m0) (subf y1 m1) (subf y2 m2) (subf y3 m3)

/-- A step without products: load the code tile and the prototype tile, multiply, go through the eight blocks. -/
def tile (codes : Memref sig .tc .vmem S3840x256 .fp8e4m3) (protos : Memref sig .tc .vmem S20480x256 .fp8e4m3)
    (oC : Fin 2 → ℕ) (hC : ∀ a, oC a + S256x256.size a ≤ S3840x256.size a)
    (oV : Fin 2 → ℕ) (hV : ∀ a, oV a + S512x256.size a ≤ S20480x256.size a)
    (f : FVec F S256x512 .f32 → Fin 8 → Prog (TpuEff nD τ sig (Elt F) Λ .tc) PUnit) : Prog (TpuEff nD τ sig (Elt F) Λ .tc) PUnit := do
  let x : Vec F S256x256 .fp8e4m3 ← Prog.lift (.load codes (Rect.unit (s := S3840x256) oC S256x256.size hC).toLoadRect (View.loadsAt_vmem pos_S256x256))
  let v : Vec F S512x256 .fp8e4m3 ← Prog.lift (.load protos (Rect.unit (s := S20480x256) oV S512x256.size hV).toLoadRect (View.loadsAt_vmem pos_S512x256))
  Student.eight (f (matmul dimsZ none (shapeCast S256x256 x cast_codes : FVec F S256x256 .fp8e4m3) (v : FVec F S512x256 .fp8e4m3) (constant S256x512 .f32 0x00000000#32)))

/-- Eight blocks of 32 rows, one above the other. -/
def stack (h0 h1 h2 h3 h4 h5 h6 h7 : FVec F S32x512 .f32) : FVec F S256x512 .f32 :=
  concatenate S256x512 0 [⟨S32x512, h0⟩, ⟨S32x512, h1⟩, ⟨S32x512, h2⟩, ⟨S32x512, h3⟩, ⟨S32x512, h4⟩, ⟨S32x512, h5⟩, ⟨S32x512, h6⟩, ⟨S32x512, h7⟩] concat_rows

/-- The product of a tile of weighted powers of two with the prototype tile. -/
def gdot (p : FVec F S256x512 .f32) (v : FVec F S512x256 .fp8e4m3) : FVec F S256x256 .f32 :=
  matmul dimsG none p (extf .bf16 v (by decide) : FVec F S512x256 .bf16) (constant S256x256 .f32 0x00000000#32)

/-- A step with products. -/
def gtile (codes : Memref sig .tc .vmem S3840x256 .fp8e4m3) (protos : Memref sig .tc .vmem S20480x256 .fp8e4m3)
    (oC : Fin 2 → ℕ) (hC : ∀ a, oC a + S256x256.size a ≤ S3840x256.size a)
    (oV : Fin 2 → ℕ) (hV : ∀ a, oV a + S512x256.size a ≤ S20480x256.size a)
    (f : FVec F S256x512 .f32 → Fin 8 → Prog (TpuEff nD τ sig (Elt F) Λ .tc) (HiLo F)) : Prog (TpuEff nD τ sig (Elt F) Λ .tc) (FVec F S256x256 .f32) := do
  let x : Vec F S256x256 .fp8e4m3 ← Prog.lift (.load codes (Rect.unit (s := S3840x256) oC S256x256.size hC).toLoadRect (View.loadsAt_vmem pos_S256x256))
  let v : Vec F S512x256 .fp8e4m3 ← Prog.lift (.load protos (Rect.unit (s := S20480x256) oV S512x256.size hV).toLoadRect (View.loadsAt_vmem pos_S512x256))
  let g := f (matmul dimsZ none (shapeCast S256x256 x cast_codes : FVec F S256x256 .fp8e4m3) (v : FVec F S512x256 .fp8e4m3) (constant S256x512 .f32 0x00000000#32))
  let q0 ← g 0
  let q1 ← g 1
  let q2 ← g 2
  let q3 ← g 3
  let q4 ← g 4
  let q5 ← g 5
  let q6 ← g 6
  let q7 ← g 7
  let v' : Vec F S512x256 .fp8e4m3 ← Prog.lift (.load protos (Rect.unit (s := S20480x256) oV S512x256.size hV).toLoadRect (View.loadsAt_vmem pos_S512x256))
  pure (addf (gdot (stack q0.hi q1.hi q2.hi q3.hi q4.hi q5.hi q6.hi q7.hi) v') (gdot (stack q0.lo q1.lo q2.lo q3.lo q4.lo q5.lo q6.lo q7.lo) v'))

/-- The steps `j, j + 1, …, 39` with two running sums that take the products in turn, then `K` of the two. -/
def gsteps {α : Type} (f : Fin 40 → Prog (TpuEff nD τ sig (Elt F) Λ .tc) (FVec F S256x256 .f32))
    (K : FVec F S256x256 .f32 → FVec F S256x256 .f32 → Prog (TpuEff nD τ sig (Elt F) Λ .tc) α) :
    (n j : ℕ) → n + j = 40 → FVec F S256x256 .f32 → FVec F S256x256 .f32 → Prog (TpuEff nD τ sig (Elt F) Λ .tc) α
  | 0, _, _, a, b => K a b
  | n + 1, j, h, a, b => f ⟨j, by omega⟩ >>= fun d => gsteps f K n (j + 1) (by omega) b (addf a d)

/-- Store a row block of products. -/
def storeG (G : Memref sig .tc .vmem S3840x256 .f32) (oG : Fin 2 → ℕ) (hG : ∀ a, oG a + S256x256.size a ≤ S3840x256.size a)
    (x : FVec F S256x256 .f32) : Prog (TpuEff nD τ sig (Elt F) Λ .tc) PUnit := do
  let _ : Vec F S256x256 .f32 ← Prog.lift (.load G (Rect.unit (s := S3840x256) oG S256x256.size hG).toLoadRect (View.loadsAt_vmem pos_S256x256))
  Prog.lift (.store G (Rect.unit (s := S3840x256) oG S256x256.size hG) x Finset.univ (View.stores_vmem_bits_univ pos_S256x256 rfl) (.inl rfl))

/-- Add to a row block of products. -/
def addG (G : Memref sig .tc .vmem S3840x256 .f32) (oG : Fin 2 → ℕ) (hG : ∀ a, oG a + S256x256.size a ≤ S3840x256.size a)
    (x : FVec F S256x256 .f32) : Prog (TpuEff nD τ sig (Elt F) Λ .tc) PUnit := do
  let g : Vec F S256x256 .f32 ← Prog.lift (.load G (Rect.unit (s := S3840x256) oG S256x256.size hG).toLoadRect (View.loadsAt_vmem pos_S256x256))
  storeG G oG hG (addf (shapeCast S256x256 g cast_codes) x)

/-- Store one row of results. -/
def storeRow (O : Memref sig .tc .vmem S30x1x128 .f32) (oO : Fin 3 → ℕ) (hO : ∀ a, oO a + S1x1x128.size a ≤ S30x1x128.size a)
    (x : FVec F S1x128 .f32) : Prog (TpuEff nD τ sig (Elt F) Λ .tc) PUnit := do
  let _ : Vec F S1x1x128 .f32 ← Prog.lift (.load O (Rect.unit (s := S30x1x128) oO S1x1x128.size hO).toLoadRect (View.loadsAt_vmem pos_S1x1x128))
  Prog.lift (.store O (Rect.unit (s := S30x1x128) oO S1x1x128.size hO) (shapeCast S1x1x128 x cast_lane) Finset.univ (View.stores_vmem_bits_univ pos_S1x1x128 rfl) (.inl rfl))

/-- One row block: the forty accumulate steps, the products, the two rows of sums, and — `resc`, when a sum is out of bounds — the second pass. -/
def rowBlock (A : Memref sig .tc .vmem S256x128 .f32) (O : Memref sig .tc .vmem S30x1x128 .f32) (G : Memref sig .tc .vmem S3840x256 .f32)
    (f : Fin 40 → Prog (TpuEff nD τ sig (Elt F) Λ .tc) (FVec F S256x256 .f32))
    (oG : Fin 2 → ℕ) (hG : ∀ a, oG a + S256x256.size a ≤ S3840x256.size a)
    (oO : Fin 2 → Fin 3 → ℕ) (hO : ∀ h, ∀ a, oO h a + S1x1x128.size a ≤ S30x1x128.size a)
    (resc : Prog (TpuEff nD τ sig (Elt F) Λ .tc) PUnit) : Prog (TpuEff nD τ sig (Elt F) Λ .tc) PUnit := do
  fill A 0x00000000#32
  let d0 ← f 0
  let d1 ← f 1
  gsteps f (fun a b => do
    storeG G oG hG (addf a b)
    let s0 ← half A 0
    storeRow O (oO 0) (hO 0) (rowSum s0)
    let s1 ← half A 1
    storeRow O (oO 1) (hO 1) (rowSum s1)
    if Scalar.cmpi .ne (Scalar.extui (Scalar.cmpf .ogt (badSum (addf (badOf (rowSum s0)) (badOf (rowSum s1)))) (Scalar.ofBits .f32 0x00000000#32 : F .f32)) : BitVec 32) 0#32 = 1#1
      then resc else pure ⟨⟩) 38 2 rfl d0 d1

/-- The second pass up to the first half's sums: the row maxima, the shifted sums and products. -/
def rescuePass (A B : Memref sig .tc .vmem S256x128 .f32) (G : Memref sig .tc .vmem S3840x256 .f32)
    (L2 L3 : Scf.Loop 32) (h2 : L2.OK) (h3 : L3.OK)
    (f2 : Fin L2.trips → Prog (TpuEff nD τ sig (Elt F) Λ .tc) PUnit) (f3 : Fin L3.trips → Prog (TpuEff nD τ sig (Elt F) Λ .tc) (FVec F S256x256 .f32))
    (oZ oG : Fin 2 → ℕ) (hZ : ∀ a, oZ a + S256x256.size a ≤ S3840x256.size a) (hG : ∀ a, oG a + S256x256.size a ≤ S3840x256.size a) :
    Prog (TpuEff nD τ sig (Elt F) Λ .tc) (FVec F S1x128 .f32) := do
  fill A 0x00000000#32
  fill B 0xFF800000#32
  Scf.Loop.for L2 h2 ⟨⟩ fun k _ => do f2 k; pure ⟨⟩
  spreadMax B
  storeG G oZ hZ (broadcast S256x256 (Scalar.ofBits .f32 0x00000000#32 : F .f32) : FVec F S256x256 .f32)
  Scf.Loop.for L3 h3 ⟨⟩ fun k _ => do
    let d ← f3 k
    addG G oG hG d
    pure ⟨⟩
  let s0 ← half A 0
  pure (rowSum s0)

/-- The second pass. -/
def rescue (A B : Memref sig .tc .vmem S256x128 .f32) (O : Memref sig .tc .vmem S30x1x128 .f32) (G : Memref sig .tc .vmem S3840x256 .f32)
    (L2 L3 : Scf.Loop 32) (h2 : L2.OK) (h3 : L3.OK)
    (f2 : Fin L2.trips → Prog (TpuEff nD τ sig (Elt F) Λ .tc) PUnit) (f3 : Fin L3.trips → Prog (TpuEff nD τ sig (Elt F) Λ .tc) (FVec F S256x256 .f32))
    (oZ oG : Fin 2 → ℕ) (hZ : ∀ a, oZ a + S256x256.size a ≤ S3840x256.size a) (hG : ∀ a, oG a + S256x256.size a ≤ S3840x256.size a)
    (oO : Fin 2 → Fin 3 → ℕ) (hO : ∀ h, ∀ a, oO h a + S1x1x128.size a ≤ S30x1x128.size a) : Prog (TpuEff nD τ sig (Elt F) Λ .tc) PUnit := do
  let p ← rescuePass A B G L2 L3 h2 h3 f2 f3 oZ oG hZ hG
  storeRow O (oO 0) (hO 0) p
  let s1 ← half A 1
  storeRow O (oO 1) (hO 1) (rowSum s1)
  pure ⟨⟩

end Programs

end Cert.Teacher

end
-- ==== Proof.TRun.lean ====
/-
  Runs by values. The teacher kernel's eleven buffers hold plain vectors (`St`); a program takes such a state
  to another and returns a value (`Runs`). Loads, stores, sequences and counted loops of programs are then equations
  between states, with no assertion left in them.
-/
module

public import proofs.«01_k».proof.Proof.TBlocks

@[expose] public section

noncomputable section

namespace Cert.Teacher

open Cert.Student (S20480x256 S1x20480 S256x128)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules

variable {F : FTy → Type} [FloatOps F] {nD : ℕ} {τ : Topo} {sig : RefSig} {Λ : Labels} {U : Type} [URA U]

local notation "𝕄" => MT nD τ sig Unit (Elt F) ℕ U ℕ

/-- The program's contents of the kernel's buffers. -/
structure St (F : FTy → Type) where
  codes : Vec F S3840x256 .fp8e4m3
  rep : Vec F S3840x128 .f32
  protos : Vec F S20480x256 .fp8e4m3
  w : Vec F S1x20480 .f32
  cen : Vec F S1x20480 .f32
  out : Vec F S30x1x128 .f32
  G : Vec F S3840x256 .f32
  A : Vec F S256x128 .f32
  B : Vec F S256x128 .f32
  ws : Vec F S1x20480 .f32
  cb : Vec F S1x20480 .f32

/-- The buffers. -/
structure Mem (sig : RefSig) where
  codes : Memref sig .tc .vmem S3840x256 .fp8e4m3
  rep : Memref sig .tc .vmem S3840x128 .f32
  protos : Memref sig .tc .vmem S20480x256 .fp8e4m3
  w : Memref sig .tc .vmem S1x20480 .f32
  cen : Memref sig .tc .vmem S1x20480 .f32
  out : Memref sig .tc .vmem S30x1x128 .f32
  G : Memref sig .tc .vmem S3840x256 .f32
  A : Memref sig .tc .vmem S256x128 .f32
  B : Memref sig .tc .vmem S256x128 .f32
  ws : Memref sig .tc .vmem S1x20480 .f32
  cb : Memref sig .tc .vmem S1x20480 .f32

/-- Core `c` holds the buffers at the state. -/
def holds (c : Dev nD) (M : Mem sig) (s : St F) : sProp 𝕄 :=
  iprop(owns (c : Thread nD τ) M.codes fullShare s.codes ∗ owns (c : Thread nD τ) M.rep fullShare s.rep
    ∗ owns (c : Thread nD τ) M.protos fullShare s.protos ∗ owns (c : Thread nD τ) M.w fullShare s.w
    ∗ owns (c : Thread nD τ) M.cen fullShare s.cen
    ∗ owns (c : Thread nD τ) M.out fullShare s.out ∗ owns (c : Thread nD τ) M.G fullShare s.G ∗ owns (c : Thread nD τ) M.A fullShare s.A
    ∗ owns (c : Thread nD τ) M.B fullShare s.B ∗ owns (c : Thread nD τ) M.ws fullShare s.ws ∗ owns (c : Thread nD τ) M.cb fullShare s.cb)

variable (defs : Defs nD τ sig (Elt F) Λ) (c : Dev nD) (M : Mem sig) (U)

/-- From state `s` the program runs to its return with value `a`, leaving state `s'`. -/
def Runs {α : Type} (p : Prog (TpuEff nD τ sig (Elt F) Λ .tc) α) (s s' : St F) (a : α) : Prop :=
  ∀ (E : Set ℕ) (Q : α → sProp 𝕄), iprop(holds (U := U) c M s ∗ (holds (U := U) c M s' -∗ Q a)) ⊢ wp frame (wpE defs Variants.none (c : Thread nD τ) none) E p Q

variable {defs c M U}

theorem Runs.ret {α : Type} {s : St F} (a : α) : Runs U defs c M (.ret a) s s a := fun E Q => by
  rw [wp_ret]
  iintro ⟨H, K⟩
  imodintro
  iapply K; iexact H

theorem Runs.bind {α β : Type} {p : Prog (TpuEff nD τ sig (Elt F) Λ .tc) α} {k : α → Prog (TpuEff nD τ sig (Elt F) Λ .tc) β} {s s1 s2 : St F} {a : α} {b : β}
    (h : Runs U defs c M p s s1 a) (h' : Runs U defs c M (k a) s1 s2 b) : Runs U defs c M (p >>= k) s s2 b := fun E Q => by
  rw [wp_bind]
  iintro ⟨H, K⟩
  iapply (h E _)
  isplitl [H]; · iexact H
  iintro H
  iapply (h' E Q)
  isplitl [H] <;> iassumption

/-- A load through a memref the state holds. -/
theorem load_step {e : EltTy} {sh : Shape} {m : Memref sig .tc .vmem sh e} {X : sh.Idx → Elt F e} {s : St F}
    (hs : (holds (U := U) (τ := τ) c M s : sProp 𝕄) ⊢ iprop(owns (c : Thread nD τ) m fullShare X ∗ (owns (c : Thread nD τ) m fullShare X -∗ holds (U := U) c M s)))
    {off size : Fin sh.rank → ℕ} (inb : ∀ a, off a + size a ≤ sh.size a) (hl : m.view.LoadsAt (Rect.unit off size inb).toLoadRect) :
    Runs U defs c M (.op (.load m (Rect.unit off size inb).toLoadRect hl) .ret) s s (VecWindow.window X off size inb) := fun E Q => by
  refine (sep_mono_left hs).trans ?_
  unfold owns
  iintro ⟨⟨⟨%f, %hf, H⟩, K⟩, HQ⟩
  iapply (wp_load Variants.none (c : Thread nD τ) none E (m := m) (S := m.view.set) (View.setOn_subset_set _ _)) $$ H
  iintro H
  rw [wp_ret]
  imodintro
  rw [View.readAt_unit m.view f inb rfl inb, hf]
  iapply HQ
  iapply K
  iexists f
  isplitr; · ipureintro; exact hf
  iexact H

/-- A store through a memref the state holds. -/
theorem store_step {e : EltTy} {sh : Shape} {m : Memref sig .tc .vmem sh e} {X : sh.Idx → Elt F e} {s s' : St F}
    {off size : Fin sh.rank → ℕ} (inb : ∀ a, off a + size a ≤ sh.size a) {w : (Rect.unit off size inb).shape.Idx → Elt F e}
    (hs : (holds (U := U) (τ := τ) c M s : sProp 𝕄) ⊢ iprop(owns (c : Thread nD τ) m fullShare X ∗ (owns (c : Thread nD τ) m fullShare (VecWindow.put X off size w) -∗ holds (U := U) c M s')))
    (hx : (m.access (Rect.unit off size inb)).Stores Finset.univ) (hm) :
    Runs U defs c M (.op (.store m (Rect.unit off size inb) w Finset.univ hx hm) .ret) s s' ⟨⟩ := fun E Q => by
  refine (sep_mono_left hs).trans ?_
  unfold owns
  iintro ⟨⟨⟨%f, %hf, H⟩, K⟩, HQ⟩
  iapply (wp_store Variants.none (c : Thread nD τ) none E (m := m) (r := Rect.unit off size inb) (S := (m.view.set : Finset (Idx (m.view.loc (c : Thread nD τ))))) (View.set_slice_subset m.view _)) $$ H
  iintro H
  rw [wp_ret]
  imodintro
  iapply HQ
  iapply K
  iexists _
  isplitr
  swap; · iexact H
  ipureintro
  have := View.read_writes_cons_put m.view f inb w [] rfl
  rw [View.writes_nil, hf] at this
  exact this

/-- A counted loop: the state before trip `k` is `T k`. -/
theorem Runs.loop {L : Scf.Loop 32} {h : L.OK} {f : Fin L.trips → PUnit → Prog (TpuEff nD τ sig (Elt F) Λ .tc) PUnit} {T : ℕ → St F}
    (hf : ∀ k : Fin L.trips, Runs U defs c M (f k ⟨⟩) (T k.val) (T (k.val + 1)) ⟨⟩) :
    Runs U defs c M (Scf.Loop.for L h ⟨⟩ f) (T 0) (T L.trips) ⟨⟩ := fun E Q => by
  have hb : ∀ (k : Fin L.trips) (acc : PUnit), (holds (U := U) (τ := τ) c M (T k.val) : sProp 𝕄)
      ⊢ wp frame (wpE defs Variants.none (c : Thread nD τ) none) E (f k acc) (fun _ => holds (U := U) c M (T (k.val + 1))) := fun k acc => by
    iintro H
    iapply (hf k E (fun _ => holds (U := U) c M (T (k.val + 1))))
    isplitl [H]; · iexact H
    iintro H; iexact H
  iintro ⟨H, K⟩
  iapply (Scf.wp_for frame (wpE defs Variants.none (c : Thread nD τ) none) E L.lb L.ub L.st h ⟨⟩ f (fun k _ => holds (U := U) c M (T k)) hb)
  isplitl [H]; · iexact H
  iintro %acc H
  iapply K; iexact H

end Rules

end Cert.Teacher

end
-- ==== Proof.TSteps.lean ====
/-
  What each piece of the teacher kernel's body does to the buffers' contents: the loads and stores, one block, the eight
  blocks of a step with their products, the forty steps, the stores. Everything is over any float instance.
-/
module

public import proofs.«01_k».proof.Proof.TRun
public import proofs.«01_k».proof.Proof.Steps

@[expose] public section

noncomputable section

namespace Cert.Teacher

open Cert.Student (S20480x256 S1x20480 S1x1x128 S1x1x1 S256x128 S256x256 S512x256 S256x512 S256x1 S32x128 S1x128 S128x128 S128 S256 S1
  inbA inbH inbV inbW slicesZ inbAll inbWAll pos_S32x128 pos_S1x128 pos_S256x128 pos_S128x128 pos_S256x256 pos_S512x256 pos_S1x1x128 pos_S1x20480
  cast_32 cast_256 cast_codes cast_w cast_128 cast_lane bcast_w dimsZ logit update addExp maxOf fill rowSum badOf badSum half spread spreadMax scaleW eight
  emb2 window_all put_all window_wall put_wall blkIdx blkIdx0 blkIdx1 mix put_mix mix_zero mix_eight halfOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Steps

variable {F : FTy → Type} [FloatOps F] {nD : ℕ} {τ : Topo} {sig : RefSig} {Λ : Labels} {U : Type} [URA U]

local notation "𝕄" => MT nD τ sig Unit (Elt F) ℕ U ℕ

/-- The state with the two accumulators, the results and the products replaced. -/
def St.at (s : St F) (A B : FVec F S256x128 .f32) (O : FVec F S30x1x128 .f32) (G : FVec F S3840x256 .f32) : St F := { s with A := A, B := B, out := O, G := G }

variable {defs : Defs nD τ sig (Elt F) Λ} {c : Dev nD} {M : Mem sig} {s : St F} {A B : FVec F S256x128 .f32} {O : FVec F S30x1x128 .f32} {G : FVec F S3840x256 .f32}

/-! ### One buffer taken out of the state and put back -/

theorem split_codes (s : St F) : (holds (U := U) (τ := τ) c M s : sProp 𝕄) ⊢ iprop(owns (c : Thread nD τ) M.codes fullShare s.codes ∗ (owns (c : Thread nD τ) M.codes fullShare s.codes -∗ holds (U := U) c M s)) := by
  unfold holds
  iintro ⟨H0, H1, H2, H3, H4, H5, H6, H7, H8, H9, H10⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_rep (s : St F) : (holds (U := U) (τ := τ) c M s : sProp 𝕄) ⊢ iprop(owns (c : Thread nD τ) M.rep fullShare s.rep ∗ (owns (c : Thread nD τ) M.rep fullShare s.rep -∗ holds (U := U) c M s)) := by
  unfold holds
  iintro ⟨H0, H1, H2, H3, H4, H5, H6, H7, H8, H9, H10⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_protos (s : St F) : (holds (U := U) (τ := τ) c M s : sProp 𝕄) ⊢ iprop(owns (c : Thread nD τ) M.protos fullShare s.protos ∗ (owns (c : Thread nD τ) M.protos fullShare s.protos -∗ holds (U := U) c M s)) := by
  unfold holds
  iintro ⟨H0, H1, H2, H3, H4, H5, H6, H7, H8, H9, H10⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_w (s : St F) : (holds (U := U) (τ := τ) c M s : sProp 𝕄) ⊢ iprop(owns (c : Thread nD τ) M.w fullShare s.w ∗ (owns (c : Thread nD τ) M.w fullShare s.w -∗ holds (U := U) c M s)) := by
  unfold holds
  iintro ⟨H0, H1, H2, H3, H4, H5, H6, H7, H8, H9, H10⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_cen (s : St F) : (holds (U := U) (τ := τ) c M s : sProp 𝕄) ⊢ iprop(owns (c : Thread nD τ) M.cen fullShare s.cen ∗ (owns (c : Thread nD τ) M.cen fullShare s.cen -∗ holds (U := U) c M s)) := by
  unfold holds
  iintro ⟨H0, H1, H2, H3, H4, H5, H6, H7, H8, H9, H10⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_out (s : St F) (X : FVec F S30x1x128 .f32) : (holds (U := U) (τ := τ) c M s : sProp 𝕄) ⊢ iprop(owns (c : Thread nD τ) M.out fullShare s.out ∗ (owns (c : Thread nD τ) M.out fullShare X -∗ holds (U := U) c M { s with out := X })) := by
  unfold holds
  iintro ⟨H0, H1, H2, H3, H4, H5, H6, H7, H8, H9, H10⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_G (s : St F) (X : FVec F S3840x256 .f32) : (holds (U := U) (τ := τ) c M s : sProp 𝕄) ⊢ iprop(owns (c : Thread nD τ) M.G fullShare s.G ∗ (owns (c : Thread nD τ) M.G fullShare X -∗ holds (U := U) c M { s with G := X })) := by
  unfold holds
  iintro ⟨H0, H1, H2, H3, H4, H5, H6, H7, H8, H9, H10⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_A (s : St F) (X : FVec F S256x128 .f32) : (holds (U := U) (τ := τ) c M s : sProp 𝕄) ⊢ iprop(owns (c : Thread nD τ) M.A fullShare s.A ∗ (owns (c : Thread nD τ) M.A fullShare X -∗ holds (U := U) c M { s with A := X })) := by
  unfold holds
  iintro ⟨H0, H1, H2, H3, H4, H5, H6, H7, H8, H9, H10⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_B (s : St F) (X : FVec F S256x128 .f32) : (holds (U := U) (τ := τ) c M s : sProp 𝕄) ⊢ iprop(owns (c : Thread nD τ) M.B fullShare s.B ∗ (owns (c : Thread nD τ) M.B fullShare X -∗ holds (U := U) c M { s with B := X })) := by
  unfold holds
  iintro ⟨H0, H1, H2, H3, H4, H5, H6, H7, H8, H9, H10⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_ws (s : St F) (X : FVec F S1x20480 .f32) : (holds (U := U) (τ := τ) c M s : sProp 𝕄) ⊢ iprop(owns (c : Thread nD τ) M.ws fullShare s.ws ∗ (owns (c : Thread nD τ) M.ws fullShare X -∗ holds (U := U) c M { s with ws := X })) := by
  unfold holds
  iintro ⟨H0, H1, H2, H3, H4, H5, H6, H7, H8, H9, H10⟩
  isplitl [H9]; · iexact H9
  iintro H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem split_cb (s : St F) (X : FVec F S1x20480 .f32) : (holds (U := U) (τ := τ) c M s : sProp 𝕄) ⊢ iprop(owns (c : Thread nD τ) M.cb fullShare s.cb ∗ (owns (c : Thread nD τ) M.cb fullShare X -∗ holds (U := U) c M { s with cb := X })) := by
  unfold holds
  iintro ⟨H0, H1, H2, H3, H4, H5, H6, H7, H8, H9, H10⟩
  isplitl [H10]; · iexact H10
  iintro H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-! ### Blocks -/

section Logits
variable {z : FVec F S256x512 .f32} {b : Fin 8} {oR : Fin 2 → ℕ} {hR : ∀ a, oR a + S32x128.size a ≤ S3840x128.size a}
  {oW : Fin 4 → Fin 2 → ℕ} {hW : ∀ c, ∀ a, oW c a + S1x128.size a ≤ S1x20480.size a}

/-- A block of logits of the loaded row scales, column weights and centres. -/
abbrev tl (s : St F) (z : FVec F S256x512 .f32) (b : Fin 8) {oR : Fin 2 → ℕ} (hR : ∀ a, oR a + S32x128.size a ≤ S3840x128.size a)
    {oW : Fin 4 → Fin 2 → ℕ} (hW : ∀ c, ∀ a, oW c a + S1x128.size a ≤ S1x20480.size a) (c : Fin 4) : FVec F S32x128 .f32 :=
  tlogit z (VecWindow.window s.rep oR S32x128.size hR) (VecWindow.window s.ws (oW c) S1x128.size (hW c)) (VecWindow.window s.cb (oW c) S1x128.size (hW c)) b c

theorem logits_run {α : Type} {k} {s' : St F} {a : α}
    (h : Runs U defs c M (k (tl s z b hR hW 0) (tl s z b hR hW 1) (tl s z b hR hW 2) (tl s z b hR hW 3)) s s' a) :
    Runs U defs c M (logits M.rep M.ws M.cb z b oR hR oW hW k) s s' a := by
  unfold logits
  refine Runs.bind (load_step (split_rep s) _ _) ?_
  refine Runs.bind (load_step (split_ws s s.ws) _ _) ?_
  refine Runs.bind (load_step (split_cb s s.cb) _ _) ?_
  refine Runs.bind (load_step (split_ws s s.ws) _ _) ?_
  refine Runs.bind (load_step (split_cb s s.cb) _ _) ?_
  refine Runs.bind (load_step (split_ws s s.ws) _ _) ?_
  refine Runs.bind (load_step (split_cb s s.cb) _ _) ?_
  refine Runs.bind (load_step (split_ws s s.ws) _ _) ?_
  refine Runs.bind (load_step (split_cb s s.cb) _ _) ?_
  exact h

/-- The loaded column weights, split with the weighted powers of two. -/
abbrev sp (tr : FVec F S32x128 .f32 → FVec F S32x128 .f32) (W : FVec F S1x20480 .f32) {oW : Fin 4 → Fin 2 → ℕ} (hW : ∀ c, ∀ a, oW c a + S1x128.size a ≤ S1x20480.size a)
    (y : Fin 4 → FVec F S32x128 .f32) : HiLo F :=
  split tr (wexp (y 0) (VecWindow.window W (oW 0) S1x128.size (hW 0))) (wexp (y 1) (VecWindow.window W (oW 1) S1x128.size (hW 1)))
    (wexp (y 2) (VecWindow.window W (oW 2) S1x128.size (hW 2))) (wexp (y 3) (VecWindow.window W (oW 3) S1x128.size (hW 3)))

theorem weigh_run (tr : FVec F S32x128 .f32 → FVec F S32x128 .f32) (y : Fin 4 → FVec F S32x128 .f32) :
    Runs U defs c M (weigh tr M.ws oW hW (y 0) (y 1) (y 2) (y 3)) s s (sp tr s.ws hW y) := by
  unfold weigh
  refine Runs.bind (load_step (split_ws s s.ws) _ _) ?_
  refine Runs.bind (load_step (split_ws s s.ws) _ _) ?_
  refine Runs.bind (load_step (split_ws s s.ws) _ _) ?_
  refine Runs.bind (load_step (split_ws s s.ws) _ _) ?_
  exact Runs.ret _
end Logits

/-- An accumulator's place in the state: `upd X` is the state where it holds `X`. -/
def Place (U : Type) [URA U] {F : FTy → Type} [FloatOps F] {nD : ℕ} (τ : Topo) {sig : RefSig} (c : Dev nD) (M : Mem sig)
    (m : Memref sig .tc .vmem S256x128 .f32) (upd : FVec F S256x128 .f32 → St F) : Prop :=
  ∀ X X' : FVec F S256x128 .f32, (holds (U := U) (τ := τ) c M (upd X) : sProp (MT nD τ sig Unit (Elt F) ℕ U ℕ)) ⊢ iprop(owns (c : Thread nD τ) m fullShare X ∗ (owns (c : Thread nD τ) m fullShare X' -∗ holds (U := U) c M (upd X')))

theorem placeA : Place U τ c M M.A (fun X => s.at X B O G) := fun X X' => split_A (s.at X B O G) X'
theorem placeB : Place U τ c M M.B (fun X => s.at A X O G) := fun X X' => split_B (s.at A X O G) X'

theorem update_run {m : Memref sig .tc .vmem S256x128 .f32} {upd : FVec F S256x128 .f32 → St F} (hp : Place U τ c M m upd)
    {b : Fin 8} {f : FVec F S32x128 .f32 → FVec F S32x128 .f32} (X : FVec F S256x128 .f32) (n : S256x128.Idx → F .f32 → F .f32)
    (hn : ∀ y, f (VecWindow.window X ![32 * b.val, 0] S32x128.size (inbA b)) y = n (blkIdx b y) (X (blkIdx b y))) :
    Runs U defs c M (update m b f) (upd X) (upd (VecWindow.put X ![32 * b.val, 0] S32x128.size (fun y : S32x128.Idx => n (blkIdx b y) (X (blkIdx b y))))) ⟨⟩ := by
  unfold update
  refine Runs.bind (load_step (hp X X) _ _) ?_
  refine Runs.bind (load_step (hp X X) _ _) ?_
  rw [shapeCast_self, show f (VecWindow.window X ![32 * b.val, 0] S32x128.size (inbA b)) = (fun y : S32x128.Idx => n (blkIdx b y) (X (blkIdx b y))) from funext hn]
  exact store_step _ (hp X _) _ _

theorem mixes {α : Type} {f : Fin 8 → Prog (TpuEff nD τ sig (Elt F) Λ .tc) α} {q : Fin 8 → α} {upd : FVec F S256x128 .f32 → St F} {n : S256x128.Idx → F .f32 → F .f32}
    (hf : ∀ b X, Runs U defs c M (f b) (upd X) (upd (VecWindow.put X ![32 * b.val, 0] S32x128.size (fun y : S32x128.Idx => n (blkIdx b y) (X (blkIdx b y))))) (q b))
    (X : FVec F S256x128 .f32) (b : Fin 8) : Runs U defs c M (f b) (upd (mix n X b.val)) (upd (mix n X (b.val + 1))) (q b) := by
  have := hf b (mix n X b.val)
  rwa [put_mix] at this

theorem eight_run {f : Fin 8 → Prog (TpuEff nD τ sig (Elt F) Λ .tc) PUnit} {upd : FVec F S256x128 .f32 → St F} (n : S256x128.Idx → F .f32 → F .f32)
    (hf : ∀ b X, Runs U defs c M (f b) (upd X) (upd (VecWindow.put X ![32 * b.val, 0] S32x128.size (fun y : S32x128.Idx => n (blkIdx b y) (X (blkIdx b y))))) ⟨⟩)
    (X : FVec F S256x128 .f32) : Runs U defs c M (eight f) (upd X) (upd fun y => n y (X y)) ⟨⟩ := by
  have hb := mixes (q := fun _ => PUnit.unit) hf X
  rw [← mix_eight]
  have h0 := hb 0
  rw [show mix n X (0 : Fin 8).val = X from mix_zero n X] at h0
  unfold eight
  exact Runs.bind h0 (Runs.bind (hb 1) (Runs.bind (hb 2) (Runs.bind (hb 3) (Runs.bind (hb 4) (Runs.bind (hb 5) (Runs.bind (hb 6) (hb 7)))))))

/-! ### Steps -/

/-- The code tile of row block `i`, the prototype tile of step `j` and their product. -/
def ctile (C : FVec F S3840x256 .fp8e4m3) (i : Fin 15) : FVec F S256x256 .fp8e4m3 :=
  VecWindow.window C ![256 * i.val, 0] S256x256.size (by intro a; have := i.isLt; fin_cases a <;> simp [S256x256, S3840x256]; omega)
def vtile (V : FVec F S20480x256 .fp8e4m3) (j : Fin 40) : FVec F S512x256 .fp8e4m3 := VecWindow.window V ![512 * j.val, 0] S512x256.size (inbV j)
def prod (C : FVec F S3840x256 .fp8e4m3) (V : FVec F S20480x256 .fp8e4m3) (i : Fin 15) (j : Fin 40) : FVec F S256x512 .f32 :=
  matmul dimsZ none (ctile C i) (vtile V j) (constant S256x512 .f32 0x00000000#32)

/-- Column `128 c + y 1` of step `j`. -/
def col (j : Fin 40) (c : Fin 4) (y : S256x128.Idx) : S1x20480.Idx :=
  ValueIdx.ix2 (n0 := 1) (n1 := 20480) 0 ⟨512 * j.val + 128 * c.val + (y 1).val, by have := j.isLt; have := c.isLt; have := ValueIdx.idx2_lt1 (n0 := 256) (n1 := 128) y; omega⟩

/-- The logit in row `y 0` of row block `i` and column `128 c + y 1` of step `j`. -/
def lg (s : St F) (i : Fin 15) (j : Fin 40) (c : Fin 4) (y : S256x128.Idx) : F .f32 :=
  FloatOps.subf (FloatOps.mulf (FloatOps.mulf (prod s.codes s.protos i j (ValueIdx.ix2 (n0 := 256) (n1 := 512) (y 0) ⟨128 * c.val + (y 1).val, by have := c.isLt; have := ValueIdx.idx2_lt1 (n0 := 256) (n1 := 128) y; omega⟩))
      (s.rep (ValueIdx.ix2 (n0 := 3840) (n1 := 128) ⟨256 * i.val + (y 0).val, by have := i.isLt; have := ValueIdx.idx2_lt0 (n0 := 256) (n1 := 128) y; omega⟩ (y 1))))
    (s.ws (col j c y))) (s.cb (col j c y))

/-- A loaded block of columns at an element. -/
theorem bcast_eq (W : FVec F S1x20480 .f32) (j : Fin 40) (c : Fin 4) (b : Fin 8) {oW : Fin 2 → ℕ} {hW : ∀ a, oW a + S1x128.size a ≤ S1x20480.size a}
    (eW : oW = ![0, 512 * j.val + 128 * c.val]) (y : S32x128.Idx) :
    broadcastTo S32x128 (VecWindow.window W oW S1x128.size hW) bcast_w y = W (col j c (blkIdx b y)) := by
  subst eW
  have b1 := blkIdx1 b y
  refine (broadcastTo_apply _ _ y (ValueIdx.ix2 (n0 := 1) (n1 := 128) 0 (y 1)) fun a => by
      match a with
      | ⟨0, _⟩ => rfl
      | ⟨1, _⟩ => rfl).trans ?_
  unfold VecWindow.window
  exact congrArg W (emb2 (n0 := 1) (n1 := 20480) hW _ _ _ rfl (by show 512 * j.val + 128 * c.val + (y 1).val = 512 * j.val + 128 * c.val + (blkIdx b y 1).val; omega))

theorem tl_eq (s : St F) (i : Fin 15) (j : Fin 40) (c : Fin 4) (b : Fin 8) {oR : Fin 2 → ℕ} {hR : ∀ a, oR a + S32x128.size a ≤ S3840x128.size a}
    {oW : Fin 4 → Fin 2 → ℕ} {hW : ∀ c, ∀ a, oW c a + S1x128.size a ≤ S1x20480.size a}
    (eR : oR = ![256 * i.val + 32 * b.val, 0]) (eW : ∀ c : Fin 4, oW c = ![0, 512 * j.val + 128 * c.val]) (y : S32x128.Idx) :
    tl s (prod s.codes s.protos i j) b hR hW c y = lg s i j c (blkIdx b y) := by
  subst eR
  have h1 := ValueIdx.idx2_lt1 (n0 := 32) (n1 := 128) y
  have h0 := ValueIdx.idx2_lt0 (n0 := 32) (n1 := 128) y
  have b0 := blkIdx0 b y
  have b1 := blkIdx1 b y
  unfold tl tlogit logit lg
  rw [shapeCast_self]
  show FloatOps.subf (FloatOps.mulf (FloatOps.mulf _ _) (broadcastTo S32x128 _ _ y)) (broadcastTo S32x128 _ _ y) = _
  rw [bcast_eq s.ws j c b (eW c), bcast_eq s.cb j c b (eW c)]
  congr 3
  · exact extractStridedSlice_apply _ _ _ _ _ fun a => by
        match a with
        | ⟨0, _⟩ => exact b0
        | ⟨1, _⟩ => show 128 * c.val + (blkIdx b y 1).val = 128 * c.val + (y 1).val; omega
  · unfold VecWindow.window
    exact congrArg s.rep (emb2 (n0 := 3840) (n1 := 128) hR y _ _ (by show _ = 256 * i.val + (blkIdx b y 0).val; omega) (by rw [b1]; omega))

/-- What a step adds to an accumulator's element, of the powers' exponents. -/
def accN (E : Fin 4 → S256x128.Idx → F .f32) (y : S256x128.Idx) (a : F .f32) : F .f32 :=
  FloatOps.addf a (FloatOps.addf (FloatOps.addf (FloatOps.exp2 (E 0 y)) (FloatOps.exp2 (E 1 y))) (FloatOps.addf (FloatOps.exp2 (E 2 y)) (FloatOps.exp2 (E 3 y))))
def maxN (s : St F) (i : Fin 15) (j : Fin 40) (y : S256x128.Idx) (a : F .f32) : F .f32 :=
  FloatOps.maximumf a (FloatOps.maximumf (FloatOps.maximumf (lg s i j 0 y) (lg s i j 1 y)) (FloatOps.maximumf (lg s i j 2 y) (lg s i j 3 y)))
/-- The logits less the row maxima. -/
def lgm (s : St F) (m : FVec F S256x128 .f32) (i : Fin 15) (j : Fin 40) (c : Fin 4) (y : S256x128.Idx) : F .f32 := FloatOps.subf (lg s i j c y) (m y)

/-- The weighted power of two in row `z 0` and column `z 1` of step `j`. -/
def wval (W : FVec F S1x20480 .f32) (j : Fin 40) (E : Fin 4 → S256x128.Idx → F .f32) (z : S256x512.Idx) : F .f32 :=
  let c : Fin 4 := ⟨(z 1).val / 128, by have := ValueIdx.idx2_lt1 (n0 := 256) (n1 := 512) z; omega⟩
  let y : S256x128.Idx := ValueIdx.ix2 (n0 := 256) (n1 := 128) (z 0) ⟨(z 1).val % 128, Nat.mod_lt _ (by decide)⟩
  FloatOps.mulf (FloatOps.exp2 (E c y)) (W (col j c y))

/-- A step's products, of the powers' exponents. -/
def dg (t : F .f32 → F .f32) (V : FVec F S20480x256 .fp8e4m3) (W : FVec F S1x20480 .f32) (j : Fin 40) (E : Fin 4 → S256x128.Idx → F .f32) : FVec F S256x256 .f32 :=
  addf (gdot (fun z => t (wval W j E z)) (vtile V j)) (gdot (fun z => FloatOps.subf (wval W j E z) (t (wval W j E z))) (vtile V j))

theorem stack_eq (f : Fin 8 → FVec F S32x512 .f32) (g : FVec F S256x512 .f32)
    (h : ∀ (b : Fin 8) (u : S32x512.Idx) (z : S256x512.Idx), (z 0).val = 32 * b.val + (u 0).val → (z 1).val = (u 1).val → f b u = g z) :
    stack (f 0) (f 1) (f 2) (f 3) (f 4) (f 5) (f 6) (f 7) = g := by
  funext z
  have h0 := ValueIdx.idx2_lt0 (n0 := 256) (n1 := 512) z
  have h1 := ValueIdx.idx2_lt1 (n0 := 256) (n1 := 512) z
  let b : Fin 8 := ⟨(z 0).val / 32, by omega⟩
  let u : S32x512.Idx := ValueIdx.ix2 (n0 := 32) (n1 := 512) ⟨(z 0).val % 32, Nat.mod_lt _ (by decide)⟩ (z 1)
  refine Eq.trans ?_ (h b u z (by show _ = 32 * ((z 0).val / 32) + (z 0).val % 32; omega) rfl)
  unfold stack
  exact concatenate_ofFn_apply (t := S256x512) (s₁ := S32x512) (0 : Fin 2) f concat_rows rfl 32 rfl z b rfl u rfl fun a ha => by
    match a with
    | ⟨0, _⟩ => exact absurd rfl ha
    | ⟨1, _⟩ => rfl

theorem cols_eq (f : Fin 4 → FVec F S32x128 .f32) (u : S32x512.Idx) (c : Fin 4) (v : S32x128.Idx) (h0 : (v 0).val = (u 0).val) (h1 : (u 1).val = 128 * c.val + (v 1).val) :
    concatenate S32x512 1 [⟨S32x128, f 0⟩, ⟨S32x128, f 1⟩, ⟨S32x128, f 2⟩, ⟨S32x128, f 3⟩] concat_cols u = f c v := by
  have hv := ValueIdx.idx2_lt1 (n0 := 32) (n1 := 128) v
  exact concatenate_ofFn_apply (t := S32x512) (s₁ := S32x128) (1 : Fin 2) f concat_cols rfl 128 rfl u c (by omega) v (by show (v 1).val = (u 1).val % 128; omega) fun a ha => by
    match a with
    | ⟨0, _⟩ => exact h0
    | ⟨1, _⟩ => exact absurd rfl ha

section Prods
variable {tr : FVec F S32x128 .f32 → FVec F S32x128 .f32} {t : F .f32 → F .f32} {W : FVec F S1x20480 .f32} {j : Fin 40} {E : Fin 4 → S256x128.Idx → F .f32}
  {oW : Fin 4 → Fin 2 → ℕ} {hW : ∀ c, ∀ a, oW c a + S1x128.size a ≤ S1x20480.size a} {y : Fin 8 → Fin 4 → FVec F S32x128 .f32}

theorem wexp_eq (eW : ∀ c : Fin 4, oW c = ![0, 512 * j.val + 128 * c.val]) (hy : ∀ b c u, y b c u = E c (blkIdx b u))
    (b : Fin 8) (c : Fin 4) (v : S32x128.Idx) (u : S32x512.Idx) (z : S256x512.Idx) (e0 : (v 0).val = (u 0).val) (e1 : (u 1).val = 128 * c.val + (v 1).val)
    (hz0 : (z 0).val = 32 * b.val + (u 0).val) (hz1 : (z 1).val = (u 1).val) :
    wexp (y b c) (VecWindow.window W (oW c) S1x128.size (hW c)) v = wval W j E z := by
  have hv := ValueIdx.idx2_lt1 (n0 := 32) (n1 := 128) v
  unfold wexp wval
  show FloatOps.mulf (FloatOps.exp2 (y b c v)) (broadcastTo S32x128 _ _ v) = _
  rw [bcast_eq W j c b (eW c), hy]
  have ec : (⟨(z 1).val / 128, by have := ValueIdx.idx2_lt1 (n0 := 256) (n1 := 512) z; omega⟩ : Fin 4) = c := Fin.ext (by show (z 1).val / 128 = c.val; omega)
  have ey : (ValueIdx.ix2 (n0 := 256) (n1 := 128) (z 0) ⟨(z 1).val % 128, Nat.mod_lt _ (by decide)⟩ : S256x128.Idx) = blkIdx b v := by
    refine Eq.trans ?_ (ValueIdx.eq_ix2 (n0 := 256) (n1 := 128) (blkIdx b v)).symm
    have b0 := blkIdx0 b v
    have b1 := blkIdx1 b v
    exact congrArg₂ (ValueIdx.ix2 (n0 := 256) (n1 := 128)) (Fin.ext (by omega)) (Fin.ext (by show (z 1).val % 128 = (blkIdx b v 1).val; omega))
  dsimp only
  rw [ec, ey]

theorem sp_eq (htr : ∀ p u, tr p u = t (p u)) (eW : ∀ c : Fin 4, oW c = ![0, 512 * j.val + 128 * c.val]) (hy : ∀ b c u, y b c u = E c (blkIdx b u))
    (b : Fin 8) (u : S32x512.Idx) (z : S256x512.Idx) (hz0 : (z 0).val = 32 * b.val + (u 0).val) (hz1 : (z 1).val = (u 1).val) :
    (sp tr W hW (y b)).hi u = t (wval W j E z) ∧ (sp tr W hW (y b)).lo u = FloatOps.subf (wval W j E z) (t (wval W j E z)) := by
  have h0 := ValueIdx.idx2_lt0 (n0 := 32) (n1 := 512) u
  have h1 := ValueIdx.idx2_lt1 (n0 := 32) (n1 := 512) u
  let c : Fin 4 := ⟨(u 1).val / 128, by omega⟩
  let v : S32x128.Idx := ValueIdx.ix2 (n0 := 32) (n1 := 128) (u 0) ⟨(u 1).val % 128, Nat.mod_lt _ (by decide)⟩
  have e1 : (u 1).val = 128 * c.val + (v 1).val := by show _ = 128 * ((u 1).val / 128) + (u 1).val % 128; omega
  have hw := wexp_eq (W := W) (hW := hW) eW hy b c v u z rfl e1 hz0 hz1
  refine ⟨(cols_eq (fun c => tr (wexp (y b c) (VecWindow.window W (oW c) S1x128.size (hW c)))) u c v rfl e1).trans ?_,
    (cols_eq (fun c => subf (wexp (y b c) (VecWindow.window W (oW c) S1x128.size (hW c))) (tr (wexp (y b c) (VecWindow.window W (oW c) S1x128.size (hW c))))) u c v rfl e1).trans ?_⟩
  · rw [htr, hw]
  · show FloatOps.subf (wexp (y b c) _ v) (tr _ v) = _
    rw [htr, hw]

theorem dg_eq (htr : ∀ p u, tr p u = t (p u)) (eW : ∀ c : Fin 4, oW c = ![0, 512 * j.val + 128 * c.val]) (hy : ∀ b c u, y b c u = E c (blkIdx b u)) (V : FVec F S20480x256 .fp8e4m3) :
    (let q := fun b => sp tr W hW (y b)
     addf (gdot (stack (q 0).hi (q 1).hi (q 2).hi (q 3).hi (q 4).hi (q 5).hi (q 6).hi (q 7).hi) (vtile V j)) (gdot (stack (q 0).lo (q 1).lo (q 2).lo (q 3).lo (q 4).lo (q 5).lo (q 6).lo (q 7).lo) (vtile V j))) = dg t V W j E := by
  unfold dg
  dsimp only
  rw [stack_eq (fun b => (sp tr W hW (y b)).hi) (fun z => t (wval W j E z)) fun b u z h0 h1 => (sp_eq htr eW hy b u z h0 h1).1,
    stack_eq (fun b => (sp tr W hW (y b)).lo) (fun z => FloatOps.subf (wval W j E z) (t (wval W j E z))) fun b u z h0 h1 => (sp_eq htr eW hy b u z h0 h1).2]
end Prods

section Step

variable {i : Fin 15} {j : Fin 40} {oC : Fin 2 → ℕ} {hC : ∀ a, oC a + S256x256.size a ≤ S3840x256.size a} {oV : Fin 2 → ℕ} {hV : ∀ a, oV a + S512x256.size a ≤ S20480x256.size a}
  {oR : Fin 8 → Fin 2 → ℕ} {hR : ∀ b a, oR b a + S32x128.size a ≤ S3840x128.size a}
  {oW : Fin 4 → Fin 2 → ℕ} {hW : ∀ c a, oW c a + S1x128.size a ≤ S1x20480.size a}

theorem tile_run {f : FVec F S256x512 .f32 → Fin 8 → Prog (TpuEff nD τ sig (Elt F) Λ .tc) PUnit} {s' : St F}
    (eC : oC = ![256 * i.val, 0]) (eV : oV = ![512 * j.val, 0])
    (h : Runs U defs c M (eight (f (prod s.codes s.protos i j))) s s' ⟨⟩) : Runs U defs c M (tile M.codes M.protos oC hC oV hV f) s s' ⟨⟩ := by
  subst eC eV
  unfold tile
  refine Runs.bind (load_step (split_codes s) _ _) ?_
  refine Runs.bind (load_step (split_protos s) _ _) ?_
  rw [shapeCast_self]
  exact h

theorem gtile_run {f : FVec F S256x512 .f32 → Fin 8 → Prog (TpuEff nD τ sig (Elt F) Λ .tc) (HiLo F)} {q : Fin 8 → HiLo F} (n : S256x128.Idx → F .f32 → F .f32)
    (eC : oC = ![256 * i.val, 0]) (eV : oV = ![512 * j.val, 0])
    (hf : ∀ b X, Runs U defs c M (f (prod s.codes s.protos i j) b) (s.at X B O G) (s.at (VecWindow.put X ![32 * b.val, 0] S32x128.size (fun y : S32x128.Idx => n (blkIdx b y) (X (blkIdx b y)))) B O G) (q b))
    (X : FVec F S256x128 .f32) : Runs U defs c M (gtile M.codes M.protos oC hC oV hV f) (s.at X B O G) (s.at (fun y => n y (X y)) B O G)
      (addf (gdot (stack (q 0).hi (q 1).hi (q 2).hi (q 3).hi (q 4).hi (q 5).hi (q 6).hi (q 7).hi) (vtile s.protos j)) (gdot (stack (q 0).lo (q 1).lo (q 2).lo (q 3).lo (q 4).lo (q 5).lo (q 6).lo (q 7).lo) (vtile s.protos j))) := by
  subst eC eV
  have hb := mixes (upd := fun X => s.at X B O G) hf X
  have h0 := hb 0
  rw [show mix n X (0 : Fin 8).val = X from mix_zero n X] at h0
  rw [← mix_eight n X]
  unfold gtile
  refine Runs.bind (load_step (split_codes (s.at X B O G)) _ _) ?_
  refine Runs.bind (load_step (split_protos (s.at X B O G)) _ _) ?_
  rw [shapeCast_self]
  refine Runs.bind h0 (Runs.bind (hb 1) (Runs.bind (hb 2) (Runs.bind (hb 3) (Runs.bind (hb 4) (Runs.bind (hb 5) (Runs.bind (hb 6) (Runs.bind (hb 7) ?_)))))))
  exact Runs.bind (load_step (split_protos (s.at (mix n X 8) B O G)) _ _) (Runs.ret _)

variable {tr : FVec F S32x128 .f32 → FVec F S32x128 .f32} {t : F .f32 → F .f32}

theorem accStep (htr : ∀ p u, tr p u = t (p u)) (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (gtile M.codes M.protos oC hC oV hV fun z b => accBlk tr M.rep M.ws M.cb M.A z b (oR b) (hR b) oW hW)
      (s.at X B O G) (s.at (fun y => accN (lg s i j) y (X y)) B O G) (dg t s.protos s.ws j (lg s i j)) := by
  have hy : ∀ b c u, tl s (prod s.codes s.protos i j) b (hR b) hW c u = lg s i j c (blkIdx b u) := fun b c u => tl_eq s i j c b (eR b) eW u
  rw [← dg_eq (y := fun b c => tl s (prod s.codes s.protos i j) b (hR b) hW c) htr eW hy s.protos]
  refine gtile_run (q := fun b => sp tr s.ws hW fun c => tl s (prod s.codes s.protos i j) b (hR b) hW c) (accN (lg s i j)) eC eV (fun b X => ?_) X
  refine logits_run ?_
  refine Runs.bind (update_run placeA X (accN (lg s i j)) fun y => ?_) (weigh_run tr fun c => tl s (prod s.codes s.protos i j) b (hR b) hW c)
  show FloatOps.addf _ (FloatOps.addf (FloatOps.addf (FloatOps.exp2 (tl s (prod s.codes s.protos i j) b (hR b) hW 0 y)) (FloatOps.exp2 (tl s (prod s.codes s.protos i j) b (hR b) hW 1 y))) (FloatOps.addf (FloatOps.exp2 (tl s (prod s.codes s.protos i j) b (hR b) hW 2 y)) (FloatOps.exp2 (tl s (prod s.codes s.protos i j) b (hR b) hW 3 y)))) = _
  rw [hy, hy, hy, hy]
  rfl

theorem maxStep (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (tile M.codes M.protos oC hC oV hV fun z b => maxBlk M.rep M.ws M.cb M.B z b (oR b) (hR b) oW hW)
      (s.at A X O G) (s.at A (fun y => maxN s i j y (X y)) O G) ⟨⟩ := by
  have hy : ∀ b c u, tl s (prod s.codes s.protos i j) b (hR b) hW c u = lg s i j c (blkIdx b u) := fun b c u => tl_eq s i j c b (eR b) eW u
  refine tile_run (s := s.at A X O G) (i := i) (j := j) eC eV (eight_run (upd := fun X => s.at A X O G) (maxN s i j) (fun b X => ?_) X)
  refine logits_run (update_run placeB X (maxN s i j) fun y => ?_)
  show FloatOps.maximumf _ (FloatOps.maximumf (FloatOps.maximumf (tl s (prod s.codes s.protos i j) b (hR b) hW 0 y) (tl s (prod s.codes s.protos i j) b (hR b) hW 1 y)) (FloatOps.maximumf (tl s (prod s.codes s.protos i j) b (hR b) hW 2 y) (tl s (prod s.codes s.protos i j) b (hR b) hW 3 y))) = _
  rw [hy, hy, hy, hy]
  rfl

theorem subStep (htr : ∀ p u, tr p u = t (p u)) (eC : oC = ![256 * i.val, 0]) (eV : oV = ![512 * j.val, 0]) (eR : ∀ b : Fin 8, oR b = ![256 * i.val + 32 * b.val, 0]) (eW : ∀ c : Fin 4, oW c = ![0, 512 * j.val + 128 * c.val]) (X : FVec F S256x128 .f32) :
    Runs U defs c M (gtile M.codes M.protos oC hC oV hV fun z b => subBlk tr M.rep M.ws M.cb M.A M.B z b (oR b) (hR b) oW hW)
      (s.at X B O G) (s.at (fun y => accN (lgm s B i j) y (X y)) B O G) (dg t s.protos s.ws j (lgm s B i j)) := by
  have hy : ∀ (b : Fin 8) (c : Fin 4) (u : S32x128.Idx), subf (tl s (prod s.codes s.protos i j) b (hR b) hW c) (VecWindow.window B ![32 * b.val, 0] S32x128.size (inbA b) : FVec F S32x128 .f32) u = lgm s B i j c (blkIdx b u) := fun b c u => by
    show FloatOps.subf _ (B (blkIdx b u)) = FloatOps.subf _ (B (blkIdx b u))
    rw [← tl_eq s i j c b (eR b) eW u]
  rw [← dg_eq (y := fun b c => subf (tl s (prod s.codes s.protos i j) b (hR b) hW c) (VecWindow.window B ![32 * b.val, 0] S32x128.size (inbA b) : FVec F S32x128 .f32)) htr eW hy s.protos]
  refine gtile_run (q := fun b => sp tr s.ws hW fun c => subf (tl s (prod s.codes s.protos i j) b (hR b) hW c) (VecWindow.window B ![32 * b.val, 0] S32x128.size (inbA b) : FVec F S32x128 .f32)) (accN (lgm s B i j)) eC eV (fun b X => ?_) X
  refine logits_run ?_
  refine Runs.bind (load_step (split_B _ B) _ _) ?_
  refine Runs.bind (load_step (split_B _ B) _ _) ?_
  refine Runs.bind (load_step (split_B _ B) _ _) ?_
  refine Runs.bind (load_step (split_B _ B) _ _) ?_
  refine Runs.bind (update_run placeA X (accN (lgm s B i j)) fun y => ?_) (weigh_run tr fun c => subf (tl s (prod s.codes s.protos i j) b (hR b) hW c) (VecWindow.window B ![32 * b.val, 0] S32x128.size (inbA b) : FVec F S32x128 .f32))
  have h4 : ∀ c : Fin 4, _ := fun c => hy b c y
  unfold accN
  rw [← h4 0, ← h4 1, ← h4 2, ← h4 3]
  rfl

end Step

/-- The two running sums of the products after `n + 2` steps. -/
def gAt (D : Fin 40 → FVec F S256x256 .f32) : ℕ → FVec F S256x256 .f32 × FVec F S256x256 .f32
  | 0 => (D 0, D 1)
  | n + 1 => ((gAt D n).2, addf (gAt D n).1 (if h : n + 2 < 40 then D ⟨n + 2, h⟩ else D 0))

/-- The steps after the first two. -/
theorem gsteps_run {α : Type} {f : Fin 40 → Prog (TpuEff nD τ sig (Elt F) Λ .tc) (FVec F S256x256 .f32)} {D : Fin 40 → FVec F S256x256 .f32}
    {K : FVec F S256x256 .f32 → FVec F S256x256 .f32 → Prog (TpuEff nD τ sig (Elt F) Λ .tc) α} {T : ℕ → St F} {s' : St F} {a : α}
    (hf : ∀ j : Fin 40, Runs U defs c M (f j) (T j.val) (T (j.val + 1)) (D j)) (hK : Runs U defs c M (K (gAt D 38).1 (gAt D 38).2) (T 40) s' a) :
    ∀ n m (h : n + (m + 2) = 40), Runs U defs c M (gsteps f K n (m + 2) h (gAt D m).1 (gAt D m).2) (T (m + 2)) s' a
  | 0, m, h => by obtain rfl : m = 38 := by omega
                  exact hK
  | n + 1, m, h => by
    have hm : m + 2 < 40 := by omega
    refine Runs.bind (hf ⟨m + 2, hm⟩) ?_
    have := gsteps_run hf hK n (m + 1) (by omega)
    rw [show gAt D (m + 1) = ((gAt D m).2, addf (gAt D m).1 (D ⟨m + 2, hm⟩)) from by rw [gAt, dif_pos hm]] at this
    exact this

/-! ### Fills, halves, rows of results and products -/

theorem fill_run {m : Memref sig .tc .vmem S256x128 .f32} {upd : FVec F S256x128 .f32 → St F} (hp : Place U τ c M m upd) (x : BitVec 32) (X : FVec F S256x128 .f32) :
    Runs U defs c M (fill m x) (upd X) (upd fun _ => FloatOps.ofBits .f32 x) ⟨⟩ := by
  unfold fill
  refine Runs.bind (load_step (hp X X) _ _) ?_
  rw [shapeCast_self]
  have := store_step (defs := defs) (off := ![0, 0]) (size := S256x128.size) inbAll (hp X (VecWindow.put X ![0, 0] S256x128.size _)) (View.stores_vmem_bits_univ pos_S256x128 rfl) (.inl rfl)
    (w := (broadcast S256x128 (Scalar.ofBits .f32 x : F .f32) : FVec F S256x128 .f32))
  rw [put_all] at this
  exact this

theorem spreadMax_run (X : FVec F S256x128 .f32) : Runs U defs c M (spreadMax M.B) (s.at A X O G) (s.at A (spread X) O G) ⟨⟩ := by
  unfold spreadMax
  refine Runs.bind (load_step (placeB X X) _ _) ?_
  refine Runs.bind (load_step (placeB X X) _ _) ?_
  rw [shapeCast_self, window_all]
  have := store_step (U := U) (τ := τ) (c := c) (M := M) (defs := defs) (off := ![0, 0]) (size := S256x128.size) inbAll (placeB (s := s) (A := A) (O := O) (G := G) X (VecWindow.put X ![0, 0] S256x128.size _)) (View.stores_vmem_bits_univ pos_S256x128 rfl) (.inl rfl)
    (w := spread X)
  rw [put_all] at this
  exact this

theorem half_run {m : Memref sig .tc .vmem S256x128 .f32} {upd : FVec F S256x128 .f32 → St F} (hp : Place U τ c M m upd) (h : Fin 2) (X : FVec F S256x128 .f32) :
    Runs U defs c M (half m h) (upd X) (upd X) (halfOf X h) := load_step (hp X X) _ _

/-- The results with row `k` replaced. -/
def setRow (O : FVec F S30x1x128 .f32) (k : ℕ) (x : FVec F S1x128 .f32) : FVec F S30x1x128 .f32 :=
  fun y => if (y 0).val = k then x (ValueIdx.ix2 (n0 := 1) (n1 := 128) 0 (y 2)) else O y

theorem put_row (O : FVec F S30x1x128 .f32) (k : ℕ) (x : FVec F S1x128 .f32) :
    VecWindow.put O ![k, 0, 0] S1x1x128.size (shapeCast S1x1x128 x cast_lane : S1x1x128.Idx → F .f32) = setRow O k x := by
  funext y
  unfold VecWindow.put setRow
  have h1 : (y 1).val < 1 := (y 1).isLt
  have h2 : (y 2).val < 128 := (y 2).isLt
  split
  · next h =>
    have h0 : k ≤ (y 0).val ∧ (y 0).val < k + 1 := h 0
    rw [if_pos (by omega)]
    refine shapeCast_apply _ _ _ _ ?_
    refine (Shape.rowMajor_val_two (d := ![1, 128]) _).trans (Eq.trans ?_ (Shape.rowMajor_val_three (d := ![1, 1, 128]) _).symm)
    show 0 * 128 + (y 2).val = (((y 0).val - k) * 1 + ((y 1).val - 0)) * 128 + ((y 2).val - 0)
    omega
  · next h =>
    refine (if_neg fun hk => h fun a => ?_).symm
    match a with
    | ⟨0, _⟩ => exact ⟨hk.ge, by show (y 0).val < k + 1; omega⟩
    | ⟨1, _⟩ => exact ⟨Nat.zero_le _, by show (y 1).val < 0 + 1; omega⟩
    | ⟨2, _⟩ => exact ⟨Nat.zero_le _, by show (y 2).val < 0 + 128; omega⟩

theorem storeRow_run {oO hO} {k : ℕ} (e : oO = ![k, 0, 0]) (x : FVec F S1x128 .f32) :
    Runs U defs c M (storeRow M.out oO hO x) (s.at A B O G) (s.at A B (setRow O k x) G) ⟨⟩ := by
  subst e
  unfold storeRow
  refine Runs.bind (load_step (split_out _ O) _ _) ?_
  rw [← put_row]
  exact store_step _ (split_out (s.at A B O G) _) _ _

/-- The products with row block `i` replaced. -/
def setG (G : FVec F S3840x256 .f32) (i : Fin 15) (x : FVec F S256x256 .f32) : FVec F S3840x256 .f32 :=
  fun y => if (y 0).val / 256 = i.val then x (ValueIdx.ix2 (n0 := 256) (n1 := 256) ⟨(y 0).val % 256, Nat.mod_lt _ (by decide)⟩ (y 1)) else G y

theorem setG_setG (G : FVec F S3840x256 .f32) (i : Fin 15) (x x' : FVec F S256x256 .f32) : setG (setG G i x) i x' = setG G i x' := by
  funext y; unfold setG; split_ifs <;> rfl

theorem put_G (G : FVec F S3840x256 .f32) (i : Fin 15) (x : FVec F S256x256 .f32) : VecWindow.put G ![256 * i.val, 0] S256x256.size (x : S256x256.Idx → F .f32) = setG G i x := by
  funext y
  unfold VecWindow.put setG
  have h1 := ValueIdx.idx2_lt1 (n0 := 3840) (n1 := 256) y
  split
  · next h =>
    have h0 : 256 * i.val ≤ (y 0).val ∧ (y 0).val < 256 * i.val + 256 := h 0
    rw [if_pos (by omega)]
    refine congrArg x (funext fun a => Fin.ext ?_)
    rw [Rect.unitLocal_val]
    match a with
    | ⟨0, _⟩ => show (y 0).val - 256 * i.val = (y 0).val % 256; omega
    | ⟨1, _⟩ => rfl
  · next h =>
    refine (if_neg fun hk => h fun a => ?_).symm
    match a with
    | ⟨0, _⟩ => exact ⟨by show 256 * i.val ≤ (y 0).val; omega, by show (y 0).val < 256 * i.val + 256; omega⟩
    | ⟨1, _⟩ => exact ⟨Nat.zero_le _, by show (y 1).val < 0 + 256; omega⟩

theorem window_G (G : FVec F S3840x256 .f32) (i : Fin 15) (x : FVec F S256x256 .f32) (inb) : VecWindow.window (setG G i x) ![256 * i.val, 0] S256x256.size inb = x := by
  funext y
  have h0 := ValueIdx.idx2_lt0 (n0 := 256) (n1 := 256) y
  have hi := i.isLt
  unfold VecWindow.window
  rw [emb2 (n0 := 3840) (n1 := 256) inb y ⟨256 * i.val + (y 0).val, by omega⟩ (y 1) rfl (by omega)]
  unfold setG
  rw [if_pos (by show (256 * i.val + (y 0).val) / 256 = i.val; omega)]
  refine congrArg x (Eq.trans ?_ (ValueIdx.eq_ix2 (n0 := 256) (n1 := 256) y).symm)
  exact congrArg₂ (ValueIdx.ix2 (n0 := 256) (n1 := 256)) (Fin.ext (by show (256 * i.val + (y 0).val) % 256 = (y 0).val; omega)) rfl

theorem storeG_run {i : Fin 15} {oG hG} (e : oG = ![256 * i.val, 0]) (x : FVec F S256x256 .f32) :
    Runs U defs c M (storeG M.G oG hG x) (s.at A B O G) (s.at A B O (setG G i x)) ⟨⟩ := by
  subst e
  unfold storeG
  refine Runs.bind (load_step (split_G _ G) _ _) ?_
  rw [← put_G]
  exact store_step _ (split_G (s.at A B O G) _) _ _

theorem addG_run {i : Fin 15} {oG hG} (e : oG = ![256 * i.val, 0]) (x d : FVec F S256x256 .f32) :
    Runs U defs c M (addG M.G oG hG d) (s.at A B O (setG G i x)) (s.at A B O (setG G i (addf x d))) ⟨⟩ := by
  subst e
  unfold addG
  refine Runs.bind (load_step (split_G (s.at A B O (setG G i x)) (setG G i x)) _ _) ?_
  rw [shapeCast_self]
  have := storeG_run (U := U) (τ := τ) (defs := defs) (c := c) (M := M) (s := s) (A := A) (B := B) (O := O) (G := setG G i x) (i := i) (hG := hG) rfl (addf x d)
  rw [setG_setG] at this
  rw [show (VecWindow.window (s.at A B O (setG G i x)).G ![256 * i.val, 0] S256x256.size hG) = x from window_G G i x hG]
  exact this

/-- The column weights and the centre times the constant. -/
theorem scaleW_run (cT : F .f32) : Runs U defs c M (scaleW M.w M.ws cT) s { s with ws := fun y => FloatOps.mulf (s.w y) cT } ⟨⟩ := by
  unfold scaleW
  refine Runs.bind (load_step (split_w s) _ _) ?_
  refine Runs.bind (load_step (split_ws s s.ws) _ _) ?_
  rw [shapeCast_self, shapeCast_self, window_wall]
  have := store_step (U := U) (τ := τ) (c := c) (M := M) (defs := defs) (off := ![0, 0]) (size := S1x20480.size) inbWAll (split_ws s (VecWindow.put s.ws ![0, 0] S1x20480.size _)) (View.stores_vmem_bits_univ pos_S1x20480 rfl) (.inl rfl)
    (w := (mulf s.w (broadcast S1x20480 cT) : FVec F S1x20480 .f32))
  rw [put_wall] at this
  exact this

theorem scaleC_run (cT : F .f32) : Runs U defs c M (scaleW M.cen M.cb cT) s { s with cb := fun y => FloatOps.mulf (s.cen y) cT } ⟨⟩ := by
  unfold scaleW
  refine Runs.bind (load_step (split_cen s) _ _) ?_
  refine Runs.bind (load_step (split_cb s s.cb) _ _) ?_
  rw [shapeCast_self, shapeCast_self, window_wall]
  have := store_step (U := U) (τ := τ) (c := c) (M := M) (defs := defs) (off := ![0, 0]) (size := S1x20480.size) inbWAll (split_cb s (VecWindow.put s.cb ![0, 0] S1x20480.size _)) (View.stores_vmem_bits_univ pos_S1x20480 rfl) (.inl rfl)
    (w := (mulf s.cen (broadcast S1x20480 cT) : FVec F S1x20480 .f32))
  rw [put_wall] at this
  exact this

end Steps

end Cert.Teacher

end
-- ==== Proof.TWhole.lean ====
/-
  The teacher's whole body by values: a row block, its second pass, the fifteen row blocks, and what the sums and the
  products then hold.
-/
module

public import proofs.«01_k».proof.Proof.TSteps
public import proofs.«01_k».proof.Proof.Whole

@[expose] public section

noncomputable section

namespace Cert.Teacher

open Cert.Student (S20480x256 S1x20480 S1x1x128 S256x128 S256x256 S32x128 S1x128 rowSum badOf badSum spread halfOf sumOf Bad scaleW)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Values

variable {F : FTy → Type} [FloatOps F]

/-- The accumulator after `j` accumulate steps of the exponents `E`. -/
def accAt (E : Fin 40 → Fin 4 → S256x128.Idx → F .f32) : ℕ → FVec F S256x128 .f32
  | 0 => fun _ => FloatOps.ofBits .f32 0x00000000#32
  | j + 1 => if h : j < 40 then fun y => accN (E ⟨j, h⟩) y (accAt E j y) else accAt E j

/-- The lane maxima after `j` maximum steps. -/
def maxAt (s : St F) (i : Fin 15) : ℕ → FVec F S256x128 .f32
  | 0 => fun _ => FloatOps.ofBits .f32 0xFF800000#32
  | j + 1 => if h : j < 40 then fun y => maxN s i ⟨j, h⟩ y (maxAt s i j y) else maxAt s i j

/-- The row maxima of row block `i`, in every lane. -/
def rowMax (s : St F) (i : Fin 15) : FVec F S256x128 .f32 := spread (maxAt s i 40)

/-- The products of the second pass after `j` steps. -/
def gsub (D : Fin 40 → FVec F S256x256 .f32) : ℕ → FVec F S256x256 .f32
  | 0 => (broadcast S256x256 (Scalar.ofBits .f32 0x00000000#32 : F .f32) : FVec F S256x256 .f32)
  | j + 1 => if h : j < 40 then addf (gsub D j) (D ⟨j, h⟩) else gsub D j

/-- The sums of the two passes. -/
def acc1 (s : St F) (i : Fin 15) : FVec F S256x128 .f32 := accAt (lg s i) 40
def acc2 (s : St F) (i : Fin 15) : FVec F S256x128 .f32 := accAt (lgm s (rowMax s i) i) 40

/-- The products of the two passes. -/
def g1 (t : F .f32 → F .f32) (s : St F) (i : Fin 15) : FVec F S256x256 .f32 :=
  addf (gAt (fun j => dg t s.protos s.ws j (lg s i j)) 38).1 (gAt (fun j => dg t s.protos s.ws j (lg s i j)) 38).2
def g2 (t : F .f32 → F .f32) (s : St F) (i : Fin 15) : FVec F S256x256 .f32 := gsub (fun j => dg t s.protos s.ws j (lgm s (rowMax s i) i j)) 40

/-- The two rows of row block `i` replaced. -/
def setRows (O : FVec F S30x1x128 .f32) (i : Fin 15) (x : Fin 2 → FVec F S1x128 .f32) : FVec F S30x1x128 .f32 :=
  setRow (setRow O (2 * i.val + 0) (x 0)) (2 * i.val + 1) (x 1)

/-- The state a row block leaves of the state before it. -/
def trip (t : F .f32 → F .f32) (s : St F) (i : Fin 15) (u : St F) : St F :=
  if Bad (acc1 s i) then s.at (acc2 s i) (rowMax s i) (setRows (setRows u.out i (sumOf (acc1 s i))) i (sumOf (acc2 s i))) (setG (setG u.G i (g1 t s i)) i (g2 t s i))
  else s.at (acc1 s i) u.B (setRows u.out i (sumOf (acc1 s i))) (setG u.G i (g1 t s i))

/-- The state before row block `k`, from state `u` before row block 0. -/
def trips (t : F .f32 → F .f32) (s : St F) (u : St F) : ℕ → St F
  | 0 => u
  | k + 1 => if h : k < 15 then trip t s ⟨k, h⟩ (trips t s u k) else trips t s u k

/-- The sums and products of row block `i`. -/
def accOf (s : St F) (i : Fin 15) : FVec F S256x128 .f32 := if Bad (acc1 s i) then acc2 s i else acc1 s i
def gOf (t : F .f32 → F .f32) (s : St F) (i : Fin 15) : FVec F S256x256 .f32 := if Bad (acc1 s i) then g2 t s i else g1 t s i

theorem trips_succ (t : F .f32 → F .f32) (s u : St F) (k : ℕ) (h : k < 15) : trips t s u (k + 1) = trip t s ⟨k, h⟩ (trips t s u k) := dif_pos h

theorem at_eta (s : St F) (A B : FVec F S256x128 .f32) (O : FVec F S30x1x128 .f32) (G : FVec F S3840x256 .f32) : s.at A B O G = s.at (s.at A B O G).A (s.at A B O G).B (s.at A B O G).out (s.at A B O G).G := rfl

theorem trip_at (t : F .f32 → F .f32) (s : St F) (i : Fin 15) (u : St F) :
    trip t s i u = s.at (trip t s i u).A (trip t s i u).B (trip t s i u).out (trip t s i u).G := by
  by_cases hb : Bad (acc1 s i)
  · rw [show trip t s i u = _ from if_pos hb]; exact at_eta ..
  · rw [show trip t s i u = _ from if_neg hb]; exact at_eta ..

theorem trips_at (t : F .f32 → F .f32) (s u : St F) (hu : u = s.at u.A u.B u.out u.G) (k : ℕ) :
    trips t s u k = s.at (trips t s u k).A (trips t s u k).B (trips t s u k).out (trips t s u k).G := by
  induction k with
  | zero => exact hu
  | succ k ih =>
    by_cases h : k < 15
    · rw [trips_succ t s u k h]; exact trip_at ..
    · rw [show trips t s u (k + 1) = trips t s u k from dif_neg h]; exact ih

theorem setRows_setRows (O : FVec F S30x1x128 .f32) (i : Fin 15) (x x' : Fin 2 → FVec F S1x128 .f32) : setRows (setRows O i x) i x' = setRows O i x' := by
  funext y
  unfold setRows setRow
  dsimp only
  split_ifs <;> rfl

theorem trip_out (t : F .f32 → F .f32) (s : St F) (i : Fin 15) (u : St F) : (trip t s i u).out = setRows u.out i (sumOf (accOf s i)) := by
  unfold trip accOf
  by_cases hb : Bad (acc1 s i)
  · rw [if_pos hb, if_pos hb]
    exact setRows_setRows _ _ _ _
  · rw [if_neg hb, if_neg hb]
    rfl

theorem trip_G (t : F .f32 → F .f32) (s : St F) (i : Fin 15) (u : St F) : (trip t s i u).G = setG u.G i (gOf t s i) := by
  unfold trip gOf
  by_cases hb : Bad (acc1 s i)
  · rw [if_pos hb, if_pos hb]
    exact setG_setG _ _ _ _
  · rw [if_neg hb, if_neg hb]
    rfl

/-- What all row blocks write: row `2 i + h` of the sums, rows `256 i …` of the products. -/
def outAt (s : St F) : FVec F S30x1x128 .f32 := fun y =>
  sumOf (accOf s ⟨(y 0).val / 2, by have : (y 0).val < 30 := (y 0).isLt; omega⟩) ⟨(y 0).val % 2, Nat.mod_lt _ (by decide)⟩ (ValueIdx.ix2 (n0 := 1) (n1 := 128) 0 (y 2))
def gOut (t : F .f32 → F .f32) (s : St F) : FVec F S3840x256 .f32 := fun y =>
  gOf t s ⟨(y 0).val / 256, by have := ValueIdx.idx2_lt0 (n0 := 3840) (n1 := 256) y; omega⟩ (ValueIdx.ix2 (n0 := 256) (n1 := 256) ⟨(y 0).val % 256, Nat.mod_lt _ (by decide)⟩ (y 1))

theorem sumOf_congr (s : St F) {i i' : Fin 15} {h h' : Fin 2} (z : S1x128.Idx) (hi : i.val = i'.val) (hh : h.val = h'.val) :
    sumOf (accOf s i) h z = sumOf (accOf s i') h' z := by rw [Fin.ext hi, Fin.ext hh]

theorem trips_out (t : F .f32 → F .f32) (s u : St F) (k : ℕ) (hk : k ≤ 15) (y : S30x1x128.Idx) :
    (trips t s u k).out y = if (y 0).val < 2 * k then outAt s y else u.out y := by
  induction k with
  | zero => rw [if_neg (by omega)]; rfl
  | succ k ih =>
    rw [show trips t s u (k + 1) = trip t s ⟨k, hk⟩ (trips t s u k) from dif_pos hk, trip_out]
    unfold setRows setRow
    have ih := ih (by omega)
    by_cases h1 : (y 0).val = 2 * k + 1
    · rw [if_pos h1, if_pos (by omega)]
      unfold outAt
      exact sumOf_congr s _ (by show k = (y 0).val / 2; omega) (by show 1 = (y 0).val % 2; omega)
    · rw [if_neg h1]
      dsimp only
      by_cases h0 : (y 0).val = 2 * k + 0
      · rw [if_pos h0, if_pos (by omega)]
        unfold outAt
        exact sumOf_congr s _ (by show k = (y 0).val / 2; omega) (by show 0 = (y 0).val % 2; omega)
      · rw [if_neg h0, ih]
        by_cases h2 : (y 0).val < 2 * k
        · rw [if_pos h2, if_pos (by omega)]
        · rw [if_neg h2, if_neg (by omega)]

theorem trips_all (t : F .f32 → F .f32) (s u : St F) : (trips t s u 15).out = outAt s := funext fun y => by
  rw [trips_out t s u 15 le_rfl, if_pos (by have : (y 0).val < 30 := (y 0).isLt; omega)]

theorem gOf_congr (t : F .f32 → F .f32) (s : St F) {i i' : Fin 15} (z : S256x256.Idx) (hi : i.val = i'.val) : gOf t s i z = gOf t s i' z := by rw [Fin.ext hi]

theorem trips_G (t : F .f32 → F .f32) (s u : St F) (k : ℕ) (hk : k ≤ 15) (y : S3840x256.Idx) :
    (trips t s u k).G y = if (y 0).val < 256 * k then gOut t s y else u.G y := by
  induction k with
  | zero => rw [if_neg (by omega)]; rfl
  | succ k ih =>
    rw [show trips t s u (k + 1) = trip t s ⟨k, hk⟩ (trips t s u k) from dif_pos hk, trip_G]
    unfold setG
    have ih := ih (by omega)
    by_cases h1 : (y 0).val / 256 = k
    · rw [if_pos h1, if_pos (by omega)]
      unfold gOut
      exact gOf_congr t s _ h1.symm
    · rw [if_neg h1, ih]
      by_cases h2 : (y 0).val < 256 * k
      · rw [if_pos h2, if_pos (by omega)]
      · rw [if_neg h2, if_neg (by omega)]

theorem trips_allG (t : F .f32 → F .f32) (s u : St F) : (trips t s u 15).G = gOut t s := funext fun y => by
  rw [trips_G t s u 15 le_rfl, if_pos (by have := ValueIdx.idx2_lt0 (n0 := 3840) (n1 := 256) y; omega)]

end Values

section Whole

variable {F : FTy → Type} [FloatOps F] {nD : ℕ} {τ : Topo} {sig : RefSig} {Λ : Labels} {U : Type} [URA U]
variable {defs : Defs nD τ sig (Elt F) Λ} {c : Dev nD} {M : Mem sig} {s : St F} {t : F .f32 → F .f32}

/-- The second pass. -/
theorem rescue_run {i : Fin 15} {L2 L3 : Scf.Loop 32} {h2 : L2.OK} {h3 : L3.OK} (t2 : L2.trips = 40) (t3 : L3.trips = 40)
    {f2 : Fin L2.trips → Prog (TpuEff nD τ sig (Elt F) Λ .tc) PUnit} {f3 : Fin L3.trips → Prog (TpuEff nD τ sig (Elt F) Λ .tc) (FVec F S256x256 .f32)}
    (hf2 : ∀ (k : Fin L2.trips) (j : Fin 40), k.val = j.val → ∀ A X O G, Runs U defs c M (f2 k) (s.at A X O G) (s.at A (fun y => maxN s i j y (X y)) O G) ⟨⟩)
    (hf3 : ∀ (k : Fin L3.trips) (j : Fin 40), k.val = j.val → ∀ X B O G, Runs U defs c M (f3 k) (s.at X B O G) (s.at (fun y => accN (lgm s B i j) y (X y)) B O G) (dg t s.protos s.ws j (lgm s B i j)))
    {oZ oG : Fin 2 → ℕ} {hZ hG} (eZ : oZ = ![256 * i.val, 0]) (eG : oG = ![256 * i.val, 0])
    {oO : Fin 2 → Fin 3 → ℕ} {hO} (e : ∀ h : Fin 2, oO h = ![2 * i.val + h.val, 0, 0]) (A B : FVec F S256x128 .f32) (O : FVec F S30x1x128 .f32) (G : FVec F S3840x256 .f32) :
    Runs U defs c M (rescue M.A M.B M.out M.G L2 L3 h2 h3 f2 f3 oZ oG hZ hG oO hO) (s.at A B O G)
      (s.at (acc2 s i) (rowMax s i) (setRows O i (sumOf (acc2 s i))) (setG G i (g2 t s i))) ⟨⟩ := by
  have hp : Runs U defs c M (rescuePass M.A M.B M.G L2 L3 h2 h3 f2 f3 oZ oG hZ hG) (s.at A B O G) (s.at (acc2 s i) (rowMax s i) O (setG G i (g2 t s i)))
      (sumOf (acc2 s i) 0) := by
    unfold rescuePass acc2 g2
    generalize hE : lgm s (rowMax s i) i = E
    generalize hD : (fun j => dg t s.protos s.ws j (E j)) = D
    refine Runs.bind (fill_run placeA _ A) ?_
    refine Runs.bind (fill_run placeB _ B) ?_
    refine Runs.bind (s1 := s.at (accAt E 0) (maxAt s i L2.trips) O G) (Runs.loop (T := fun j => s.at (accAt E 0) (maxAt s i j) O G) fun k => ?_) ?_
    · have hk : k.val < 40 := t2 ▸ k.isLt
      refine Runs.bind (a := PUnit.unit) ?_ (Runs.ret _)
      rw [show maxAt s i (k.val + 1) = fun y => maxN s i ⟨k.val, hk⟩ y (maxAt s i k.val y) from dif_pos hk]
      exact hf2 k ⟨k.val, hk⟩ rfl _ _ _ _
    rw [t2]
    refine Runs.bind (spreadMax_run _) ?_
    refine Runs.bind (storeG_run eZ _) ?_
    refine Runs.bind (s1 := s.at (accAt E L3.trips) (rowMax s i) O (setG G i (gsub D L3.trips))) (Runs.loop (T := fun j => s.at (accAt E j) (rowMax s i) O (setG G i (gsub D j))) fun k => ?_) ?_
    · have hk : k.val < 40 := t3 ▸ k.isLt
      have h := hf3 k ⟨k.val, hk⟩ rfl (accAt E k.val) (rowMax s i) O (setG G i (gsub D k.val))
      rw [hE] at h
      refine Runs.bind h ?_
      refine Runs.bind (a := PUnit.unit) ?_ (Runs.ret _)
      rw [show accAt E (k.val + 1) = fun y => accN (E ⟨k.val, hk⟩) y (accAt E k.val y) from dif_pos hk,
        show gsub D (k.val + 1) = addf (gsub D k.val) (D ⟨k.val, hk⟩) from dif_pos hk, ← hD]
      exact addG_run eG _ _
    rw [t3]
    refine Runs.bind (half_run placeA 0 _) ?_
    exact Runs.ret _
  unfold rescue
  refine Runs.bind hp ?_
  refine Runs.bind (storeRow_run (e 0) _) ?_
  refine Runs.bind (half_run placeA 1 _) ?_
  refine Runs.bind (storeRow_run (e 1) _) ?_
  exact Runs.ret _

/-- A row block. -/
theorem rowBlock_run {i : Fin 15} {f : Fin 40 → Prog (TpuEff nD τ sig (Elt F) Λ .tc) (FVec F S256x256 .f32)} {oG : Fin 2 → ℕ} {hG} {oO : Fin 2 → Fin 3 → ℕ} {hO}
    {resc : Prog (TpuEff nD τ sig (Elt F) Λ .tc) PUnit} (eG : oG = ![256 * i.val, 0]) (e : ∀ h : Fin 2, oO h = ![2 * i.val + h.val, 0, 0])
    (hf : ∀ j X B O G, Runs U defs c M (f j) (s.at X B O G) (s.at (fun y => accN (lg s i j) y (X y)) B O G) (dg t s.protos s.ws j (lg s i j)))
    (hr : ∀ A B O G, Runs U defs c M resc (s.at A B O G) (s.at (acc2 s i) (rowMax s i) (setRows O i (sumOf (acc2 s i))) (setG G i (g2 t s i))) ⟨⟩)
    (A B : FVec F S256x128 .f32) (O : FVec F S30x1x128 .f32) (G : FVec F S3840x256 .f32) :
    Runs U defs c M (rowBlock M.A M.out M.G f oG hG oO hO resc) (s.at A B O G) (trip t s i (s.at A B O G)) ⟨⟩ := by
  unfold rowBlock
  refine Runs.bind (fill_run placeA _ A) ?_
  have hs : ∀ j : Fin 40, Runs U defs c M (f j) (s.at (accAt (lg s i) j.val) B O G) (s.at (accAt (lg s i) (j.val + 1)) B O G) (dg t s.protos s.ws j (lg s i j)) := fun j => by
    rw [show accAt (lg s i) (j.val + 1) = fun y => accN (lg s i j) y (accAt (lg s i) j.val y) from dif_pos j.isLt]
    exact hf j _ _ _ _
  refine Runs.bind (hs 0) ?_
  refine Runs.bind (hs 1) ?_
  refine gsteps_run (D := fun j => dg t s.protos s.ws j (lg s i j)) (T := fun j => s.at (accAt (lg s i) j) B O G) hs ?_ 38 0 rfl
  refine Runs.bind (storeG_run eG _) ?_
  refine Runs.bind (half_run placeA 0 _) ?_
  refine Runs.bind (storeRow_run (e 0) _) ?_
  refine Runs.bind (half_run placeA 1 _) ?_
  refine Runs.bind (storeRow_run (e 1) _) ?_
  show Runs U defs c M (if Bad (acc1 s i) then resc else pure PUnit.unit) _ _ PUnit.unit
  unfold trip
  by_cases hb : Bad (acc1 s i)
  · rw [if_pos hb, if_pos hb]
    exact hr _ _ _ _
  · rw [if_neg hb, if_neg hb]
    exact Runs.ret _

/-- The state after the column weights and the centre are scaled. -/
def St.scaled (s : St F) (cT : F .f32) : St F := { s with ws := fun y => FloatOps.mulf (s.w y) cT, cb := fun y => FloatOps.mulf (s.cen y) cT }

/-- The whole body. -/
theorem body_run {L : Scf.Loop 32} {h : L.OK} (tL : L.trips = 15) (cT : F .f32) {p : Fin L.trips → Prog (TpuEff nD τ sig (Elt F) Λ .tc) PUnit}
    (hp : ∀ (k : Fin L.trips) (i : Fin 15), k.val = i.val → ∀ A B O G, Runs U defs c M (p k) ((s.scaled cT).at A B O G) (trip t (s.scaled cT) i ((s.scaled cT).at A B O G)) ⟨⟩)
    (A B : FVec F S256x128 .f32) (O : FVec F S30x1x128 .f32) (G : FVec F S3840x256 .f32) (W C : FVec F S1x20480 .f32) :
    Runs U defs c M (do scaleW M.w M.ws cT; scaleW M.cen M.cb cT; Scf.Loop.for L h PUnit.unit fun k _ => p k; pure PUnit.unit)
      { s with A := A, B := B, out := O, G := G, ws := W, cb := C } (trips t (s.scaled cT) ((s.scaled cT).at A B O G) 15) PUnit.unit := by
  refine Runs.bind (scaleW_run cT) ?_
  refine Runs.bind (scaleC_run cT) ?_
  refine Runs.bind (s1 := trips t (s.scaled cT) ((s.scaled cT).at A B O G) L.trips) (Runs.loop (T := trips t (s.scaled cT) ((s.scaled cT).at A B O G)) fun k => ?_) ?_
  rotate_left
  · rw [tL]; exact Runs.ret _
  have hk : k.val < 15 := tL ▸ k.isLt
  rw [show trips t (s.scaled cT) ((s.scaled cT).at A B O G) (k.val + 1) = trip t (s.scaled cT) ⟨k.val, hk⟩ (trips t (s.scaled cT) ((s.scaled cT).at A B O G) k.val) from dif_pos hk, trips_at _ _ _ rfl]
  exact hp k ⟨k.val, hk⟩ rfl _ _ _ _

end Whole

end Cert.Teacher

end
-- ==== Proof.P.TProgram.lean ====
module
public import Idealize.ShloMosaic.Lib.Tactic
public import proofs.«01_k».proof.Proof.TBlocks
public import proofs.«01_k».proof.Kernel

/-! # The printed teacher body as the written one

The printed body is forty unrolled steps of eight unrolled blocks; it is, operation for operation, the body of `TBlocks`. -/

@[expose] public section
set_option maxRecDepth 1000000
set_option maxHeartbeats 0
noncomputable section
namespace Cert.Kernel
open Idealize.ShloMosaic Idealize.ShloMosaic.TcCoe Idealize.SL.Sem
open Facts₀ Facts
variable {F : FTy → Type} [BitOps F] [Facts]

/-- The constant of the teacher's body, `25 / log 2`. -/
abbrev tT : F .f32 := Scalar.ofBits .f32 0x421044FE#32

/-- The truncation. -/
def trunc (p : FVec F Student.S32x128 .f32) : FVec F Student.S32x128 .f32 := bitcastToFloat .f32 (andi (bitcastToInt p) (broadcast Student.S32x128 4294901760#32))

section
variable (arg0 : Memref sig .tc .vmem S3840x256 .fp8e4m3) (arg1 : Memref sig .tc .vmem S3840x128 .f32) (arg2 : Memref sig .tc .vmem S20480x256 .fp8e4m3)
  (arg5 : Memref sig .tc .vmem S30x1x128 .f32) (arg6 : Memref sig .tc .vmem S3840x256 .f32) (arg7 arg8 : Memref sig .tc .vmem S256x128 .f32) (arg9 arg10 : Memref sig .tc .vmem S1x20480 .f32)

/-- Row block `k` of the printed teacher body. -/
def trows (k : Fin k0_t1_loop.trips) : Prog (TpuEff nD τ sig (Elt F) Λ₀ .tc) PUnit :=
  Teacher.rowBlock arg7 arg5 arg6
    (fun j => Teacher.gtile arg0 arg2 (k0_off1 k) (k0_off1_inb k) ![512 * j.val, 0] (Student.inbV j) fun z b =>
      Teacher.accBlk trunc arg1 arg9 arg10 arg7 z b (k0_off2 k (BitVec.ofNat 32 (32 * b.val))) (k0_off2_inb k b) (fun c => ![0, 512 * j.val + 128 * c.val]) (Student.inbW j))
    (k0_off1 k) (k0_off1_inb k)
    (fun h => k0_off3 k (BitVec.ofNat 32 h.val)) (fun h => k0_off3_inb k h)
    (Teacher.rescue arg7 arg8 arg5 arg6 k0_t2_loop k0_t3_loop k0_t2_ok k0_t3_ok
      (fun j => Teacher.tile arg0 arg2 (k0_off4 k) (k0_off4_inb k) (k0_off5 j) (k0_off5_inb j) fun z b =>
        Teacher.maxBlk arg1 arg9 arg10 arg8 z b (k0_off6 k (BitVec.ofNat 32 (32 * b.val))) (k0_off6_inb k b) (fun c => k0_off7 j (BitVec.ofNat 32 (128 * c.val))) (k0_off7_inb j))
      (fun j => Teacher.gtile arg0 arg2 (k0_off9 k) (k0_off9_inb k) (k0_off10 j) (k0_off10_inb j) fun z b =>
        Teacher.subBlk trunc arg1 arg9 arg10 arg7 arg8 z b (k0_off11 k (BitVec.ofNat 32 (32 * b.val))) (k0_off11_inb k b) (fun c => k0_off12 j (BitVec.ofNat 32 (128 * c.val))) (k0_off12_inb j))
      (k0_off8 k) (k0_off9 k) (k0_off8_inb k) (k0_off9_inb k)
      (fun h => k0_off13 k (BitVec.ofNat 32 h.val)) (fun h => k0_off13_inb k h))
end

/-- The printed body is the written one. -/
theorem tprogram_eq (arg0 : Memref sig .tc .vmem S3840x256 .fp8e4m3) (arg1 : Memref sig .tc .vmem S3840x128 .f32) (arg2 : Memref sig .tc .vmem S20480x256 .fp8e4m3)
    (arg3 arg4 : Memref sig .tc .vmem S1x20480 .f32) (arg5 : Memref sig .tc .vmem S30x1x128 .f32) (arg6 : Memref sig .tc .vmem S3840x256 .f32) (arg7 arg8 : Memref sig .tc .vmem S256x128 .f32) (arg9 arg10 : Memref sig .tc .vmem S1x20480 .f32)
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) :
    cc0_teacher (F := F) arg0 h0 arg1 h1 arg2 h2 arg3 h3 arg4 h4 arg5 h5 arg6 h6 arg7 h7 arg8 h8 arg9 h9 arg10 h10 =
    (do
      Student.scaleW arg3 arg9 tT
      Student.scaleW arg4 arg10 tT
      Scf.Loop.for k0_t1_loop k0_t1_ok PUnit.unit fun k _ => trows arg0 arg1 arg2 arg5 arg6 arg7 arg8 arg9 arg10 k
      pure PUnit.unit) := by
  sl_kernel_rfl
end Cert.Kernel
end
-- ==== Proof.P.Program.lean ====
module
public import Idealize.ShloMosaic.Lib.Tactic
public import proofs.«01_k».proof.Proof.Blocks
public import proofs.«01_k».proof.Kernel

/-! # The printed body as the written one

The printed body is forty unrolled steps of eight unrolled blocks; it is, operation for operation, the body of `Blocks`. -/

@[expose] public section
set_option maxRecDepth 1000000
set_option maxHeartbeats 0
noncomputable section
namespace Cert.Kernel
open Idealize.ShloMosaic Idealize.ShloMosaic.TcCoe Idealize.SL.Sem
open Facts₀ Facts
variable {F : FTy → Type} [BitOps F] [Facts]

/-- The constants of the body: `10 / log 2`, `1 / log 2` and `log 2`. -/
abbrev cT : F .f32 := Scalar.ofBits .f32 0x4166D4CA#32
abbrev cE : F .f32 := Scalar.ofBits .f32 0x3FB8AA3B#32
abbrev cL : F .f32 := Scalar.ofBits .f32 0x3F317218#32

section
variable (arg0 : Memref sig .tc .vmem S7680x256 .fp8e4m3) (arg1 : Memref sig .tc .vmem S7680x128 .f32) (arg2 : Memref sig .tc .vmem S20480x256 .fp8e4m3)
  (arg3 : Memref sig .tc .vmem S1x20480 .f32) (arg5 : Memref sig .tc .vmem S60x1x128 .f32) (arg6 arg7 : Memref sig .tc .vmem S256x128 .f32) (arg8 : Memref sig .tc .vmem S1x20480 .f32)

/-- Row block `k` of the printed body. -/
def rows (k : Fin k1_t1_loop.trips) : Prog (TpuEff nD τ sig (Elt F) Λ₀ .tc) PUnit :=
  Student.rowBlock arg6 arg5
    (fun j => Student.tile arg0 arg2 (k1_off1 k) (k1_off1_inb k) ![512 * j.val, 0] (Student.inbV j) fun z b =>
      Student.accBlk arg1 arg8 arg6 z b (k1_off2 k (BitVec.ofNat 32 (32 * b.val))) (k1_off2_inb k b) (fun c => ![0, 512 * j.val + 128 * c.val]) (Student.inbW j))
    cE cL (fun h => k1_off3 k (BitVec.ofNat 32 h.val)) (fun h => k1_off3_inb k h)
    (Student.rescue arg6 arg7 arg5 k1_t2_loop k1_t3_loop k1_t2_ok k1_t3_ok
      (fun j => Student.tile arg0 arg2 (k1_off4 k) (k1_off4_inb k) (k1_off5 j) (k1_off5_inb j) fun z b =>
        Student.maxBlk arg1 arg8 arg7 z b (k1_off6 k (BitVec.ofNat 32 (32 * b.val))) (k1_off6_inb k b) (fun c => k1_off7 j (BitVec.ofNat 32 (128 * c.val))) (k1_off7_inb j))
      (fun j => Student.tile arg0 arg2 (k1_off8 k) (k1_off8_inb k) (k1_off9 j) (k1_off9_inb j) fun z b =>
        Student.subBlk arg1 arg8 arg6 arg7 z b (k1_off10 k (BitVec.ofNat 32 (32 * b.val))) (k1_off10_inb k b) (fun c => k1_off11 j (BitVec.ofNat 32 (128 * c.val))) (k1_off11_inb j))
      cE cL (fun h => k1_off12 k (BitVec.ofNat 32 h.val)) (fun h => k1_off12_inb k h))
end

/-- The printed body is the written one. -/
theorem program_eq (arg0 : Memref sig .tc .vmem S7680x256 .fp8e4m3) (arg1 : Memref sig .tc .vmem S7680x128 .f32) (arg2 : Memref sig .tc .vmem S20480x256 .fp8e4m3)
    (arg3 arg4 : Memref sig .tc .vmem S1x20480 .f32) (arg5 : Memref sig .tc .vmem S60x1x128 .f32) (arg6 arg7 : Memref sig .tc .vmem S256x128 .f32) (arg8 : Memref sig .tc .vmem S1x20480 .f32)
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) :
    cc1_student (F := F) arg0 h0 arg1 h1 arg2 h2 arg3 h3 arg4 h4 arg5 h5 arg6 h6 arg7 h7 arg8 h8 =
    (do
      Student.scaleW arg3 arg8 cT
      Scf.Loop.for k1_t1_loop k1_t1_ok PUnit.unit fun k _ => rows arg0 arg1 arg2 arg5 arg6 arg7 arg8 k
      pure PUnit.unit) := by
  sl_kernel_rfl
end Cert.Kernel
end
-- ==== Proof.Final.lean ====
/-
  The final kernel's body written compactly: a row of losses, a block of 128 rows for the four views and the two crops,
  the fifteen blocks, the table of means. The programs are over any memrefs, so that one text serves both printed kernels.
-/
module

public import Idealize.ShloMosaic.Lib.VecWindow
public import Idealize.ShloMosaic.Lib.Tactic
public import Idealize.ShloMosaic.Lib.Ring

@[expose] public section

noncomputable section

namespace Cert.Final

open Idealize.ShloMosaic Idealize.ShloMosaic.TcCoe Idealize.SL.Sem

abbrev S3840x256 : Shape := ⟨2, ![3840, 256]⟩
abbrev S30x1x128 : Shape := ⟨3, ![30, 1, 128]⟩
abbrev S60x1x128 : Shape := ⟨3, ![60, 1, 128]⟩
abbrev S7680x256 : Shape := ⟨2, ![7680, 256]⟩
abbrev S7680x128 : Shape := ⟨2, ![7680, 128]⟩
abbrev S2x4 : Shape := ⟨2, ![2, 4]⟩
abbrev S2x4x5x384 : Shape := ⟨4, ![2, 4, 5, 384]⟩
abbrev S1x1x1x128 : Shape := ⟨4, ![1, 1, 1, 128]⟩
abbrev S1x1x128 : Shape := ⟨3, ![1, 1, 128]⟩
abbrev S128x256 : Shape := ⟨2, ![128, 256]⟩
abbrev S128x128 : Shape := ⟨2, ![128, 128]⟩
abbrev S1x128 : Shape := ⟨2, ![1, 128]⟩
abbrev S1x1 : Shape := ⟨2, ![1, 1]⟩
abbrev S128 : Shape := ⟨1, ![128]⟩
abbrev S1 : Shape := ⟨1, ![1]⟩

/-! ### Bounds -/

theorem inbG (i : Fin 2) (t : Fin 15) : ∀ a, (![1920 * i.val + 128 * t.val, 0] : Fin 2 → ℕ) a + S128x256.size a ≤ S3840x256.size a := by
  have := i.isLt
  have := t.isLt
  intro a; fin_cases a <;> simp [S128x256, S3840x256]; omega
theorem inbT (i : Fin 2) (t : Fin 15) : ∀ a, (![15 * i.val + t.val, 0, 0] : Fin 3 → ℕ) a + S1x1x128.size a ≤ S30x1x128.size a := by
  have := i.isLt
  have := t.isLt
  intro a; fin_cases a <;> simp [S1x1x128, S30x1x128]; omega
theorem inbS (v : Fin 4) (t : Fin 15) : ∀ a, (![15 * v.val + t.val, 0, 0] : Fin 3 → ℕ) a + S1x1x128.size a ≤ S60x1x128.size a := by
  have := v.isLt
  have := t.isLt
  intro a; fin_cases a <;> simp [S1x1x128, S60x1x128]; omega
theorem inbC (v : Fin 4) (t : Fin 15) : ∀ a, (![1920 * v.val + 128 * t.val, 0] : Fin 2 → ℕ) a + S128x256.size a ≤ S7680x256.size a := by
  have := v.isLt
  have := t.isLt
  intro a; fin_cases a <;> simp [S128x256, S7680x256]; omega
theorem inbR (v : Fin 4) (t : Fin 15) : ∀ a, (![1920 * v.val + 128 * t.val, 0] : Fin 2 → ℕ) a + S128x128.size a ≤ S7680x128.size a := by
  have := v.isLt
  have := t.isLt
  intro a; fin_cases a <;> simp [S128x128, S7680x128]; omega
theorem inbL (i : Fin 2) (v : Fin 4) (t : Fin 15) :
    ∀ a, (![i.val, v.val, t.val / 3, 128 * (t.val % 3)] : Fin 4 → ℕ) a + S1x1x1x128.size a ≤ S2x4x5x384.size a := by
  have := i.isLt
  have := v.isLt
  have := t.isLt
  intro a; fin_cases a <;> simp [S1x1x1x128, S2x4x5x384] <;> omega
theorem inbP : ∀ a, (![0, 0] : Fin 2 → ℕ) a + S2x4.size a ≤ S2x4.size a := by decide
theorem pos_S128x256 : 0 < S128x256.numel := by decide
theorem pos_S128x128 : 0 < S128x128.numel := by decide
theorem pos_S1x1x128 : 0 < S1x1x128.numel := by decide
theorem pos_S1x1x1x128 : 0 < S1x1x1x128.numel := by decide
theorem pos_S2x4 : 0 < S2x4.numel := by decide
theorem cast_in : S1x1x128.ShapeCasts S1x128 := by decide
theorem cast_out : S1x128.ShapeCasts S1x1x1x128 := by decide
theorem cast_codes : S128x256.ShapeCasts S128x256 := by decide
theorem cast_rep : S128x128.ShapeCasts S128x128 := by decide
theorem cast_128 : S128.ShapeCasts S1x128 := by decide
theorem cast_one : S1.ShapeCasts S1x1 := by decide
theorem cast_one' : S1x1.ShapeCasts S1x1 := by decide
theorem bcast_pair : S1x1.Broadcasts S2x4 := by decide
theorem transp : S128x128.Transposes [1, 0] S128x128 := by decide
theorem red_lane : S128x128.Reduces [0] S128 := by decide
theorem red_row : S1x128.Reduces [1] S1 := by decide
theorem slice_lo : S128x256.Slices ![0, 0] S128x128 := by decide
theorem slice_hi : S128x256.Slices ![0, 128] S128x128 := by decide
theorem iota_0 : S2x4.Iotas .tc 32 [0] := by decide
theorem iota_1 : S2x4.Iotas .tc 32 [1] := by decide

/-- The buffers. -/
structure Mem (sig : RefSig) where
  g : Memref sig .tc .vmem S3840x256 .f32
  t : Memref sig .tc .vmem S30x1x128 .f32
  s : Memref sig .tc .vmem S60x1x128 .f32
  codes : Memref sig .tc .vmem S7680x256 .fp8e4m3
  rep : Memref sig .tc .vmem S7680x128 .f32
  pair : Memref sig .tc .vmem S2x4 .f32
  loss : Memref sig .tc .vmem S2x4x5x384 .f32

section Programs

variable {F : FTy → Type} [FloatOps F] {nD : ℕ} {τ : Topo} {sig : RefSig} {Λ : Labels}

/-- The constant over a row of the teacher's sums. -/
def inv (cK : F .f32) (x : Vec F S1x1x128 .f32) : FVec F S1x128 .f32 := divf (broadcast S1x128 cK) (shapeCast S1x128 x cast_in)

/-- A row of losses: the student's logarithms minus the scaled row products. -/
def row (cL : F .f32) (g : Vec F S128x256 .f32) (iv : FVec F S1x128 .f32) (codes : Vec F S128x256 .fp8e4m3) (rep : Vec F S128x128 .f32)
    (s : Vec F S1x1x128 .f32) : FVec F S1x128 .f32 :=
  have pr : FVec F S128x256 .f32 := mulf (extf .f32 (shapeCast S128x256 codes cast_codes : FVec F S128x256 .fp8e4m3) (by decide)) g
  subf (shapeCast S1x128 s cast_in)
    (mulf (mulf (shapeCast S1x128 (multiReduction .add [0] S128 (transpose S128x128 [1, 0]
      (mulf (addf (extractStridedSlice S128x128 ![0, 0] pr slice_lo) (extractStridedSlice S128x128 ![0, 128] pr slice_hi)) (shapeCast S128x128 rep cast_rep)) transp)
      0x00000000#32 red_lane (.inl rfl) rfl) cast_128) iv) (broadcast S1x128 cL))

/-- A row of zeros. -/
def zeros : FVec F S1x128 .f32 := broadcast S1x128 (Scalar.ofBits .f32 0x00000000#32)

/-- Store one row of losses. -/
def storeRow (M : Mem sig) (i : Fin 2) (v : Fin 4) (t : Fin 15) (x : FVec F S1x128 .f32) : Prog (TpuEff nD τ sig (Elt F) Λ .tc) PUnit := do
  let _ : Vec F S1x1x1x128 .f32 ← Prog.lift (.load M.loss (Rect.unit (s := S2x4x5x384) ![i.val, v.val, t.val / 3, 128 * (t.val % 3)] S1x1x1x128.size (inbL i v t)).toLoadRect (View.loadsAt_vmem pos_S1x1x1x128))
  Prog.lift (.store M.loss (Rect.unit (s := S2x4x5x384) ![i.val, v.val, t.val / 3, 128 * (t.val % 3)] S1x1x1x128.size (inbL i v t)) (shapeCast S1x1x1x128 x cast_out) Finset.univ (View.stores_vmem_bits_univ pos_S1x1x1x128 rfl) (.inl rfl))

/-- One row: zeros for a view against its own crop, otherwise the losses. -/
def item (M : Mem sig) (cL : F .f32) (g : Vec F S128x256 .f32) (iv : FVec F S1x128 .f32) (codes : Vec F S128x256 .fp8e4m3) (rep : Vec F S128x128 .f32)
    (i : Fin 2) (v : Fin 4) (t : Fin 15) : Prog (TpuEff nD τ sig (Elt F) Λ .tc) (FVec F S1x128 .f32) :=
  if i.val = v.val then do
    storeRow M i v t zeros
    pure zeros
  else do
    let s : Vec F S1x1x128 .f32 ← Prog.lift (.load M.s (Rect.unit (s := S60x1x128) ![15 * v.val + t.val, 0, 0] S1x1x128.size (inbS v t)).toLoadRect (View.loadsAt_vmem pos_S1x1x128))
    storeRow M i v t (row cL g iv codes rep s)
    pure (row cL g iv codes rep s)

/-- The two rows of a view. -/
def view (M : Mem sig) (cL : F .f32) (g0 g1 : Vec F S128x256 .f32) (iv0 iv1 : FVec F S1x128 .f32) (v : Fin 4) (t : Fin 15) :
    Prog (TpuEff nD τ sig (Elt F) Λ .tc) (FVec F S1x128 .f32 × FVec F S1x128 .f32) := do
  let x : Vec F S128x256 .fp8e4m3 ← Prog.lift (.load M.codes (Rect.unit (s := S7680x256) ![1920 * v.val + 128 * t.val, 0] S128x256.size (inbC v t)).toLoadRect (View.loadsAt_vmem pos_S128x256))
  let r : Vec F S128x128 .f32 ← Prog.lift (.load M.rep (Rect.unit (s := S7680x128) ![1920 * v.val + 128 * t.val, 0] S128x128.size (inbR v t)).toLoadRect (View.loadsAt_vmem pos_S128x128))
  let a ← item M cL g0 iv0 x r 0 v t
  let b ← item M cL g1 iv1 x r 1 v t
  pure (a, b)

/-- Add a block's rows to the totals, but for the rows of zeros. -/
def acc (T R : Fin 4 → Fin 2 → FVec F S1x128 .f32) (v : Fin 4) (i : Fin 2) : FVec F S1x128 .f32 :=
  if i.val = v.val then T v i else addf (T v i) (R v i)

/-- The two rows of each of the four views, as one table. -/
def table (p0 p1 p2 p3 : FVec F S1x128 .f32 × FVec F S1x128 .f32) : Fin 4 → Fin 2 → FVec F S1x128 .f32 :=
  ![![p0.1, p0.2], ![p1.1, p1.2], ![p2.1, p2.2], ![p3.1, p3.2]]

/-- One block of 128 rows. -/
def block (M : Mem sig) (cK cL : F .f32) (T : Fin 4 → Fin 2 → FVec F S1x128 .f32) (t : Fin 15) :
    Prog (TpuEff nD τ sig (Elt F) Λ .tc) (Fin 4 → Fin 2 → FVec F S1x128 .f32) := do
  let g0 : Vec F S128x256 .f32 ← Prog.lift (.load M.g (Rect.unit (s := S3840x256) ![1920 * (0 : Fin 2).val + 128 * t.val, 0] S128x256.size (inbG 0 t)).toLoadRect (View.loadsAt_vmem pos_S128x256))
  let g1 : Vec F S128x256 .f32 ← Prog.lift (.load M.g (Rect.unit (s := S3840x256) ![1920 * (1 : Fin 2).val + 128 * t.val, 0] S128x256.size (inbG 1 t)).toLoadRect (View.loadsAt_vmem pos_S128x256))
  let t0 : Vec F S1x1x128 .f32 ← Prog.lift (.load M.t (Rect.unit (s := S30x1x128) ![15 * (0 : Fin 2).val + t.val, 0, 0] S1x1x128.size (inbT 0 t)).toLoadRect (View.loadsAt_vmem pos_S1x1x128))
  let t1 : Vec F S1x1x128 .f32 ← Prog.lift (.load M.t (Rect.unit (s := S30x1x128) ![15 * (1 : Fin 2).val + t.val, 0, 0] S1x1x128.size (inbT 1 t)).toLoadRect (View.loadsAt_vmem pos_S1x1x128))
  let p0 ← view M cL (shapeCast S128x256 g0 cast_codes) (shapeCast S128x256 g1 cast_codes) (inv cK t0) (inv cK t1) 0 t
  let p1 ← view M cL (shapeCast S128x256 g0 cast_codes) (shapeCast S128x256 g1 cast_codes) (inv cK t0) (inv cK t1) 1 t
  let p2 ← view M cL (shapeCast S128x256 g0 cast_codes) (shapeCast S128x256 g1 cast_codes) (inv cK t0) (inv cK t1) 2 t
  let p3 ← view M cL (shapeCast S128x256 g0 cast_codes) (shapeCast S128x256 g1 cast_codes) (inv cK t0) (inv cK t1) 3 t
  pure (acc T (table p0 p1 p2 p3))

/-- The blocks `j, j + 1, …, 14`, then `K` of the totals. -/
def blocks (M : Mem sig) (cK cL : F .f32) {α : Type} (K : (Fin 4 → Fin 2 → FVec F S1x128 .f32) → Prog (TpuEff nD τ sig (Elt F) Λ .tc) α) :
    (n j : ℕ) → n + j = 15 → (Fin 4 → Fin 2 → FVec F S1x128 .f32) → Prog (TpuEff nD τ sig (Elt F) Λ .tc) α
  | 0, _, _, T => K T
  | n + 1, j, h, T => block M cK cL T ⟨j, by omega⟩ >>= fun T' => blocks M cK cL K n (j + 1) (by omega) T'

/-- The mean of a row of totals. -/
def mean (x : FVec F S1x128 .f32) : FVec F S1x1 .f32 :=
  divf (shapeCast S1x1 (multiReduction .add [1] S1 x 0x00000000#32 red_row (.inl rfl) rfl) cast_one) (broadcast S1x1 (Scalar.ofBits .f32 0x44F00000#32))

/-- Put one mean into the table of means. -/
def place (T : Fin 4 → Fin 2 → FVec F S1x128 .f32) (i : Fin 2) (v : Fin 4) (p : FVec F S2x4 .f32) : FVec F S2x4 .f32 :=
  select (andi (cmpi .eq (iota .tc S2x4 32 [0] iota_0) (broadcast S2x4 (BitVec.ofNat 32 i.val)))
    (cmpi .eq (iota .tc S2x4 32 [1] iota_1) (broadcast S2x4 (BitVec.ofNat 32 v.val))))
    (broadcastTo S2x4 (shapeCast S1x1 (mean (T v i)) cast_one') bcast_pair) p

/-- The table of means. -/
def means (T : Fin 4 → Fin 2 → FVec F S1x128 .f32) : FVec F S2x4 .f32 :=
  place T 1 3 (place T 1 2 (place T 1 1 (place T 1 0 (place T 0 3 (place T 0 2 (place T 0 1 (place T 0 0
    (broadcast S2x4 (Scalar.ofBits .f32 0x00000000#32)))))))))

/-- Store the table of means. -/
def storePair (M : Mem sig) (x : FVec F S2x4 .f32) : Prog (TpuEff nD τ sig (Elt F) Λ .tc) PUnit := do
  let _ : Vec F S2x4 .f32 ← Prog.lift (.load M.pair (Rect.unit (s := S2x4) ![0, 0] S2x4.size inbP).toLoadRect (View.loadsAt_vmem pos_S2x4))
  Prog.lift (.store M.pair (Rect.unit (s := S2x4) ![0, 0] S2x4.size inbP) x Finset.univ (View.stores_vmem_bits_univ pos_S2x4 rfl) (.inl rfl))

/-- The whole body. -/
def body (M : Mem sig) (cK cL : F .f32) : Prog (TpuEff nD τ sig (Elt F) Λ .tc) PUnit :=
  blocks M cK cL (fun T => storePair M (means T)) 15 0 rfl fun _ _ => zeros

end Programs

end Cert.Final

end
-- ==== Proof.FinalRun.lean ====
/-
  The final kernel's body run by values: its seven buffers hold plain vectors (`St`); a program takes such a state to
  another and returns a value (`Runs`). Every row of losses ends at its value, the table of means at the means of the totals.
-/
module

public import proofs.«01_k».proof.Proof.Final
public import Idealize.ShloMosaic.Lib.ValueIdx
public import Idealize.ShloMosaic.Lib.Pipeline.Value
public import Idealize.ShloMosaic.Lib.Pipeline.ValueKit

@[expose] public section

noncomputable section

namespace Cert.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules

variable {F : FTy → Type} [FloatOps F] {nD : ℕ} {τ : Topo} {sig : RefSig} {Λ : Labels} {U : Type} [URA U]

local notation "𝕄" => MT nD τ sig Unit (Elt F) ℕ U ℕ

/-- The program's contents of the kernel's buffers. -/
structure St (F : FTy → Type) where
  g : Vec F S3840x256 .f32
  t : Vec F S30x1x128 .f32
  s : Vec F S60x1x128 .f32
  codes : Vec F S7680x256 .fp8e4m3
  rep : Vec F S7680x128 .f32
  pair : Vec F S2x4 .f32
  loss : Vec F S2x4x5x384 .f32

/-- Core `c` holds the buffers at the state. -/
def holds (c : Dev nD) (M : Mem sig) (s : St F) : sProp 𝕄 :=
  iprop(owns (c : Thread nD τ) M.g fullShare s.g
    ∗ owns (c : Thread nD τ) M.t fullShare s.t
    ∗ owns (c : Thread nD τ) M.s fullShare s.s
    ∗ owns (c : Thread nD τ) M.codes fullShare s.codes
    ∗ owns (c : Thread nD τ) M.rep fullShare s.rep
    ∗ owns (c : Thread nD τ) M.pair fullShare s.pair
    ∗ owns (c : Thread nD τ) M.loss fullShare s.loss)

/-- The state with the table of means and the losses replaced. -/
def St.at (s : St F) (P : FVec F S2x4 .f32) (O : FVec F S2x4x5x384 .f32) : St F := { s with pair := P, loss := O }

variable (defs : Defs nD τ sig (Elt F) Λ) (c : Dev nD) (M : Mem sig) (U)

/-- From state `s` the program runs to its return with value `a`, leaving state `s'`. -/
def Runs {α : Type} (p : Prog (TpuEff nD τ sig (Elt F) Λ .tc) α) (s s' : St F) (a : α) : Prop :=
  ∀ (E : Set ℕ) (Q : α → sProp 𝕄), iprop(holds (U := U) c M s ∗ (holds (U := U) c M s' -∗ Q a)) ⊢ wp frame (wpE defs Variants.none (c : Thread nD τ) none) E p Q

variable {defs c M U}

theorem Runs.ret {α : Type} {s : St F} (a : α) : Runs U defs c M (.ret a) s s a := fun E Q => by
  rw [wp_ret]
  iintro ⟨H, K⟩
  imodintro
  iapply K; iexact H

theorem Runs.bind {α β : Type} {p : Prog (TpuEff nD τ sig (Elt F) Λ .tc) α} {k : α → Prog (TpuEff nD τ sig (Elt F) Λ .tc) β} {s s1 s2 : St F} {a : α} {b : β}
    (h : Runs U defs c M p s s1 a) (h' : Runs U defs c M (k a) s1 s2 b) : Runs U defs c M (p >>= k) s s2 b := fun E Q => by
  rw [wp_bind]
  iintro ⟨H, K⟩
  iapply (h E _)
  isplitl [H]; · iexact H
  iintro H
  iapply (h' E Q)
  isplitl [H] <;> iassumption

/-- A load through a memref the state holds. -/
theorem load_step {e : EltTy} {sh : Shape} {m : Memref sig .tc .vmem sh e} {X : sh.Idx → Elt F e} {s : St F}
    (hs : (holds (U := U) (τ := τ) c M s : sProp 𝕄) ⊢ iprop(owns (c : Thread nD τ) m fullShare X ∗ (owns (c : Thread nD τ) m fullShare X -∗ holds (U := U) c M s)))
    {off size : Fin sh.rank → ℕ} (inb : ∀ a, off a + size a ≤ sh.size a) (hl : m.view.LoadsAt (Rect.unit off size inb).toLoadRect) :
    Runs U defs c M (.op (.load m (Rect.unit off size inb).toLoadRect hl) .ret) s s (VecWindow.window X off size inb) := fun E Q => by
  refine (sep_mono_left hs).trans ?_
  unfold owns
  iintro ⟨⟨⟨%f, %hf, H⟩, K⟩, HQ⟩
  iapply (wp_load Variants.none (c : Thread nD τ) none E (m := m) (S := m.view.set) (View.setOn_subset_set _ _)) $$ H
  iintro H
  rw [wp_ret]
  imodintro
  rw [View.readAt_unit m.view f inb rfl inb, hf]
  iapply HQ
  iapply K
  iexists f
  isplitr; · ipureintro; exact hf
  iexact H

/-- A store through a memref the state holds. -/
theorem store_step {e : EltTy} {sh : Shape} {m : Memref sig .tc .vmem sh e} {X : sh.Idx → Elt F e} {s s' : St F}
    {off size : Fin sh.rank → ℕ} (inb : ∀ a, off a + size a ≤ sh.size a) {w : (Rect.unit off size inb).shape.Idx → Elt F e}
    (hs : (holds (U := U) (τ := τ) c M s : sProp 𝕄) ⊢ iprop(owns (c : Thread nD τ) m fullShare X ∗ (owns (c : Thread nD τ) m fullShare (VecWindow.put X off size w) -∗ holds (U := U) c M s')))
    (hx : (m.access (Rect.unit off size inb)).Stores Finset.univ) (hm) :
    Runs U defs c M (.op (.store m (Rect.unit off size inb) w Finset.univ hx hm) .ret) s s' ⟨⟩ := fun E Q => by
  refine (sep_mono_left hs).trans ?_
  unfold owns
  iintro ⟨⟨⟨%f, %hf, H⟩, K⟩, HQ⟩
  iapply (wp_store Variants.none (c : Thread nD τ) none E (m := m) (r := Rect.unit off size inb) (S := (m.view.set : Finset (Idx (m.view.loc (c : Thread nD τ))))) (View.set_slice_subset m.view _)) $$ H
  iintro H
  rw [wp_ret]
  imodintro
  iapply HQ
  iapply K
  iexists _
  isplitr
  swap; · iexact H
  ipureintro
  have := View.read_writes_cons_put m.view f inb w [] rfl
  rw [View.writes_nil, hf] at this
  exact this

variable {s : St F} {P : FVec F S2x4 .f32} {O : FVec F S2x4x5x384 .f32}

/-! ### One buffer taken out of the state and put back -/

theorem split_g (s : St F) : (holds (U := U) (τ := τ) c M (s.at P O) : sProp 𝕄) ⊢ iprop(owns (c : Thread nD τ) M.g fullShare s.g ∗ (owns (c : Thread nD τ) M.g fullShare s.g -∗ holds (U := U) c M (s.at P O))) := by
  unfold holds St.at
  iintro ⟨H0, H1, H2, H3, H4, H5, H6⟩
  isplitl [H0]; · iexact H0
  iintro H0
  isplitl [H0]; · iexact H0
  isplitl [H1]; · iexact H1
  isplitl [H2]; · iexact H2
  isplitl [H3]; · iexact H3
  isplitl [H4]; · iexact H4
  isplitl [H5] <;> iassumption

theorem split_t (s : St F) : (holds (U := U) (τ := τ) c M (s.at P O) : sProp 𝕄) ⊢ iprop(owns (c : Thread nD τ) M.t fullShare s.t ∗ (owns (c : Thread nD τ) M.t fullShare s.t -∗ holds (U := U) c M (s.at P O))) := by
  unfold holds St.at
  iintro ⟨H0, H1, H2, H3, H4, H5, H6⟩
  isplitl [H1]; · iexact H1
  iintro H1
  isplitl [H0]; · iexact H0
  isplitl [H1]; · iexact H1
  isplitl [H2]; · iexact H2
  isplitl [H3]; · iexact H3
  isplitl [H4]; · iexact H4
  isplitl [H5] <;> iassumption

theorem split_s (s : St F) : (holds (U := U) (τ := τ) c M (s.at P O) : sProp 𝕄) ⊢ iprop(owns (c : Thread nD τ) M.s fullShare s.s ∗ (owns (c : Thread nD τ) M.s fullShare s.s -∗ holds (U := U) c M (s.at P O))) := by
  unfold holds St.at
  iintro ⟨H0, H1, H2, H3, H4, H5, H6⟩
  isplitl [H2]; · iexact H2
  iintro H2
  isplitl [H0]; · iexact H0
  isplitl [H1]; · iexact H1
  isplitl [H2]; · iexact H2
  isplitl [H3]; · iexact H3
  isplitl [H4]; · iexact H4
  isplitl [H5] <;> iassumption

theorem split_codes (s : St F) : (holds (U := U) (τ := τ) c M (s.at P O) : sProp 𝕄) ⊢ iprop(owns (c : Thread nD τ) M.codes fullShare s.codes ∗ (owns (c : Thread nD τ) M.codes fullShare s.codes -∗ holds (U := U) c M (s.at P O))) := by
  unfold holds St.at
  iintro ⟨H0, H1, H2, H3, H4, H5, H6⟩
  isplitl [H3]; · iexact H3
  iintro H3
  isplitl [H0]; · iexact H0
  isplitl [H1]; · iexact H1
  isplitl [H2]; · iexact H2
  isplitl [H3]; · iexact H3
  isplitl [H4]; · iexact H4
  isplitl [H5] <;> iassumption

theorem split_rep (s : St F) : (holds (U := U) (τ := τ) c M (s.at P O) : sProp 𝕄) ⊢ iprop(owns (c : Thread nD τ) M.rep fullShare s.rep ∗ (owns (c : Thread nD τ) M.rep fullShare s.rep -∗ holds (U := U) c M (s.at P O))) := by
  unfold holds St.at
  iintro ⟨H0, H1, H2, H3, H4, H5, H6⟩
  isplitl [H4]; · iexact H4
  iintro H4
  isplitl [H0]; · iexact H0
  isplitl [H1]; · iexact H1
  isplitl [H2]; · iexact H2
  isplitl [H3]; · iexact H3
  isplitl [H4]; · iexact H4
  isplitl [H5] <;> iassumption

theorem split_pair (s : St F) P' : (holds (U := U) (τ := τ) c M (s.at P O) : sProp 𝕄) ⊢ iprop(owns (c : Thread nD τ) M.pair fullShare P ∗ (owns (c : Thread nD τ) M.pair fullShare P' -∗ holds (U := U) c M (s.at P' O))) := by
  unfold holds St.at
  iintro ⟨H0, H1, H2, H3, H4, H5, H6⟩
  isplitl [H5]; · iexact H5
  iintro H5
  isplitl [H0]; · iexact H0
  isplitl [H1]; · iexact H1
  isplitl [H2]; · iexact H2
  isplitl [H3]; · iexact H3
  isplitl [H4]; · iexact H4
  isplitl [H5] <;> iassumption

theorem split_loss (s : St F) O' : (holds (U := U) (τ := τ) c M (s.at P O) : sProp 𝕄) ⊢ iprop(owns (c : Thread nD τ) M.loss fullShare O ∗ (owns (c : Thread nD τ) M.loss fullShare O' -∗ holds (U := U) c M (s.at P O'))) := by
  unfold holds St.at
  iintro ⟨H0, H1, H2, H3, H4, H5, H6⟩
  isplitl [H6]; · iexact H6
  iintro H6
  isplitl [H0]; · iexact H0
  isplitl [H1]; · iexact H1
  isplitl [H2]; · iexact H2
  isplitl [H3]; · iexact H3
  isplitl [H4]; · iexact H4
  isplitl [H5] <;> iassumption

/-! ### Values -/

/-- A row of losses of the state's arrays. -/
def rowAt (s : St F) (cK cL : F .f32) (v : Fin 4) (i : Fin 2) (t : Fin 15) : FVec F S1x128 .f32 :=
  if i.val = v.val then zeros else
    row cL (VecWindow.window s.g ![1920 * i.val + 128 * t.val, 0] S128x256.size (inbG i t))
      (inv cK (VecWindow.window s.t ![15 * i.val + t.val, 0, 0] S1x1x128.size (inbT i t)))
      (VecWindow.window s.codes ![1920 * v.val + 128 * t.val, 0] S128x256.size (inbC v t))
      (VecWindow.window s.rep ![1920 * v.val + 128 * t.val, 0] S128x128.size (inbR v t))
      (VecWindow.window s.s ![15 * v.val + t.val, 0, 0] S1x1x128.size (inbS v t))

/-- The losses with one row put in. -/
def putRow (O : FVec F S2x4x5x384 .f32) (i : Fin 2) (v : Fin 4) (t : Fin 15) (x : FVec F S1x128 .f32) : FVec F S2x4x5x384 .f32 :=
  VecWindow.put O ![i.val, v.val, t.val / 3, 128 * (t.val % 3)] S1x1x1x128.size (shapeCast S1x1x1x128 x cast_out)

/-- The losses with a block's eight rows put in. -/
def putBlock (O : FVec F S2x4x5x384 .f32) (R : Fin 4 → Fin 2 → FVec F S1x128 .f32) (t : Fin 15) : FVec F S2x4x5x384 .f32 :=
  putRow (putRow (putRow (putRow (putRow (putRow (putRow (putRow O 0 0 t (R 0 0)) 1 0 t (R 0 1)) 0 1 t (R 1 0)) 1 1 t (R 1 1))
    0 2 t (R 2 0)) 1 2 t (R 2 1)) 0 3 t (R 3 0)) 1 3 t (R 3 1)

/-- The losses and the totals after the first `n` blocks. -/
def lossUpto (R : Fin 15 → Fin 4 → Fin 2 → FVec F S1x128 .f32) (O : FVec F S2x4x5x384 .f32) : (n : ℕ) → n ≤ 15 → FVec F S2x4x5x384 .f32
  | 0, _ => O
  | n + 1, h => putBlock (lossUpto R O n (by omega)) (R ⟨n, h⟩) ⟨n, h⟩
def totalUpto (R : Fin 15 → Fin 4 → Fin 2 → FVec F S1x128 .f32) : (n : ℕ) → n ≤ 15 → Fin 4 → Fin 2 → FVec F S1x128 .f32
  | 0, _ => fun _ _ => zeros
  | n + 1, h => acc (totalUpto R n (by omega)) (R ⟨n, h⟩)

/-- All rows of losses. -/
abbrev rows (s : St F) (cK cL : F .f32) (t : Fin 15) (v : Fin 4) (i : Fin 2) : FVec F S1x128 .f32 := rowAt s cK cL v i t

/-! ### Runs -/

theorem storeRow_run (i : Fin 2) (v : Fin 4) (t : Fin 15) (x : FVec F S1x128 .f32) :
    Runs U defs c M (storeRow M i v t x) (s.at P O) (s.at P (putRow O i v t x)) ⟨⟩ := by
  unfold storeRow
  refine Runs.bind (load_step (split_loss s O) _ _) ?_
  exact store_step _ (split_loss s _) _ _

theorem item_run {cK cL : F .f32} (i : Fin 2) (v : Fin 4) (t : Fin 15) :
    Runs U defs c M (item M cL (VecWindow.window s.g ![1920 * i.val + 128 * t.val, 0] S128x256.size (inbG i t))
      (inv cK (VecWindow.window s.t ![15 * i.val + t.val, 0, 0] S1x1x128.size (inbT i t)))
      (VecWindow.window s.codes ![1920 * v.val + 128 * t.val, 0] S128x256.size (inbC v t))
      (VecWindow.window s.rep ![1920 * v.val + 128 * t.val, 0] S128x128.size (inbR v t)) i v t)
      (s.at P O) (s.at P (putRow O i v t (rowAt s cK cL v i t))) (rowAt s cK cL v i t) := by
  unfold item rowAt
  by_cases h : i.val = v.val
  · rw [if_pos h, if_pos h]
    exact Runs.bind (storeRow_run i v t _) (Runs.ret _)
  · rw [if_neg h, if_neg h]
    exact Runs.bind (load_step (split_s s) _ _) (Runs.bind (storeRow_run i v t _) (Runs.ret _))

theorem view_run {cK cL : F .f32} (v : Fin 4) (t : Fin 15) :
    Runs U defs c M (view M cL (VecWindow.window s.g ![1920 * (0 : Fin 2).val + 128 * t.val, 0] S128x256.size (inbG 0 t))
      (VecWindow.window s.g ![1920 * (1 : Fin 2).val + 128 * t.val, 0] S128x256.size (inbG 1 t))
      (inv cK (VecWindow.window s.t ![15 * (0 : Fin 2).val + t.val, 0, 0] S1x1x128.size (inbT 0 t)))
      (inv cK (VecWindow.window s.t ![15 * (1 : Fin 2).val + t.val, 0, 0] S1x1x128.size (inbT 1 t))) v t)
      (s.at P O) (s.at P (putRow (putRow O 0 v t (rowAt s cK cL v 0 t)) 1 v t (rowAt s cK cL v 1 t))) (rowAt s cK cL v 0 t, rowAt s cK cL v 1 t) := by
  unfold view
  refine Runs.bind (load_step (split_codes s) _ _) ?_
  refine Runs.bind (load_step (split_rep s) _ _) ?_
  exact Runs.bind (item_run 0 v t) (Runs.bind (item_run 1 v t) (Runs.ret _))

theorem table_eq (f : Fin 4 → Fin 2 → FVec F S1x128 .f32) : table (f 0 0, f 0 1) (f 1 0, f 1 1) (f 2 0, f 2 1) (f 3 0, f 3 1) = f := by
  funext v i
  fin_cases v <;> fin_cases i <;> rfl

theorem block_run {cK cL : F .f32} (T : Fin 4 → Fin 2 → FVec F S1x128 .f32) (t : Fin 15) :
    Runs U defs c M (block M cK cL T t) (s.at P O) (s.at P (putBlock O (rows s cK cL t) t)) (acc T (rows s cK cL t)) := by
  unfold block
  refine Runs.bind (load_step (split_g s) _ _) ?_
  refine Runs.bind (load_step (split_g s) _ _) ?_
  refine Runs.bind (load_step (split_t s) _ _) ?_
  refine Runs.bind (load_step (split_t s) _ _) ?_
  simp only [shapeCast_self]
  refine Runs.bind (view_run 0 t) (Runs.bind (view_run 1 t) (Runs.bind (view_run 2 t) (Runs.bind (view_run 3 t) ?_)))
  rw [show table (rowAt s cK cL 0 0 t, rowAt s cK cL 0 1 t) (rowAt s cK cL 1 0 t, rowAt s cK cL 1 1 t) (rowAt s cK cL 2 0 t, rowAt s cK cL 2 1 t)
    (rowAt s cK cL 3 0 t, rowAt s cK cL 3 1 t) = rows s cK cL t from table_eq (rows s cK cL t)]
  exact Runs.ret _

theorem blocks_run {cK cL : F .f32} {α : Type} {K : (Fin 4 → Fin 2 → FVec F S1x128 .f32) → Prog (TpuEff nD τ sig (Elt F) Λ .tc) α} {s' : St F} {a : α}
    (hK : Runs U defs c M (K (totalUpto (rows s cK cL) 15 le_rfl)) (s.at P (lossUpto (rows s cK cL) O 15 le_rfl)) s' a) :
    ∀ (n j : ℕ) (h : n + j = 15), Runs U defs c M (blocks M cK cL K n j h (totalUpto (rows s cK cL) j (by omega)))
      (s.at P (lossUpto (rows s cK cL) O j (by omega))) s' a
  | 0, j, h => by
    obtain rfl : j = 15 := by omega
    exact hK
  | n + 1, j, h => Runs.bind (block_run _ ⟨j, by omega⟩) (blocks_run hK n (j + 1) (by omega))

theorem put_pair (X : FVec F S2x4 .f32) (w : S2x4.Idx → F .f32) : VecWindow.put X ![0, 0] S2x4.size w = w := by
  funext y
  have h : ∀ a, (![0, 0] : Fin 2 → ℕ) a ≤ (y a).val ∧ (y a).val < (![0, 0] : Fin 2 → ℕ) a + S2x4.size a := fun a => by
    match a with
    | ⟨0, _⟩ => exact ⟨Nat.zero_le _, by show (y 0).val < 0 + 2; have := ValueIdx.idx2_lt0 (n0 := 2) (n1 := 4) y; omega⟩
    | ⟨1, _⟩ => exact ⟨Nat.zero_le _, by show (y 1).val < 0 + 4; have := ValueIdx.idx2_lt1 (n0 := 2) (n1 := 4) y; omega⟩
  refine (dif_pos h).trans (congrArg w (funext fun a => Fin.ext ?_))
  rw [Rect.unitLocal_val]
  match a with
  | ⟨0, _⟩ => rfl
  | ⟨1, _⟩ => rfl

theorem storePair_run (x : FVec F S2x4 .f32) : Runs U defs c M (storePair M x) (s.at P O) (s.at x O) ⟨⟩ := by
  unfold storePair
  refine Runs.bind (load_step (split_pair s P) _ _) ?_
  have := store_step (U := U) (defs := defs) (c := c) (M := M) (s := s.at P O) (s' := s.at x O) (X := P) (m := M.pair) (off := ![0, 0]) (size := S2x4.size) inbP (w := x)
    (by rw [put_pair]; exact split_pair s x) (View.stores_vmem_bits_univ pos_S2x4 rfl) (.inl rfl)
  exact this

/-- The body. -/
theorem body_run (cK cL : F .f32) : Runs U defs c M (body M cK cL) (s.at P O)
    (s.at (means (totalUpto (rows s cK cL) 15 le_rfl)) (lossUpto (rows s cK cL) O 15 le_rfl)) ⟨⟩ :=
  blocks_run (storePair_run _) 15 0 rfl

/-! ### The losses after the body -/

open ValueIdx (ix2) in
/-- Lane `q` of row `(i, v, t)` of the losses. -/
def at4 (i : Fin 2) (v : Fin 4) (t : Fin 15) (q : Fin 128) : S2x4x5x384.Idx :=
  ValueIdx.ix4 i v ⟨t.val / 3, by omega⟩ ⟨128 * (t.val % 3) + q.val, by omega⟩

theorem putRow_apply (O : FVec F S2x4x5x384 .f32) (i i' : Fin 2) (v v' : Fin 4) (t t' : Fin 15) (x : FVec F S1x128 .f32) (q : Fin 128) :
    putRow O i v t x (at4 i' v' t' q) = if i' = i ∧ v' = v ∧ t' = t then x (ValueIdx.ix2 0 q) else O (at4 i' v' t' q) := by
  unfold putRow VecWindow.put
  have e0 : (at4 i' v' t' q 0).val = i'.val := rfl
  have e1 : (at4 i' v' t' q 1).val = v'.val := rfl
  have e2 : (at4 i' v' t' q 2).val = t'.val / 3 := rfl
  have e3 : (at4 i' v' t' q 3).val = 128 * (t'.val % 3) + q.val := rfl
  have hq := q.isLt
  split
  · next h =>
    have h0 : i.val ≤ (at4 i' v' t' q 0).val ∧ (at4 i' v' t' q 0).val < i.val + 1 := h 0
    have h1 : v.val ≤ (at4 i' v' t' q 1).val ∧ (at4 i' v' t' q 1).val < v.val + 1 := h 1
    have h2 : t.val / 3 ≤ (at4 i' v' t' q 2).val ∧ (at4 i' v' t' q 2).val < t.val / 3 + 1 := h 2
    have h3 : 128 * (t.val % 3) ≤ (at4 i' v' t' q 3).val ∧ (at4 i' v' t' q 3).val < 128 * (t.val % 3) + 128 := h 3
    rw [e0] at h0; rw [e1] at h1; rw [e2] at h2; rw [e3] at h3
    have ei : i' = i := Fin.ext (by omega)
    have ev : v' = v := Fin.ext (by omega)
    have et : t' = t := Fin.ext (by omega)
    subst ei ev et
    rw [if_pos ⟨rfl, rfl, rfl⟩]
    refine shapeCast_apply _ _ _ (ValueIdx.ix2 0 q) ?_
    rw [Shape.rowMajor_val_two (d := ![1, 128]), Shape.rowMajor_val_four (d := ![1, 1, 1, 128]), Rect.unitLocal_val, Rect.unitLocal_val, Rect.unitLocal_val, Rect.unitLocal_val]
    rw [e0, e1, e2, e3]
    simp [ValueIdx.ix2]
  · next h =>
    rw [if_neg]
    rintro ⟨rfl, rfl, rfl⟩
    refine h fun a => ?_
    match a with
    | ⟨0, _⟩ => exact ⟨le_rfl, Nat.lt_succ_self _⟩
    | ⟨1, _⟩ => exact ⟨le_rfl, Nat.lt_succ_self _⟩
    | ⟨2, _⟩ => exact ⟨le_rfl, Nat.lt_succ_self _⟩
    | ⟨3, _⟩ => exact ⟨Nat.le_add_right _ _, Nat.add_lt_add_left hq _⟩

theorem putBlock_apply (O : FVec F S2x4x5x384 .f32) (R : Fin 4 → Fin 2 → FVec F S1x128 .f32) (i : Fin 2) (v : Fin 4) (t t' : Fin 15) (q : Fin 128) :
    putBlock O R t (at4 i v t' q) = if t' = t then R v i (ValueIdx.ix2 0 q) else O (at4 i v t' q) := by
  unfold putBlock
  simp only [putRow_apply]
  by_cases h : t' = t
  · rw [if_pos h]
    fin_cases i <;> fin_cases v <;> simp [h]
  · simp [h]

theorem lossUpto_apply (R : Fin 15 → Fin 4 → Fin 2 → FVec F S1x128 .f32) (O : FVec F S2x4x5x384 .f32) (i : Fin 2) (v : Fin 4) (t : Fin 15) (q : Fin 128) :
    ∀ (n : ℕ) (h : n ≤ 15), lossUpto R O n h (at4 i v t q) = if t.val < n then R t v i (ValueIdx.ix2 0 q) else O (at4 i v t q)
  | 0, _ => by simp [lossUpto]
  | n + 1, h => by
    rw [lossUpto, putBlock_apply, lossUpto_apply R O i v t q n (by omega)]
    by_cases e : t.val = n
    · have et : t = ⟨n, h⟩ := Fin.ext e
      rw [if_pos et, if_pos (by omega), ← et]
    · rw [if_neg (fun et => e (congrArg Fin.val et))]
      by_cases g : t.val < n
      · rw [if_pos g, if_pos (by omega)]
      · rw [if_neg g, if_neg (by omega)]

/-- Every element of the losses is a lane of a row. -/
theorem eq_at4 (y : S2x4x5x384.Idx) : ∃ i v t q, y = at4 i v t q := by
  have h0 : (y 0).val < 2 := (y 0).isLt
  have h1 : (y 1).val < 4 := (y 1).isLt
  have h2 : (y 2).val < 5 := (y 2).isLt
  have h3 : (y 3).val < 384 := (y 3).isLt
  refine ⟨⟨(y 0).val, h0⟩, ⟨(y 1).val, h1⟩, ⟨3 * (y 2).val + (y 3).val / 128, by omega⟩, ⟨(y 3).val % 128, by omega⟩, funext fun a => Fin.ext ?_⟩
  match a with
  | ⟨0, _⟩ => rfl
  | ⟨1, _⟩ => rfl
  | ⟨2, _⟩ => show (y 2).val = (3 * (y 2).val + (y 3).val / 128) / 3; omega
  | ⟨3, _⟩ => show (y 3).val = 128 * ((3 * (y 2).val + (y 3).val / 128) % 3) + (y 3).val % 128; omega

/-- The losses after the body, whatever they were before. -/
def lossOf (R : Fin 15 → Fin 4 → Fin 2 → FVec F S1x128 .f32) : FVec F S2x4x5x384 .f32 := lossUpto R (fun _ => FloatOps.ofBits .f32 0x00000000#32) 15 le_rfl

theorem lossOf_eq (R : Fin 15 → Fin 4 → Fin 2 → FVec F S1x128 .f32) (O : FVec F S2x4x5x384 .f32) : lossUpto R O 15 le_rfl = lossOf R := by
  funext y
  obtain ⟨i, v, t, q, rfl⟩ := eq_at4 y
  rw [lossOf, lossUpto_apply, lossUpto_apply, if_pos t.isLt, if_pos t.isLt]

theorem lossOf_apply (R : Fin 15 → Fin 4 → Fin 2 → FVec F S1x128 .f32) (i : Fin 2) (v : Fin 4) (t : Fin 15) (q : Fin 128) :
    lossOf R (at4 i v t q) = R t v i (ValueIdx.ix2 0 q) := by
  rw [lossOf, lossUpto_apply, if_pos t.isLt]

end Rules

end Cert.Final

end
-- ==== Proof.P.FinalProgram.lean ====
module
public import Idealize.ShloMosaic.Lib.Tactic
public import proofs.«01_k».proof.Proof.Final
public import proofs.«01_k».proof.Kernel

/-! # The printed final body as the written one

The printed body is fifteen unrolled blocks; it is, operation for operation, the body of `Final`. -/

@[expose] public section
set_option maxRecDepth 1000000
set_option maxHeartbeats 0
noncomputable section
namespace Cert.Kernel
open Idealize.ShloMosaic Idealize.ShloMosaic.TcCoe Idealize.SL.Sem
open Facts₀ Facts
variable {F : FTy → Type} [BitOps F] [Facts]

/-- The constants of the body, as bit patterns. -/
abbrev fK : F .f32 := Scalar.ofBits .f32 0x3ECCCCCD#32
abbrev fL : F .f32 := Scalar.ofBits .f32 0x3F317218#32

/-- The printed body is the written one. -/
theorem final_eq (arg0 : Memref sig .tc .vmem S3840x256 .f32) (arg1 : Memref sig .tc .vmem S30x1x128 .f32) (arg2 : Memref sig .tc .vmem S60x1x128 .f32)
    (arg3 : Memref sig .tc .vmem S7680x256 .fp8e4m3) (arg4 : Memref sig .tc .vmem S7680x128 .f32) (arg5 : Memref sig .tc .vmem S2x4 .f32) (arg6 : Memref sig .tc .vmem S2x4x5x384 .f32)
    (h0 : arg0.IsWhole) (h1 : arg1.IsWhole) (h2 : arg2.IsWhole) (h3 : arg3.IsWhole) (h4 : arg4.IsWhole) (h5 : arg5.IsWhole) (h6 : arg6.IsWhole) :
    cc2_final (F := F) arg0 h0 arg1 h1 arg2 h2 arg3 h3 arg4 h4 arg5 h5 arg6 h6 = Final.body ⟨arg0, arg1, arg2, arg3, arg4, arg5, arg6⟩ fK fL := by
  sl_kernel_rfl
end Cert.Kernel
end
-- ==== Proof.P.Body.lean ====
/-
  The kernel as printed, run by values: the teacher body, the student body, the final body, and @main around the three.
-/
module

public import proofs.«01_k».proof.Proof.Whole
public import proofs.«01_k».proof.Proof.TWhole
public import proofs.«01_k».proof.Proof.P.TProgram
public import proofs.«01_k».proof.Proof.P.Program
public import proofs.«01_k».proof.Proof.FinalRun
public import proofs.«01_k».proof.Proof.P.FinalProgram
public import proofs.«01_k».proof.Proof.Gen.Kernel.Points
public import proofs.«01_k».proof.Proof.Gen.Kernel.Regions
public import Idealize.ShloMosaic.Lib.Pipeline.RegionArraysS
public import Idealize.ShloMosaic.Lib.Pipeline.ValueKit

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg RegionSeg afterRegion)
open Cert.Kernel.Gen Facts₀ Facts
open Cert.Student (St Mem Runs trips trip outAt holds)

variable {F : FTy → Type} [BitOps F]

local notation "𝕄" => MT nD τ sig Unit (Elt F) ℕ (UR sig nD τ) ℕ

/-! ## The teacher body -/

theorem ttrips1 : k0_t1_loop.trips = 15 := by decide +kernel
theorem ttrips2 : k0_t2_loop.trips = 40 := by decide +kernel
theorem ttrips3 : k0_t3_loop.trips = 40 := by decide +kernel

/-- The truncation of one number. -/
def trunc1 (x : F .f32) : F .f32 := FloatOps.ofBits .f32 (IntOp.andi (BitOps.toBits x) 4294901760#32)
theorem trunc_at (p : FVec F Student.S32x128 .f32) (u : Student.S32x128.Idx) : trunc p u = trunc1 (p u) := rfl

/-- A row block of the teacher. -/
theorem trows_run (c : Dev nD) (M : Teacher.Mem sig) (s : Teacher.St F) (k : Fin k0_t1_loop.trips) (i : Fin 15) (hk : k.val = i.val) (A B : FVec F S256x128 .f32) (O : FVec F S30x1x128 .f32) (G : FVec F S3840x256 .f32) :
    Teacher.Runs (UR sig nD τ) (defs₀ (F := F)) c M (trows M.codes M.rep M.protos M.out M.G M.A M.B M.ws M.cb k) (s.at A B O G) (Teacher.trip trunc1 s i (s.at A B O G)) PUnit.unit := by
  refine Teacher.rowBlock_run (by rw [← hk]; exact k0_off1_eq k) (fun h => ?_) (fun j X B O G => ?_) (fun A B O G => ?_) A B O G
  · rw [← hk]; exact k0_off3_eq k h
  · exact Teacher.accStep trunc_at (by rw [← hk]; exact k0_off1_eq k) rfl (fun b => by rw [← hk]; exact k0_off2_eq k b) (fun _ => rfl) X
  · refine Teacher.rescue_run ttrips2 ttrips3 (fun k' j hj A X O G => ?_) (fun k' j hj X B O G => ?_) (by rw [← hk]; exact k0_off8_eq k) (by rw [← hk]; exact k0_off9_eq k) (fun h => ?_) A B O G
    · exact Teacher.maxStep (by rw [← hk]; exact k0_off4_eq k) (by rw [← hj]; exact k0_off5_eq k') (fun b => by rw [← hk]; exact k0_off6_eq k b) (fun c => by rw [← hj]; exact k0_off7_eq k' c) X
    · exact Teacher.subStep trunc_at (by rw [← hk]; exact k0_off9_eq k) (by rw [← hj]; exact k0_off10_eq k') (fun b => by rw [← hk]; exact k0_off11_eq k b) (fun c => by rw [← hj]; exact k0_off12_eq k' c) X
    · rw [← hk]; exact k0_off13_eq k h

/-- The arguments of the teacher body, as a state. -/
def tstart (x0 : Vec F S3840x256 .fp8e4m3) (x1 : Vec F S3840x128 .f32) (x2 : Vec F S20480x256 .fp8e4m3) (x3 x4 : Vec F S1x20480 .f32) : Teacher.St F :=
  ⟨x0, x1, x2, x3, x4, fun _ => FloatOps.ofBits .f32 0x00000000#32, fun _ => FloatOps.ofBits .f32 0x00000000#32, fun _ => FloatOps.ofBits .f32 0x00000000#32,
    fun _ => FloatOps.ofBits .f32 0x00000000#32, fun _ => FloatOps.ofBits .f32 0x00000000#32, fun _ => FloatOps.ofBits .f32 0x00000000#32⟩

/-- The results of the teacher body: the sums and the products. -/
def tsums (x0 : Vec F S3840x256 .fp8e4m3) (x1 : Vec F S3840x128 .f32) (x2 : Vec F S20480x256 .fp8e4m3) (x3 x4 : Vec F S1x20480 .f32) : Vec F S30x1x128 .f32 :=
  Teacher.outAt ((tstart x0 x1 x2 x3 x4).scaled tT)
def tprods (x0 : Vec F S3840x256 .fp8e4m3) (x1 : Vec F S3840x128 .f32) (x2 : Vec F S20480x256 .fp8e4m3) (x3 x4 : Vec F S1x20480 .f32) : Vec F S3840x256 .f32 :=
  Teacher.gOut trunc1 ((tstart x0 x1 x2 x3 x4).scaled tT)

/-- The teacher body on whole memrefs. -/
theorem tbody_run (c : Dev nD) (E : Set ℕ) (arg0 : Memref sig .tc .vmem S3840x256 .fp8e4m3) (h0 : arg0.IsWhole) (arg1 : Memref sig .tc .vmem S3840x128 .f32) (h1 : arg1.IsWhole)
    (arg2 : Memref sig .tc .vmem S20480x256 .fp8e4m3) (h2 : arg2.IsWhole) (arg3 : Memref sig .tc .vmem S1x20480 .f32) (h3 : arg3.IsWhole) (arg4 : Memref sig .tc .vmem S1x20480 .f32) (h4 : arg4.IsWhole)
    (arg5 : Memref sig .tc .vmem S30x1x128 .f32) (h5 : arg5.IsWhole) (arg6 : Memref sig .tc .vmem S3840x256 .f32) (h6 : arg6.IsWhole) (arg7 : Memref sig .tc .vmem S256x128 .f32) (h7 : arg7.IsWhole) (arg8 : Memref sig .tc .vmem S256x128 .f32) (h8 : arg8.IsWhole)
    (arg9 : Memref sig .tc .vmem S1x20480 .f32) (h9 : arg9.IsWhole) (arg10 : Memref sig .tc .vmem S1x20480 .f32) (h10 : arg10.IsWhole)
    (x0 : Vec F S3840x256 .fp8e4m3) (x1 : Vec F S3840x128 .f32) (x2 : Vec F S20480x256 .fp8e4m3) (x3 x4 : Vec F S1x20480 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (tsums x0 x1 x2 x3 x4) ∗ owns (c : Thread nD τ) arg6 fullShare (tprods x0 x1 x2 x3 x4) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E (cc0_teacher arg0 h0 arg1 h1 arg2 h2 arg3 h3 arg4 h4 arg5 h5 arg6 h6 arg7 h7 arg8 h8 arg9 h9 arg10 h10) K := by
  rw [tprogram_eq]
  iintro ⟨H0, H1, H2, H3, H4, ⟨%O, H5⟩, ⟨%G, H6⟩, ⟨%A, H7⟩, ⟨%B, H8⟩, ⟨%W, H9⟩, ⟨%C, H10⟩, Hk⟩
  iapply (Teacher.body_run (t := trunc1) (U := UR sig nD τ) (defs := defs₀ (F := F)) (c := c) (M := ⟨arg0, arg1, arg2, arg3, arg4, arg5, arg6, arg7, arg8, arg9, arg10⟩) (s := tstart x0 x1 x2 x3 x4) ttrips1 tT
    (fun k i hk A B O G => trows_run c ⟨arg0, arg1, arg2, arg3, arg4, arg5, arg6, arg7, arg8, arg9, arg10⟩ ((tstart x0 x1 x2 x3 x4).scaled tT) k i hk A B O G) A B O G W C E K)
  rw [Teacher.trips_at trunc1 ((tstart x0 x1 x2 x3 x4).scaled tT) _ rfl 15, Teacher.trips_all, Teacher.trips_allG]
  unfold Teacher.holds
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

/-! ## The student body -/

theorem trips1 : k1_t1_loop.trips = 30 := by decide +kernel
theorem trips2 : k1_t2_loop.trips = 40 := by decide +kernel
theorem trips3 : k1_t3_loop.trips = 40 := by decide +kernel

/-- A row block. -/
theorem rows_run (c : Dev nD) (M : Mem sig) (s : St F) (k : Fin k1_t1_loop.trips) (i : Fin 30) (hk : k.val = i.val) (A B : FVec F S256x128 .f32) (O : FVec F S60x1x128 .f32) :
    Runs (UR sig nD τ) (defs₀ (F := F)) c M (rows M.codes M.rep M.protos M.out M.A M.B M.ws k) (s.at A B O) (trip s cE cL i (s.at A B O)) PUnit.unit := by
  refine Student.rowBlock_run (fun h => ?_) (fun j X B O => ?_) (fun A B O => ?_) A B O
  · rw [← hk]; exact k1_off3_eq k h
  · exact Student.accStep (by rw [← hk]; exact k1_off1_eq k) rfl (fun b => by rw [← hk]; exact k1_off2_eq k b) (fun _ => rfl) X
  · refine Student.rescue_run trips2 trips3 (fun k' j hj A X O => ?_) (fun k' j hj X B O => ?_) cE cL (fun h => ?_) A B O
    · exact Student.maxStep (by rw [← hk]; exact k1_off4_eq k) (by rw [← hj]; exact k1_off5_eq k') (fun b => by rw [← hk]; exact k1_off6_eq k b) (fun c => by rw [← hj]; exact k1_off7_eq k' c) X
    · exact Student.subStep (by rw [← hk]; exact k1_off8_eq k) (by rw [← hj]; exact k1_off9_eq k') (fun b => by rw [← hk]; exact k1_off10_eq k b) (fun c => by rw [← hj]; exact k1_off11_eq k' c) X
    · rw [← hk]; exact k1_off12_eq k h

/-- The arguments of the body, as a state. -/
def start (x0 : Vec F S7680x256 .fp8e4m3) (x1 : Vec F S7680x128 .f32) (x2 : Vec F S20480x256 .fp8e4m3) (x3 : Vec F S1x20480 .f32) : St F :=
  ⟨x0, x1, x2, x3, fun _ => FloatOps.ofBits .f32 0x00000000#32, fun _ => FloatOps.ofBits .f32 0x00000000#32, fun _ => FloatOps.ofBits .f32 0x00000000#32, fun _ => FloatOps.ofBits .f32 0x00000000#32⟩

/-- The result of the body. -/
def result (x0 : Vec F S7680x256 .fp8e4m3) (x1 : Vec F S7680x128 .f32) (x2 : Vec F S20480x256 .fp8e4m3) (x3 : Vec F S1x20480 .f32) : Vec F S60x1x128 .f32 :=
  outAt ((start x0 x1 x2 x3).scaled cT) cE cL

/-- The student body on whole memrefs, the unread argument left alone. -/
theorem body_run (c : Dev nD) (E : Set ℕ) (arg0 : Memref sig .tc .vmem S7680x256 .fp8e4m3) (h0 : arg0.IsWhole) (arg1 : Memref sig .tc .vmem S7680x128 .f32) (h1 : arg1.IsWhole)
    (arg2 : Memref sig .tc .vmem S20480x256 .fp8e4m3) (h2 : arg2.IsWhole) (arg3 : Memref sig .tc .vmem S1x20480 .f32) (h3 : arg3.IsWhole) (arg4 : Memref sig .tc .vmem S1x20480 .f32) (h4 : arg4.IsWhole)
    (arg5 : Memref sig .tc .vmem S60x1x128 .f32) (h5 : arg5.IsWhole) (arg6 : Memref sig .tc .vmem S256x128 .f32) (h6 : arg6.IsWhole) (arg7 : Memref sig .tc .vmem S256x128 .f32) (h7 : arg7.IsWhole)
    (arg8 : Memref sig .tc .vmem S1x20480 .f32) (h8 : arg8.IsWhole)
    (x0 : Vec F S7680x256 .fp8e4m3) (x1 : Vec F S7680x128 .f32) (x2 : Vec F S20480x256 .fp8e4m3) (x3 : Vec F S1x20480 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg5 fullShare (result x0 x1 x2 x3) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc1_student arg0 h0 arg1 h1 arg2 h2 arg3 h3 arg4 h4 arg5 h5 arg6 h6 arg7 h7 arg8 h8) K := by
  rw [program_eq]
  iintro ⟨H0, H1, H2, H3, ⟨%O, H5⟩, ⟨%A, H6⟩, ⟨%B, H7⟩, ⟨%W, H8⟩, Hk⟩
  iapply (Student.body_run (U := UR sig nD τ) (defs := defs₀ (F := F)) (c := c) (M := ⟨arg0, arg1, arg2, arg3, arg5, arg6, arg7, arg8⟩) (s := start x0 x1 x2 x3) trips1 cT cE cL
    (fun k i hk A B O => rows_run c ⟨arg0, arg1, arg2, arg3, arg5, arg6, arg7, arg8⟩ ((start x0 x1 x2 x3).scaled cT) k i hk A B O) A B O W E K)
  rw [Student.trips_at ((start x0 x1 x2 x3).scaled cT) cE cL _ rfl 30, Student.trips_all]
  unfold holds
  isplitl [H0 H1 H2 H3 H5 H6 H7 H8]
  · isplitl [H0]; · iexact H0
    isplitl [H1]; · iexact H1
    isplitl [H2]; · iexact H2
    isplitl [H3]; · iexact H3
    isplitl [H5]; · iexact H5
    isplitl [H6]; · iexact H6
    isplitl [H7]; · iexact H7
    iexact H8
  iintro ⟨H0, H1, H2, H3, H5, H6, H7, H8⟩
  iapply Hk
  isplitl [H0]; · iexact H0
  isplitl [H1]; · iexact H1
  isplitl [H2]; · iexact H2
  isplitl [H3]; · iexact H3
  isplitl [H5]; · iexact H5
  isplitl [H6]; · iexists _; iexact H6
  isplitl [H7]; · iexists _; iexact H7
  iexists _; iexact H8

/-! ## The final body -/

/-- The arguments of the final body, as a state. -/
def start1 (x0 : Vec F S3840x256 .f32) (x1 : Vec F S30x1x128 .f32) (x2 : Vec F S60x1x128 .f32) (x3 : Vec F S7680x256 .fp8e4m3) (x4 : Vec F S7680x128 .f32) : Final.St F :=
  ⟨x0, x1, x2, x3, x4, fun _ => FloatOps.ofBits .f32 0x00000000#32, fun _ => FloatOps.ofBits .f32 0x00000000#32⟩

/-- The rows of losses of the arguments. -/
def rows1 (x0 : Vec F S3840x256 .f32) (x1 : Vec F S30x1x128 .f32) (x2 : Vec F S60x1x128 .f32) (x3 : Vec F S7680x256 .fp8e4m3) (x4 : Vec F S7680x128 .f32) :
    Fin 15 → Fin 4 → Fin 2 → FVec F S1x128 .f32 := Final.rows (start1 x0 x1 x2 x3 x4) fK fL

/-- The final body on whole memrefs. -/
theorem final_run (c : Dev nD) (E : Set ℕ) (arg0 : Memref sig .tc .vmem S3840x256 .f32) (h0 : arg0.IsWhole) (arg1 : Memref sig .tc .vmem S30x1x128 .f32) (h1 : arg1.IsWhole)
    (arg2 : Memref sig .tc .vmem S60x1x128 .f32) (h2 : arg2.IsWhole) (arg3 : Memref sig .tc .vmem S7680x256 .fp8e4m3) (h3 : arg3.IsWhole) (arg4 : Memref sig .tc .vmem S7680x128 .f32) (h4 : arg4.IsWhole)
    (arg5 : Memref sig .tc .vmem S2x4 .f32) (h5 : arg5.IsWhole) (arg6 : Memref sig .tc .vmem S2x4x5x384 .f32) (h6 : arg6.IsWhole)
    (x0 : Vec F S3840x256 .f32) (x1 : Vec F S30x1x128 .f32) (x2 : Vec F S60x1x128 .f32) (x3 : Vec F S7680x256 .fp8e4m3) (x4 : Vec F S7680x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (Final.means (Final.totalUpto (rows1 x0 x1 x2 x3 x4) 15 le_rfl))
            ∗ owns (c : Thread nD τ) arg6 fullShare (Final.lossOf (rows1 x0 x1 x2 x3 x4))) -∗ K ⟨⟩))
      ⊢ wp frame (wpE (defs₀ (F := F)) Variants.none c none) E (cc2_final arg0 h0 arg1 h1 arg2 h2 arg3 h3 arg4 h4 arg5 h5 arg6 h6) K := by
  rw [final_eq]
  iintro ⟨H0, H1, H2, H3, H4, ⟨%P, H5⟩, ⟨%O, H6⟩, Hk⟩
  iapply (Final.body_run (U := UR sig nD τ) (defs := defs₀ (F := F)) (c := c) (M := ⟨arg0, arg1, arg2, arg3, arg4, arg5, arg6⟩) (s := start1 x0 x1 x2 x3 x4) (P := P) (O := O) fK fL E K)
  rw [Final.lossOf_eq]
  unfold Final.holds
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]; · iexact H5
  iexact H6

/-! ## The pipelines' proof data -/

/-- A window's block of the buffers at a region's entry. -/
def blk0 (W : Valuation τ sig (Elt F)) (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))
def blk1 (W : Valuation τ sig (Elt F)) (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))
def blk2 (W : Valuation τ sig (Elt F)) (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

/-- The teacher region from the buffers at `W`: after the body each input's buffer at its block and the results' at the sums and the
    products of the blocks; the other scoped buffers at anything; nothing owed; full shares. -/
def dat0 (W : Valuation τ sig (Elt F)) (c : Dev nD) : Dat τ (Elt F) Unit ℕ (UR sig nD τ) ℕ cfg0 c where
  A w := W (Proc.devRef .tc (Pipeline.arrRef spec0 w))
  after w t := match w with
    | ⟨0, _⟩ => blk0 W 0 t
    | ⟨1, _⟩ => blk0 W 1 t
    | ⟨2, _⟩ => blk0 W 2 t
    | ⟨3, _⟩ => blk0 W 3 t
    | ⟨4, _⟩ => blk0 W 4 t
    | ⟨5, _⟩ => tsums (blk0 W 0 t) (blk0 W 1 t) (blk0 W 2 t) (blk0 W 3 t) (blk0 W 4 t)
    | ⟨6, _⟩ => tprods (blk0 W 0 t) (blk0 W 1 t) (blk0 W 2 t) (blk0 W 3 t) (blk0 W 4 t)
  Φ _ := Pipeline.scopedRest spec0 c
  q _ := fullShare
  owed _ := 0

/-- The student region from the buffers at `W`: after the body each input's buffer at its block and the result's at `result`
    of the blocks; the other scoped buffers at anything; nothing owed; full shares. -/
def dat1 (W : Valuation τ sig (Elt F)) (c : Dev nD) : Dat τ (Elt F) Unit ℕ (UR sig nD τ) ℕ cfg1 c where
  A w := W (Proc.devRef .tc (Pipeline.arrRef spec1 w))
  after w t := match w with
    | ⟨0, _⟩ => blk1 W 0 t
    | ⟨1, _⟩ => blk1 W 1 t
    | ⟨2, _⟩ => blk1 W 2 t
    | ⟨3, _⟩ => blk1 W 3 t
    | ⟨4, _⟩ => blk1 W 4 t
    | ⟨5, _⟩ => result (blk1 W 0 t) (blk1 W 1 t) (blk1 W 2 t) (blk1 W 3 t)
  Φ _ := Pipeline.scopedRest spec1 c
  q _ := fullShare
  owed _ := 0

/-- The final region from the buffers at `W`. -/
def dat2 (W : Valuation τ sig (Elt F)) (c : Dev nD) : Dat τ (Elt F) Unit ℕ (UR sig nD τ) ℕ cfg2 c where
  A w := W (Proc.devRef .tc (Pipeline.arrRef spec2 w))
  after w t := match w with
    | ⟨0, _⟩ => blk2 W 0 t
    | ⟨1, _⟩ => blk2 W 1 t
    | ⟨2, _⟩ => blk2 W 2 t
    | ⟨3, _⟩ => blk2 W 3 t
    | ⟨4, _⟩ => blk2 W 4 t
    | ⟨5, _⟩ => Final.means (Final.totalUpto (rows1 (blk2 W 0 t) (blk2 W 1 t) (blk2 W 2 t) (blk2 W 3 t) (blk2 W 4 t)) 15 le_rfl)
    | ⟨6, _⟩ => Final.lossOf (rows1 (blk2 W 0 t) (blk2 W 1 t) (blk2 W 2 t) (blk2 W 3 t) (blk2 W 4 t))
  Φ _ := Pipeline.scopedRest spec2 c
  q _ := fullShare
  owed _ := 0

variable (W : Valuation τ sig (Elt F))

theorem after0_0 (c : Dev nD) (t : Fin cfg0.N) : (dat0 W c).after 0 t = blk0 W 0 t := by dsimp only [dat0]
theorem after0_1 (c : Dev nD) (t : Fin cfg0.N) : (dat0 W c).after 1 t = blk0 W 1 t := by dsimp only [dat0]
theorem after0_2 (c : Dev nD) (t : Fin cfg0.N) : (dat0 W c).after 2 t = blk0 W 2 t := by dsimp only [dat0]
theorem after0_3 (c : Dev nD) (t : Fin cfg0.N) : (dat0 W c).after 3 t = blk0 W 3 t := by dsimp only [dat0]
theorem after0_4 (c : Dev nD) (t : Fin cfg0.N) : (dat0 W c).after 4 t = blk0 W 4 t := by dsimp only [dat0]
theorem after0_5 (c : Dev nD) (t : Fin cfg0.N) : (dat0 W c).after 5 t = tsums (blk0 W 0 t) (blk0 W 1 t) (blk0 W 2 t) (blk0 W 3 t) (blk0 W 4 t) := by dsimp only [dat0]
theorem after0_6 (c : Dev nD) (t : Fin cfg0.N) : (dat0 W c).after 6 t = tprods (blk0 W 0 t) (blk0 W 1 t) (blk0 W 2 t) (blk0 W 3 t) (blk0 W 4 t) := by dsimp only [dat0]
theorem before0_0 (c : Dev nD) (t : Fin cfg0.N) (d) : (dat0 W c).before 0 t d = blk0 W 0 t := by
  unfold Dat.before; rw [if_pos (fetch0_0 t)]; rfl
theorem before0_1 (c : Dev nD) (t : Fin cfg0.N) (d) : (dat0 W c).before 1 t d = blk0 W 1 t := by
  unfold Dat.before; rw [if_pos (fetch0_1 t)]; rfl
theorem before0_2 (c : Dev nD) (t : Fin cfg0.N) (d) : (dat0 W c).before 2 t d = blk0 W 2 t := by
  unfold Dat.before; rw [if_pos (fetch0_2 t)]; rfl
theorem before0_3 (c : Dev nD) (t : Fin cfg0.N) (d) : (dat0 W c).before 3 t d = blk0 W 3 t := by
  unfold Dat.before; rw [if_pos (fetch0_3 t)]; rfl
theorem before0_4 (c : Dev nD) (t : Fin cfg0.N) (d) : (dat0 W c).before 4 t d = blk0 W 4 t := by
  unfold Dat.before; rw [if_pos (fetch0_4 t)]; rfl
theorem after1_0 (c : Dev nD) (t : Fin cfg1.N) : (dat1 W c).after 0 t = blk1 W 0 t := by dsimp only [dat1]
theorem after1_1 (c : Dev nD) (t : Fin cfg1.N) : (dat1 W c).after 1 t = blk1 W 1 t := by dsimp only [dat1]
theorem after1_2 (c : Dev nD) (t : Fin cfg1.N) : (dat1 W c).after 2 t = blk1 W 2 t := by dsimp only [dat1]
theorem after1_3 (c : Dev nD) (t : Fin cfg1.N) : (dat1 W c).after 3 t = blk1 W 3 t := by dsimp only [dat1]
theorem after1_4 (c : Dev nD) (t : Fin cfg1.N) : (dat1 W c).after 4 t = blk1 W 4 t := by dsimp only [dat1]
theorem after1_5 (c : Dev nD) (t : Fin cfg1.N) : (dat1 W c).after 5 t = result (blk1 W 0 t) (blk1 W 1 t) (blk1 W 2 t) (blk1 W 3 t) := by dsimp only [dat1]
theorem before1_0 (c : Dev nD) (t : Fin cfg1.N) (d) : (dat1 W c).before 0 t d = blk1 W 0 t := by
  unfold Dat.before; rw [if_pos (fetch1_0 t)]; rfl
theorem before1_1 (c : Dev nD) (t : Fin cfg1.N) (d) : (dat1 W c).before 1 t d = blk1 W 1 t := by
  unfold Dat.before; rw [if_pos (fetch1_1 t)]; rfl
theorem before1_2 (c : Dev nD) (t : Fin cfg1.N) (d) : (dat1 W c).before 2 t d = blk1 W 2 t := by
  unfold Dat.before; rw [if_pos (fetch1_2 t)]; rfl
theorem before1_3 (c : Dev nD) (t : Fin cfg1.N) (d) : (dat1 W c).before 3 t d = blk1 W 3 t := by
  unfold Dat.before; rw [if_pos (fetch1_3 t)]; rfl
theorem before1_4 (c : Dev nD) (t : Fin cfg1.N) (d) : (dat1 W c).before 4 t d = blk1 W 4 t := by
  unfold Dat.before; rw [if_pos (fetch1_4 t)]; rfl
theorem after2_0 (c : Dev nD) (t : Fin cfg2.N) : (dat2 W c).after 0 t = blk2 W 0 t := by dsimp only [dat2]
theorem after2_1 (c : Dev nD) (t : Fin cfg2.N) : (dat2 W c).after 1 t = blk2 W 1 t := by dsimp only [dat2]
theorem after2_2 (c : Dev nD) (t : Fin cfg2.N) : (dat2 W c).after 2 t = blk2 W 2 t := by dsimp only [dat2]
theorem after2_3 (c : Dev nD) (t : Fin cfg2.N) : (dat2 W c).after 3 t = blk2 W 3 t := by dsimp only [dat2]
theorem after2_4 (c : Dev nD) (t : Fin cfg2.N) : (dat2 W c).after 4 t = blk2 W 4 t := by dsimp only [dat2]
theorem after2_5 (c : Dev nD) (t : Fin cfg2.N) : (dat2 W c).after 5 t = Final.means (Final.totalUpto (rows1 (blk2 W 0 t) (blk2 W 1 t) (blk2 W 2 t) (blk2 W 3 t) (blk2 W 4 t)) 15 le_rfl) := by dsimp only [dat2]
theorem after2_6 (c : Dev nD) (t : Fin cfg2.N) : (dat2 W c).after 6 t = Final.lossOf (rows1 (blk2 W 0 t) (blk2 W 1 t) (blk2 W 2 t) (blk2 W 3 t) (blk2 W 4 t)) := by dsimp only [dat2]
theorem before2_0 (c : Dev nD) (t : Fin cfg2.N) (d) : (dat2 W c).before 0 t d = blk2 W 0 t := by
  unfold Dat.before; rw [if_pos (fetch2_0 t)]; rfl
theorem before2_1 (c : Dev nD) (t : Fin cfg2.N) (d) : (dat2 W c).before 1 t d = blk2 W 1 t := by
  unfold Dat.before; rw [if_pos (fetch2_1 t)]; rfl
theorem before2_2 (c : Dev nD) (t : Fin cfg2.N) (d) : (dat2 W c).before 2 t d = blk2 W 2 t := by
  unfold Dat.before; rw [if_pos (fetch2_2 t)]; rfl
theorem before2_3 (c : Dev nD) (t : Fin cfg2.N) (d) : (dat2 W c).before 3 t d = blk2 W 3 t := by
  unfold Dat.before; rw [if_pos (fetch2_3 t)]; rfl
theorem before2_4 (c : Dev nD) (t : Fin cfg2.N) (d) : (dat2 W c).before 4 t d = blk2 W 4 t := by
  unfold Dat.before; rw [if_pos (fetch2_4 t)]; rfl

/-- The scoped buffers that stage nothing for the teacher: its four scratch buffers, and the rest. -/
theorem tscratch_eq (c : Dev nD) : ∃ R : sProp 𝕄, (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d) ∗ R) := by
  rw [scopedRest0_eq]
  simp only [owns_whole]
  exact ⟨_, rfl⟩

/-- The scoped buffers that stage nothing for the student: its three scratch buffers, and the rest. -/
theorem scratch_eq (c : Dev nD) : ∃ R0 R1 R2 R3 R4 R5 R6 R7 R8 R9 R10 R : sProp 𝕄, (Pipeline.scopedRest (Ix := Unit) (Name := ℕ) (U := UR sig nD τ) (Lvl := ℕ) (Val := Elt F) spec1 c : sProp 𝕄)
    = iprop(R0 ∗ R1 ∗ R2 ∗ R3 ∗ R4 ∗ R5 ∗ R6 ∗ R7 ∗ R8 ∗ R9 ∗ R10 ∗ (∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ R) := by
  rw [scopedRest1_eq]
  simp only [owns_whole]
  exact ⟨_, _, _, _, _, _, _, _, _, _, _, _, rfl⟩

/-- The teacher's body obligation. -/
theorem obligation0 (c : Dev nD) : BodyObligation (dat0 (F := F) W c) (defs₀ (F := F)) Variants.none () Set.univ := fun t => by
  rw [bigSep_W0, bigSep_W0]
  sl_whnfR [defs₀, Defs.onTc]
  simp only [before0_0, before0_1, before0_2, before0_3, before0_4]
  rw [show (dat0 W c).Φ t.succ = (dat0 W c).Φ t.castSucc from rfl,
    show (dat0 W c).owesAt () t.succ = (dat0 W c).owesAt () t.castSucc from rfl, after0_0, after0_1, after0_2, after0_3, after0_4, after0_5, after0_6,
    show (dat0 W c).Φ t.castSucc = Pipeline.scopedRest spec0 c from rfl]
  obtain ⟨R, hR⟩ := tscratch_eq (F := F) c
  rw [hR]
  iintro ⟨⟨S0, S1, S2, S3, HP⟩, Ho, ⟨%d0, H0⟩, ⟨%d1, H1⟩, ⟨%d2, H2⟩, ⟨%d3, H3⟩, ⟨%d4, H4⟩, ⟨%d5, H5⟩, ⟨%d6, H6⟩⟩
  iapply (tbody_run c Set.univ _ _ _ _ _ _ _ _ _ _ _ _ _ _ _ _ _ _ _ _ _ _ (blk0 W 0 t) (blk0 W 1 t) (blk0 W 2 t) (blk0 W 3 t) (blk0 W 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 HP]
  · isplitl [S0]; · iexact S0
    isplitl [S1]; · iexact S1
    isplitl [S2]; · iexact S2
    isplitl [S3]; · iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The student's body obligation. -/
theorem obligation1 (c : Dev nD) : BodyObligation (dat1 (F := F) W c) (defs₀ (F := F)) Variants.none () Set.univ := fun t => by
  rw [bigSep_W1, bigSep_W1]
  sl_whnfR [defs₀, Defs.onTc]
  simp only [before1_0, before1_1, before1_2, before1_3, before1_4]
  rw [show (dat1 W c).Φ t.succ = (dat1 W c).Φ t.castSucc from rfl,
    show (dat1 W c).owesAt () t.succ = (dat1 W c).owesAt () t.castSucc from rfl, after1_0, after1_1, after1_2, after1_3, after1_4, after1_5,
    show (dat1 W c).Φ t.castSucc = Pipeline.scopedRest spec1 c from rfl]
  obtain ⟨_, _, _, _, _, _, _, _, _, _, _, R, hR⟩ := scratch_eq (F := F) c
  rw [hR]
  iintro ⟨⟨Q0, Q1, Q2, Q3, Q4, Q5, Q6, Q7, Q8, Q9, Q10, S0, S1, S2, HP⟩, Ho, ⟨%d0, H0⟩, ⟨%d1, H1⟩, ⟨%d2, H2⟩, ⟨%d3, H3⟩, ⟨%d4, H4⟩, H5⟩
  iapply (body_run c Set.univ _ _ _ _ _ _ _ _ _ _ _ _ _ _ _ _ _ _ (blk1 W 0 t) (blk1 W 1 t) (blk1 W 2 t) (blk1 W 3 t) _)
  isplitl [H0]; · iexact H0
  isplitl [H1]; · iexact H1
  isplitl [H2]; · iexact H2
  isplitl [H3]; · iexact H3
  isplitl [H5]; · icases H5 with ⟨%d5, H5⟩; iexists _; iexact H5
  isplitl [S0]; · iexact S0
  isplitl [S1]; · iexact S1
  isplitl [S2]; · iexact S2
  iintro ⟨H0, H1, H2, H3, H5, S0, S1, S2⟩
  isplitl [Q0 Q1 Q2 Q3 Q4 Q5 Q6 Q7 Q8 Q9 Q10 S0 S1 S2 HP]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [S0]; · iexact S0
    isplitl [S1]; · iexact S1
    isplitl [S2]; · iexact S2
    iexact HP
  isplitl [Ho]; · iexact Ho
  isplitl [H0]; · iexact H0
  isplitl [H1]; · iexact H1
  isplitl [H2]; · iexact H2
  isplitl [H3]; · iexact H3
  isplitl [H4]; · iexact H4
  iexact H5

/-- The final kernel's body obligation. -/
theorem obligation2 (c : Dev nD) : BodyObligation (dat2 (F := F) W c) (defs₀ (F := F)) Variants.none () Set.univ := fun t => by
  rw [bigSep_W2, bigSep_W2]
  sl_whnfR [defs₀, Defs.onTc]
  simp only [before2_0, before2_1, before2_2, before2_3, before2_4]
  rw [show (dat2 W c).Φ t.succ = (dat2 W c).Φ t.castSucc from rfl,
    show (dat2 W c).owesAt () t.succ = (dat2 W c).owesAt () t.castSucc from rfl, after2_0, after2_1, after2_2, after2_3, after2_4, after2_5, after2_6]
  iintro ⟨HP, Ho, ⟨%d0, H0⟩, ⟨%d1, H1⟩, ⟨%d2, H2⟩, ⟨%d3, H3⟩, ⟨%d4, H4⟩, ⟨%d5, H5⟩, ⟨%d6, H6⟩⟩
  iapply (final_run c Set.univ _ _ _ _ _ _ _ _ _ _ _ _ _ _ (blk2 W 0 t) (blk2 W 1 t) (blk2 W 2 t) (blk2 W 3 t) (blk2 W 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## @main: the host operations, the three regions -/

variable (m : (ℓ : Loc nD τ sig) → Buf (Elt F) ℓ) (ρ : Dev nD → PrngReg)

/-- The buffers when the teacher, the student and the final region and @main's end are reached. -/
abbrev W1 (c : Dev nD) : Valuation τ sig (Elt F) := V1 m c
abbrev W2 (c : Dev nD) : Valuation τ sig (Elt F) := afterRegion (dat0 (W1 m c) c) (W1 m c)
abbrev W3 (c : Dev nD) : Valuation τ sig (Elt F) := afterRegion (dat1 (W2 m c) c) (W2 m c)
abbrev W4 (c : Dev nD) : Valuation τ sig (Elt F) := afterRegion (dat2 (W3 m c) c) (W3 m c)

/-- The three regions' proof data. -/
def pdats : (p : Fin 3) → (c : Dev nD) → Dat τ (Elt F) Unit ℕ (UR sig nD τ) ℕ (cfgs p) c
  | 0 => fun c => dat0 (W1 m c) c
  | 1 => fun c => dat1 (W2 m c) c
  | 2 => fun c => dat2 (W3 m c) c

/-- No core owes another anything. -/
abbrev Lv : GSem nD τ sig → Finset Unit := fun g => if g.1.2 = .tc then Finset.univ else ∅
abbrev lv : GSem nD τ sig → Unit → ℕ := fun _ _ => 0

theorem cut (p : Fin 3) : Pipeline.LevelCut (pcfgs (F := F)) adm () Lv lv p (fun _ => 0) (fun _ => 0) where
  hι _ _ _ := by simp [Lv]
  hιb _ _ _ := le_rfl
  hD _ _ _ h := absurd h (lt_irrefl _)

theorem enter0 (W : Dev nD → Valuation τ sig (Elt F)) (c : Dev nD) : iprop(Pipeline.scopedRest spec0 c ∗ emp) ⊢ (dat0 (W c) c).Φ 0 :=
  (Laws.sep_emp (P := Pipeline.scopedRest spec0 c)).1
theorem leave0 (W : Dev nD → Valuation τ sig (Elt F)) (c : Dev nD) : (dat0 (W c) c).Φ (Fin.last cfg0.N) ⊢ iprop(Pipeline.scopedRest spec0 c ∗ emp) :=
  (Laws.sep_emp (P := Pipeline.scopedRest spec0 c)).2
theorem enter1 (W : Dev nD → Valuation τ sig (Elt F)) (c : Dev nD) : iprop(Pipeline.scopedRest spec1 c ∗ emp) ⊢ (dat1 (W c) c).Φ 0 :=
  (Laws.sep_emp (P := Pipeline.scopedRest spec1 c)).1
theorem leave1 (W : Dev nD → Valuation τ sig (Elt F)) (c : Dev nD) : (dat1 (W c) c).Φ (Fin.last cfg1.N) ⊢ iprop(Pipeline.scopedRest spec1 c ∗ emp) :=
  (Laws.sep_emp (P := Pipeline.scopedRest spec1 c)).2
theorem enter2 (W : Dev nD → Valuation τ sig (Elt F)) (c : Dev nD) : iprop(Pipeline.scopedRest spec2 c ∗ emp) ⊢ (dat2 (W c) c).Φ 0 :=
  (Laws.sep_emp (P := Pipeline.scopedRest spec2 c)).1
theorem leave2 (W : Dev nD → Valuation τ sig (Elt F)) (c : Dev nD) : (dat2 (W c) c).Φ (Fin.last cfg2.N) ⊢ iprop(Pipeline.scopedRest spec2 c ∗ emp) :=
  (Laws.sep_emp (P := Pipeline.scopedRest spec2 c)).2

/-- The teacher region. -/
def R0 : RegionSeg (pcfgs (F := F)) adm (pdats m) () defs₀ Variants.none Lv lv 0 :=
  RegionSeg.ofHeldIn (pcfgs (F := F)) adm (pdats m) () defs₀ Variants.none Lv lv 0 (fun _ => 0) (Pipeline.ucRefs τ sig) (fun _ => iprop(emp)) (fun _ => iprop(emp))
    launch0.toP rfl (fun c => (obligation0 (W1 m c) c).loose) (fun _ _ => rfl) (fun _ => rfl) (fun c => (dat0 (W1 m c) c).share_full fun _ => rfl)
    (enter0 (W1 m)) (leave0 (W1 m)) (fun _ => 0) (cut 0) (fun _ => iprop(emp)) (W1 m) fun _ _ => rfl

/-- The student region. -/
def R1 : RegionSeg (pcfgs (F := F)) adm (pdats m) () defs₀ Variants.none Lv lv 1 :=
  RegionSeg.ofHeldIn (pcfgs (F := F)) adm (pdats m) () defs₀ Variants.none Lv lv 1 (fun _ => 0) (Pipeline.ucRefs τ sig) (fun _ => iprop(emp)) (fun _ => iprop(emp))
    launch1.toP rfl (fun c => (obligation1 (W2 m c) c).loose) (fun _ _ => rfl) (fun _ => rfl) (fun c => (dat1 (W2 m c) c).share_full fun _ => rfl)
    (enter1 (W2 m)) (leave1 (W2 m)) (fun _ => 0) (cut 1) (fun _ => iprop(emp)) (W2 m) fun _ _ => rfl

/-- The final region. -/
def R2 : RegionSeg (pcfgs (F := F)) adm (pdats m) () defs₀ Variants.none Lv lv 2 :=
  RegionSeg.ofHeldIn (pcfgs (F := F)) adm (pdats m) () defs₀ Variants.none Lv lv 2 (fun _ => 0) (Pipeline.ucRefs τ sig) (fun _ => iprop(emp)) (fun _ => iprop(emp))
    launch2.toP rfl (fun c => (obligation2 (W3 m c) c).loose) (fun _ _ => rfl) (fun _ => rfl) (fun c => (dat2 (W3 m c) c).share_full fun _ => rfl)
    (enter2 (W3 m)) (leave2 (W3 m)) (fun _ => 0) (cut 2) (fun _ => iprop(emp)) (W3 m) fun _ _ => rfl

/-- What rides beside the buffers: nothing owed. -/
abbrev rest (_ : Fin 4) (c : Dev nD) : sProp 𝕄 := iprop((∃ Wd, owes (c : Thread nD τ) (0 : CellTallies nD τ sig Unit) Wd) ∗ emp ∗ emp)

theorem arrs0 : Pipeline.arrRefs (τ := τ) (pcfgs (F := F) 0).spec ⊆ Pipeline.ucRefs τ sig := Pipeline.arrRefs_sub_ucRefs spec0 (by decide)
theorem hpre0 (c : Dev nD) : iprop(StableHlo.held (c : Thread nD τ) (Pipeline.ucRefs τ sig) (W1 m c) ∗ rest (F := F) 0 c) ⊢ (R0 m).pre c :=
  RegionSeg.ofHeldIn_pre (pcs := pcfgs (F := F)) (a := adm) (pdats := pdats m) (ι := ()) (defs₀ := defs₀) (𝒱₀ := Variants.none) (L := Lv) (lv := lv) (p := 0) (D := fun _ => 0)
    (S := Pipeline.ucRefs τ sig) (arrs0 (F := F)) (X := fun _ => iprop(emp)) (Y := fun _ => iprop(emp))
    (R := fun _ => iprop(emp)) (W := W1 m) c
theorem hpost0 (c : Dev nD) : (R0 m).post c ⊢ iprop(StableHlo.held (c : Thread nD τ) (Pipeline.ucRefs τ sig) (W2 m c) ∗ rest (F := F) 1 c) :=
  RegionSeg.ofHeldIn_post (pcs := pcfgs (F := F)) (a := adm) (pdats := pdats m) (ι := ()) (defs₀ := defs₀) (𝒱₀ := Variants.none) (L := Lv) (lv := lv) (p := 0) (D := fun _ => 0)
    (S := Pipeline.ucRefs τ sig) (arrs0 (F := F)) (X := fun _ => iprop(emp)) (Y := fun _ => iprop(emp))
    (R := fun _ => iprop(emp)) (W := W1 m) c
theorem arrs1 : Pipeline.arrRefs (τ := τ) (pcfgs (F := F) 1).spec ⊆ Pipeline.ucRefs τ sig := Pipeline.arrRefs_sub_ucRefs spec1 (by decide)
theorem hpre1 (c : Dev nD) : iprop(StableHlo.held (c : Thread nD τ) (Pipeline.ucRefs τ sig) (W2 m c) ∗ rest (F := F) 1 c) ⊢ (R1 m).pre c :=
  RegionSeg.ofHeldIn_pre (pcs := pcfgs (F := F)) (a := adm) (pdats := pdats m) (ι := ()) (defs₀ := defs₀) (𝒱₀ := Variants.none) (L := Lv) (lv := lv) (p := 1) (D := fun _ => 0)
    (S := Pipeline.ucRefs τ sig) (arrs1 (F := F)) (X := fun _ => iprop(emp)) (Y := fun _ => iprop(emp))
    (R := fun _ => iprop(emp)) (W := W2 m) c
theorem hpost1 (c : Dev nD) : (R1 m).post c ⊢ iprop(StableHlo.held (c : Thread nD τ) (Pipeline.ucRefs τ sig) (W3 m c) ∗ rest (F := F) 2 c) :=
  RegionSeg.ofHeldIn_post (pcs := pcfgs (F := F)) (a := adm) (pdats := pdats m) (ι := ()) (defs₀ := defs₀) (𝒱₀ := Variants.none) (L := Lv) (lv := lv) (p := 1) (D := fun _ => 0)
    (S := Pipeline.ucRefs τ sig) (arrs1 (F := F)) (X := fun _ => iprop(emp)) (Y := fun _ => iprop(emp))
    (R := fun _ => iprop(emp)) (W := W2 m) c
theorem arrs2 : Pipeline.arrRefs (τ := τ) (pcfgs (F := F) 2).spec ⊆ Pipeline.ucRefs τ sig := Pipeline.arrRefs_sub_ucRefs spec2 (by decide)
theorem hpre2 (c : Dev nD) : iprop(StableHlo.held (c : Thread nD τ) (Pipeline.ucRefs τ sig) (W3 m c) ∗ rest (F := F) 2 c) ⊢ (R2 m).pre c :=
  RegionSeg.ofHeldIn_pre (pcs := pcfgs (F := F)) (a := adm) (pdats := pdats m) (ι := ()) (defs₀ := defs₀) (𝒱₀ := Variants.none) (L := Lv) (lv := lv) (p := 2) (D := fun _ => 0)
    (S := Pipeline.ucRefs τ sig) (arrs2 (F := F)) (X := fun _ => iprop(emp)) (Y := fun _ => iprop(emp))
    (R := fun _ => iprop(emp)) (W := W3 m) c
theorem hpost2 (c : Dev nD) : (R2 m).post c ⊢ iprop(StableHlo.held (c : Thread nD τ) (Pipeline.ucRefs τ sig) (W4 m c) ∗ rest (F := F) 3 c) :=
  RegionSeg.ofHeldIn_post (pcs := pcfgs (F := F)) (a := adm) (pdats := pdats m) (ι := ()) (defs₀ := defs₀) (𝒱₀ := Variants.none) (L := Lv) (lv := lv) (p := 2) (D := fun _ => 0)
    (S := Pipeline.ucRefs τ sig) (arrs2 (F := F)) (X := fun _ => iprop(emp)) (Y := fun _ => iprop(emp))
    (R := fun _ => iprop(emp)) (W := W3 m) c

theorem rest_end (c : Dev nD) : rest (F := F) 3 c ⊢ (iprop(∃ Wd, owes (c : Thread nD τ) (0 : CellTallies nD τ sig Unit) Wd) : sProp 𝕄) := by
  iintro ⟨H, -⟩
  iexact H

/-- Every argument is as launched at @main's end. -/
theorem W4_arg (c : Dev nD) (r : Ref sig .tc) (h2 : ∀ w, Pipeline.arrRef spec2 w = r → (cfg2.win w).isOut = false) (h1 : ∀ w, Pipeline.arrRef spec1 w = r → (cfg1.win w).isOut = false)
    (h0 : ∀ w, Pipeline.arrRef spec0 w = r → (cfg0.win w).isOut = false) (h : r ∉ hostOps0_W) :
    W4 m c (Proc.devRef .tc r) = m ((c.tc : Thread nD τ).loc r) := by
  unfold W4 W3 W2
  rw [Pipeline.afterRegion_keeps _ _ launch2.win.arr_inj (fun _ => rfl) r h2, Pipeline.afterRegion_keeps _ _ launch1.win.arr_inj (fun _ => rfl) r h1, Pipeline.afterRegion_keeps _ _ launch0.win.arr_inj (fun _ => rfl) r h0]
  exact V1_of m c r h

set_option backward.isDefEq.respectTransparency.types false in
/-- Every execution ends with the two results at the arrays the final region leaves, every argument as launched, and the semaphores at zero. -/
theorem run_main : θ_run (defs (F := F)) (onTc (τ := τ) (main (F := F))) ⟨m, fun _ => 0, ρ⟩ (fun r => (∀ c : Dev nD,
      r.2.mem ((c.tc : Thread nD τ).loc main_v10_0) = (dat2 (W3 m c) c).arrAt 5 cfg2.N
      ∧ r.2.mem ((c.tc : Thread nD τ).loc main_v10_1) = (dat2 (W3 m c) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (pdats m) () cellOf_inj emb₁ defs₀ Variants.none Lv lv m ρ main
    (segs m Variants.none Lv lv (rest (F := F)) () (pdats m) (R0 m) (R1 m) (R2 m))
    (fun c Q => by
      rewrite [main_chain c, Seg.run_eq_chain,
        show (segs m Variants.none Lv lv (rest (F := F)) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) (fun g h => if_neg h)
    (fun _ => iprop(emp)) (Rounds.initOf (Pipeline.cells cfgs cellOf_inj) (Pipeline.launchToks cfgs cellOf_inj))
    (by
      iintro Hu; imodintro
      isplitl [Hu]
      · iapply (show (ownU _ : sProp 𝕄) ⊢ BI.own (emb₁ (Rounds.initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) 0 c))
    (Tₙ := fun c => StableHlo.held (c : Thread nD τ) (Pipeline.ucRefs τ sig) (W4 m c))
    (hch := fun c => ⟨.rfl, hpre0 m c, (hpost0 m c).trans (hpre1 m c), (hpost1 m c).trans (hpre2 m c), (hpost2 m c).trans (BI.sep_mono (BI.Entails.refl _) (rest_end c))⟩)
    (hinit := Pipeline.initEach Lv lv fun c => ?_)
    (QY := fun c s => s.mem ((c.tc : Thread nD τ).loc main_v10_0) = (dat2 (W3 m c) c).arrAt 5 cfg2.N ∧ s.mem ((c.tc : Thread nD τ).loc main_v10_1) = (dat2 (W3 m c) c).arrAt 6 cfg2.N
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_arg4) = m ((c.tc : Thread nD τ).loc main_arg4) ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · rw [← Pipeline.unscopedBufs_held (Ix := Unit) (Name := ℕ) (U := UR sig nD τ) (Lvl := ℕ) c (V0 m c)]
    iintro ⟨⟨Hb, -, Ho, -, -, -⟩, -⟩
    imodintro
    isplitl [Hb]; · iexact Hb
    isplitl [Ho]; · iexists _; iexact Ho
    isplitl <;> iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v10_0) (Finset.mem_filter.mpr ⟨StableHlo.devRef_mem_tcRefs main_v10_0, by decide⟩)).trans (Pipeline.afterRegion_arr (dat2 (W3 m c) c) (W3 m c) launch2.win.arr_inj 5),
        (h (Proc.devRef .tc main_v10_1) (Finset.mem_filter.mpr ⟨StableHlo.devRef_mem_tcRefs main_v10_1, by decide⟩)).trans (Pipeline.afterRegion_arr (dat2 (W3 m c) c) (W3 m c) launch2.win.arr_inj 6),
        (h (Proc.devRef .tc main_arg0) (Finset.mem_filter.mpr ⟨StableHlo.devRef_mem_tcRefs main_arg0, by decide⟩)).trans (W4_arg m c main_arg0 (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide))⟩
    · iexact HSI

end Cert.Kernel

end
-- ==== Proof.PI.TProgram.lean ====
module
public import Idealize.ShloMosaic.Lib.Tactic
public import proofs.«01_k».proof.Proof.TBlocks
public import proofs.«01_k».proof.KernelIdeal

/-! # The printed teacher body as the written one

The printed body is forty unrolled steps of eight unrolled blocks; it is, operation for operation, the body of `TBlocks`. -/

@[expose] public section
set_option maxRecDepth 1000000
set_option maxHeartbeats 0
noncomputable section
namespace Cert.KernelIdeal
open Idealize.ShloMosaic Idealize.ShloMosaic.TcCoe Idealize.SL.Sem
open Facts₀ Facts
variable {F : FTy → Type} [FloatOps F] [Named F] [Facts]

/-- The constant of the teacher's body, `25 / log 2`. -/
abbrev tT : F .f32 := Named.named κ "log2e_over_teacher_temp" 0x421044FE#32

/-- The truncation. -/
def trunc (p : FVec F Student.S32x128 .f32) : FVec F Student.S32x128 .f32 := extf .f32 (truncf .bf16 p)

section
variable (arg0 : Memref sig .tc .vmem S3840x256 .fp8e4m3) (arg1 : Memref sig .tc .vmem S3840x128 .f32) (arg2 : Memref sig .tc .vmem S20480x256 .fp8e4m3)
  (arg5 : Memref sig .tc .vmem S30x1x128 .f32) (arg6 : Memref sig .tc .vmem S3840x256 .f32) (arg7 arg8 : Memref sig .tc .vmem S256x128 .f32) (arg9 arg10 : Memref sig .tc .vmem S1x20480 .f32)

/-- Row block `k` of the printed teacher body. -/
def trows (k : Fin k0_t1_loop.trips) : Prog (TpuEff nD τ sig (Elt F) Λ₀ .tc) PUnit :=
  Teacher.rowBlock arg7 arg5 arg6
    (fun j => Teacher.gtile arg0 arg2 (k0_off1 k) (k0_off1_inb k) ![512 * j.val, 0] (Student.inbV j) fun z b =>
      Teacher.accBlk trunc arg1 arg9 arg10 arg7 z b (k0_off2 k (BitVec.ofNat 32 (32 * b.val))) (k0_off2_inb k b) (fun c => ![0, 512 * j.val + 128 * c.val]) (Student.inbW j))
    (k0_off1 k) (k0_off1_inb k)
    (fun h => k0_off3 k (BitVec.ofNat 32 h.val)) (fun h => k0_off3_inb k h)
    (Teacher.rescue arg7 arg8 arg5 arg6 k0_t2_loop k0_t3_loop k0_t2_ok k0_t3_ok
      (fun j => Teacher.tile arg0 arg2 (k0_off4 k) (k0_off4_inb k) (k0_off5 j) (k0_off5_inb j) fun z b =>
        Teacher.maxBlk arg1 arg9 arg10 arg8 z b (k0_off6 k (BitVec.ofNat 32 (32 * b.val))) (k0_off6_inb k b) (fun c => k0_off7 j (BitVec.ofNat 32 (128 * c.val))) (k0_off7_inb j))
      (fun j => Teacher.gtile arg0 arg2 (k0_off9 k) (k0_off9_inb k) (k0_off10 j) (k0_off10_inb j) fun z b =>
        Teacher.subBlk trunc arg1 arg9 arg10 arg7 arg8 z b (k0_off11 k (BitVec.ofNat 32 (32 * b.val))) (k0_off11_inb k b) (fun c => k0_off12 j (BitVec.ofNat 32 (128 * c.val))) (k0_off12_inb j))
      (k0_off8 k) (k0_off9 k) (k0_off8_inb k) (k0_off9_inb k)
      (fun h => k0_off13 k (BitVec.ofNat 32 h.val)) (fun h => k0_off13_inb k h))
end

/-- The printed body is the written one. -/
theorem tprogram_eq (arg0 : Memref sig .tc .vmem S3840x256 .fp8e4m3) (arg1 : Memref sig .tc .vmem S3840x128 .f32) (arg2 : Memref sig .tc .vmem S20480x256 .fp8e4m3)
    (arg3 arg4 : Memref sig .tc .vmem S1x20480 .f32) (arg5 : Memref sig .tc .vmem S30x1x128 .f32) (arg6 : Memref sig .tc .vmem S3840x256 .f32) (arg7 arg8 : Memref sig .tc .vmem S256x128 .f32) (arg9 arg10 : Memref sig .tc .vmem S1x20480 .f32)
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) :
    cc0_teacher (F := F) arg0 h0 arg1 h1 arg2 h2 arg3 h3 arg4 h4 arg5 h5 arg6 h6 arg7 h7 arg8 h8 arg9 h9 arg10 h10 =
    (do
      Student.scaleW arg3 arg9 tT
      Student.scaleW arg4 arg10 tT
      Scf.Loop.for k0_t1_loop k0_t1_ok PUnit.unit fun k _ => trows arg0 arg1 arg2 arg5 arg6 arg7 arg8 arg9 arg10 k
      pure PUnit.unit) := by
  sl_kernel_rfl
end Cert.KernelIdeal
end
-- ==== Proof.PI.Program.lean ====
module
public import Idealize.ShloMosaic.Lib.Tactic
public import proofs.«01_k».proof.Proof.Blocks
public import proofs.«01_k».proof.KernelIdeal

/-! # The printed body as the written one

The printed body is forty unrolled steps of eight unrolled blocks; it is, operation for operation, the body of `Blocks`. -/

@[expose] public section
set_option maxRecDepth 1000000
set_option maxHeartbeats 0
noncomputable section
namespace Cert.KernelIdeal
open Idealize.ShloMosaic Idealize.ShloMosaic.TcCoe Idealize.SL.Sem
open Facts₀ Facts
variable {F : FTy → Type} [FloatOps F] [Named F] [Facts]

/-- The constants of the body: `10 / log 2`, `1 / log 2` and `log 2`. -/
abbrev cT : F .f32 := Named.named κ "log2e_over_student_temp" 0x4166D4CA#32
abbrev cE : F .f32 := Named.named κ "log2e" 0x3FB8AA3B#32
abbrev cL : F .f32 := Named.named κ "ln2" 0x3F317218#32

section
variable (arg0 : Memref sig .tc .vmem S7680x256 .fp8e4m3) (arg1 : Memref sig .tc .vmem S7680x128 .f32) (arg2 : Memref sig .tc .vmem S20480x256 .fp8e4m3)
  (arg3 : Memref sig .tc .vmem S1x20480 .f32) (arg5 : Memref sig .tc .vmem S60x1x128 .f32) (arg6 arg7 : Memref sig .tc .vmem S256x128 .f32) (arg8 : Memref sig .tc .vmem S1x20480 .f32)

/-- Row block `k` of the printed body. -/
def rows (k : Fin k1_t1_loop.trips) : Prog (TpuEff nD τ sig (Elt F) Λ₀ .tc) PUnit :=
  Student.rowBlock arg6 arg5
    (fun j => Student.tile arg0 arg2 (k1_off1 k) (k1_off1_inb k) ![512 * j.val, 0] (Student.inbV j) fun z b =>
      Student.accBlk arg1 arg8 arg6 z b (k1_off2 k (BitVec.ofNat 32 (32 * b.val))) (k1_off2_inb k b) (fun c => ![0, 512 * j.val + 128 * c.val]) (Student.inbW j))
    cE cL (fun h => k1_off3 k (BitVec.ofNat 32 h.val)) (fun h => k1_off3_inb k h)
    (Student.rescue arg6 arg7 arg5 k1_t2_loop k1_t3_loop k1_t2_ok k1_t3_ok
      (fun j => Student.tile arg0 arg2 (k1_off4 k) (k1_off4_inb k) (k1_off5 j) (k1_off5_inb j) fun z b =>
        Student.maxBlk arg1 arg8 arg7 z b (k1_off6 k (BitVec.ofNat 32 (32 * b.val))) (k1_off6_inb k b) (fun c => k1_off7 j (BitVec.ofNat 32 (128 * c.val))) (k1_off7_inb j))
      (fun j => Student.tile arg0 arg2 (k1_off8 k) (k1_off8_inb k) (k1_off9 j) (k1_off9_inb j) fun z b =>
        Student.subBlk arg1 arg8 arg6 arg7 z b (k1_off10 k (BitVec.ofNat 32 (32 * b.val))) (k1_off10_inb k b) (fun c => k1_off11 j (BitVec.ofNat 32 (128 * c.val))) (k1_off11_inb j))
      cE cL (fun h => k1_off12 k (BitVec.ofNat 32 h.val)) (fun h => k1_off12_inb k h))
end

/-- The printed body is the written one. -/
theorem program_eq (arg0 : Memref sig .tc .vmem S7680x256 .fp8e4m3) (arg1 : Memref sig .tc .vmem S7680x128 .f32) (arg2 : Memref sig .tc .vmem S20480x256 .fp8e4m3)
    (arg3 arg4 : Memref sig .tc .vmem S1x20480 .f32) (arg5 : Memref sig .tc .vmem S60x1x128 .f32) (arg6 arg7 : Memref sig .tc .vmem S256x128 .f32) (arg8 : Memref sig .tc .vmem S1x20480 .f32)
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) :
    cc1_student (F := F) arg0 h0 arg1 h1 arg2 h2 arg3 h3 arg4 h4 arg5 h5 arg6 h6 arg7 h7 arg8 h8 =
    (do
      Student.scaleW arg3 arg8 cT
      Scf.Loop.for k1_t1_loop k1_t1_ok PUnit.unit fun k _ => rows arg0 arg1 arg2 arg5 arg6 arg7 arg8 k
      pure PUnit.unit) := by
  sl_kernel_rfl
end Cert.KernelIdeal
end
-- ==== Proof.PI.FinalProgram.lean ====
module
public import Idealize.ShloMosaic.Lib.Tactic
public import proofs.«01_k».proof.Proof.Final
public import proofs.«01_k».proof.KernelIdeal

/-! # The printed final body as the written one

The printed body is fifteen unrolled blocks; it is, operation for operation, the body of `Final`. -/

@[expose] public section
set_option maxRecDepth 1000000
set_option maxHeartbeats 0
noncomputable section
namespace Cert.KernelIdeal
open Idealize.ShloMosaic Idealize.ShloMosaic.TcCoe Idealize.SL.Sem
open Facts₀ Facts
variable {F : FTy → Type} [FloatOps F] [Named F] [Facts]

/-- The constants of the body: `2 / 5` and `log 2`. -/
abbrev fK : F .f32 := Named.named κ "temps" 0x3ECCCCCD#32
abbrev fL : F .f32 := Named.named κ "ln2" 0x3F317218#32

/-- The printed body is the written one. -/
theorem final_eq (arg0 : Memref sig .tc .vmem S3840x256 .f32) (arg1 : Memref sig .tc .vmem S30x1x128 .f32) (arg2 : Memref sig .tc .vmem S60x1x128 .f32)
    (arg3 : Memref sig .tc .vmem S7680x256 .fp8e4m3) (arg4 : Memref sig .tc .vmem S7680x128 .f32) (arg5 : Memref sig .tc .vmem S2x4 .f32) (arg6 : Memref sig .tc .vmem S2x4x5x384 .f32)
    (h0 : arg0.IsWhole) (h1 : arg1.IsWhole) (h2 : arg2.IsWhole) (h3 : arg3.IsWhole) (h4 : arg4.IsWhole) (h5 : arg5.IsWhole) (h6 : arg6.IsWhole) :
    cc2_final (F := F) arg0 h0 arg1 h1 arg2 h2 arg3 h3 arg4 h4 arg5 h5 arg6 h6 = Final.body ⟨arg0, arg1, arg2, arg3, arg4, arg5, arg6⟩ fK fL := by
  sl_kernel_rfl
end Cert.KernelIdeal
end
-- ==== Proof.PI.Body.lean ====
/-
  The kernel over the extended reals, run by values: the teacher body, the student body, the final body, and @main around the three.
-/
module

public import proofs.«01_k».proof.Proof.Whole
public import proofs.«01_k».proof.Proof.TWhole
public import proofs.«01_k».proof.Proof.PI.TProgram
public import proofs.«01_k».proof.Proof.PI.Program
public import proofs.«01_k».proof.Proof.FinalRun
public import proofs.«01_k».proof.Proof.PI.FinalProgram
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.ValueKit

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg RegionSeg afterRegion)
open Cert.KernelIdeal.Gen Facts₀ Facts
open Cert.Student (St Mem Runs trips trip outAt holds)

variable {F : FTy → Type} [FloatOps F] [Named F]

local notation "𝕄" => MT nD τ sig Unit (Elt F) ℕ (UR sig nD τ) ℕ

/-! ## The teacher body -/

theorem ttrips1 : k0_t1_loop.trips = 15 := by decide +kernel
theorem ttrips2 : k0_t2_loop.trips = 40 := by decide +kernel
theorem ttrips3 : k0_t3_loop.trips = 40 := by decide +kernel

/-- The truncation of one number. -/
def trunc1 (x : F .f32) : F .f32 := FloatOps.extf .f32 (by decide) (FloatOps.truncf .bf16 (by decide) x)
theorem trunc_at (p : FVec F Student.S32x128 .f32) (u : Student.S32x128.Idx) : trunc p u = trunc1 (p u) := rfl

/-- A row block of the teacher. -/
theorem trows_run (c : Dev nD) (M : Teacher.Mem sig) (s : Teacher.St F) (k : Fin k0_t1_loop.trips) (i : Fin 15) (hk : k.val = i.val) (A B : FVec F S256x128 .f32) (O : FVec F S30x1x128 .f32) (G : FVec F S3840x256 .f32) :
    Teacher.Runs (UR sig nD τ) (defs₀ (F := F)) c M (trows M.codes M.rep M.protos M.out M.G M.A M.B M.ws M.cb k) (s.at A B O G) (Teacher.trip trunc1 s i (s.at A B O G)) PUnit.unit := by
  refine Teacher.rowBlock_run (by rw [← hk]; exact k0_off1_eq k) (fun h => ?_) (fun j X B O G => ?_) (fun A B O G => ?_) A B O G
  · rw [← hk]; exact k0_off3_eq k h
  · exact Teacher.accStep trunc_at (by rw [← hk]; exact k0_off1_eq k) rfl (fun b => by rw [← hk]; exact k0_off2_eq k b) (fun _ => rfl) X
  · refine Teacher.rescue_run ttrips2 ttrips3 (fun k' j hj A X O G => ?_) (fun k' j hj X B O G => ?_) (by rw [← hk]; exact k0_off8_eq k) (by rw [← hk]; exact k0_off9_eq k) (fun h => ?_) A B O G
    · exact Teacher.maxStep (by rw [← hk]; exact k0_off4_eq k) (by rw [← hj]; exact k0_off5_eq k') (fun b => by rw [← hk]; exact k0_off6_eq k b) (fun c => by rw [← hj]; exact k0_off7_eq k' c) X
    · exact Teacher.subStep trunc_at (by rw [← hk]; exact k0_off9_eq k) (by rw [← hj]; exact k0_off10_eq k') (fun b => by rw [← hk]; exact k0_off11_eq k b) (fun c => by rw [← hj]; exact k0_off12_eq k' c) X
    · rw [← hk]; exact k0_off13_eq k h

/-- The arguments of the teacher body, as a state. -/
def tstart (x0 : Vec F S3840x256 .fp8e4m3) (x1 : Vec F S3840x128 .f32) (x2 : Vec F S20480x256 .fp8e4m3) (x3 x4 : Vec F S1x20480 .f32) : Teacher.St F :=
  ⟨x0, x1, x2, x3, x4, fun _ => FloatOps.ofBits .f32 0x00000000#32, fun _ => FloatOps.ofBits .f32 0x00000000#32, fun _ => FloatOps.ofBits .f32 0x00000000#32,
    fun _ => FloatOps.ofBits .f32 0x00000000#32, fun _ => FloatOps.ofBits .f32 0x00000000#32, fun _ => FloatOps.ofBits .f32 0x00000000#32⟩

/-- The results of the teacher body: the sums and the products. -/
def tsums (x0 : Vec F S3840x256 .fp8e4m3) (x1 : Vec F S3840x128 .f32) (x2 : Vec F S20480x256 .fp8e4m3) (x3 x4 : Vec F S1x20480 .f32) : Vec F S30x1x128 .f32 :=
  Teacher.outAt ((tstart x0 x1 x2 x3 x4).scaled tT)
def tprods (x0 : Vec F S3840x256 .fp8e4m3) (x1 : Vec F S3840x128 .f32) (x2 : Vec F S20480x256 .fp8e4m3) (x3 x4 : Vec F S1x20480 .f32) : Vec F S3840x256 .f32 :=
  Teacher.gOut trunc1 ((tstart x0 x1 x2 x3 x4).scaled tT)

/-- The teacher body on whole memrefs. -/
theorem tbody_run (c : Dev nD) (E : Set ℕ) (arg0 : Memref sig .tc .vmem S3840x256 .fp8e4m3) (h0 : arg0.IsWhole) (arg1 : Memref sig .tc .vmem S3840x128 .f32) (h1 : arg1.IsWhole)
    (arg2 : Memref sig .tc .vmem S20480x256 .fp8e4m3) (h2 : arg2.IsWhole) (arg3 : Memref sig .tc .vmem S1x20480 .f32) (h3 : arg3.IsWhole) (arg4 : Memref sig .tc .vmem S1x20480 .f32) (h4 : arg4.IsWhole)
    (arg5 : Memref sig .tc .vmem S30x1x128 .f32) (h5 : arg5.IsWhole) (arg6 : Memref sig .tc .vmem S3840x256 .f32) (h6 : arg6.IsWhole) (arg7 : Memref sig .tc .vmem S256x128 .f32) (h7 : arg7.IsWhole) (arg8 : Memref sig .tc .vmem S256x128 .f32) (h8 : arg8.IsWhole)
    (arg9 : Memref sig .tc .vmem S1x20480 .f32) (h9 : arg9.IsWhole) (arg10 : Memref sig .tc .vmem S1x20480 .f32) (h10 : arg10.IsWhole)
    (x0 : Vec F S3840x256 .fp8e4m3) (x1 : Vec F S3840x128 .f32) (x2 : Vec F S20480x256 .fp8e4m3) (x3 x4 : Vec F S1x20480 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (tsums x0 x1 x2 x3 x4) ∗ owns (c : Thread nD τ) arg6 fullShare (tprods x0 x1 x2 x3 x4) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E (cc0_teacher arg0 h0 arg1 h1 arg2 h2 arg3 h3 arg4 h4 arg5 h5 arg6 h6 arg7 h7 arg8 h8 arg9 h9 arg10 h10) K := by
  rw [tprogram_eq]
  iintro ⟨H0, H1, H2, H3, H4, ⟨%O, H5⟩, ⟨%G, H6⟩, ⟨%A, H7⟩, ⟨%B, H8⟩, ⟨%W, H9⟩, ⟨%C, H10⟩, Hk⟩
  iapply (Teacher.body_run (t := trunc1) (U := UR sig nD τ) (defs := defs₀ (F := F)) (c := c) (M := ⟨arg0, arg1, arg2, arg3, arg4, arg5, arg6, arg7, arg8, arg9, arg10⟩) (s := tstart x0 x1 x2 x3 x4) ttrips1 tT
    (fun k i hk A B O G => trows_run c ⟨arg0, arg1, arg2, arg3, arg4, arg5, arg6, arg7, arg8, arg9, arg10⟩ ((tstart x0 x1 x2 x3 x4).scaled tT) k i hk A B O G) A B O G W C E K)
  rw [Teacher.trips_at trunc1 ((tstart x0 x1 x2 x3 x4).scaled tT) _ rfl 15, Teacher.trips_all, Teacher.trips_allG]
  unfold Teacher.holds
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

/-! ## The student body -/

theorem trips1 : k1_t1_loop.trips = 30 := by decide +kernel
theorem trips2 : k1_t2_loop.trips = 40 := by decide +kernel
theorem trips3 : k1_t3_loop.trips = 40 := by decide +kernel

/-- A row block. -/
theorem rows_run (c : Dev nD) (M : Mem sig) (s : St F) (k : Fin k1_t1_loop.trips) (i : Fin 30) (hk : k.val = i.val) (A B : FVec F S256x128 .f32) (O : FVec F S60x1x128 .f32) :
    Runs (UR sig nD τ) (defs₀ (F := F)) c M (rows M.codes M.rep M.protos M.out M.A M.B M.ws k) (s.at A B O) (trip s cE cL i (s.at A B O)) PUnit.unit := by
  refine Student.rowBlock_run (fun h => ?_) (fun j X B O => ?_) (fun A B O => ?_) A B O
  · rw [← hk]; exact k1_off3_eq k h
  · exact Student.accStep (by rw [← hk]; exact k1_off1_eq k) rfl (fun b => by rw [← hk]; exact k1_off2_eq k b) (fun _ => rfl) X
  · refine Student.rescue_run trips2 trips3 (fun k' j hj A X O => ?_) (fun k' j hj X B O => ?_) cE cL (fun h => ?_) A B O
    · exact Student.maxStep (by rw [← hk]; exact k1_off4_eq k) (by rw [← hj]; exact k1_off5_eq k') (fun b => by rw [← hk]; exact k1_off6_eq k b) (fun c => by rw [← hj]; exact k1_off7_eq k' c) X
    · exact Student.subStep (by rw [← hk]; exact k1_off8_eq k) (by rw [← hj]; exact k1_off9_eq k') (fun b => by rw [← hk]; exact k1_off10_eq k b) (fun c => by rw [← hj]; exact k1_off11_eq k' c) X
    · rw [← hk]; exact k1_off12_eq k h

/-- The arguments of the body, as a state. -/
def start (x0 : Vec F S7680x256 .fp8e4m3) (x1 : Vec F S7680x128 .f32) (x2 : Vec F S20480x256 .fp8e4m3) (x3 : Vec F S1x20480 .f32) : St F :=
  ⟨x0, x1, x2, x3, fun _ => FloatOps.ofBits .f32 0x00000000#32, fun _ => FloatOps.ofBits .f32 0x00000000#32, fun _ => FloatOps.ofBits .f32 0x00000000#32, fun _ => FloatOps.ofBits .f32 0x00000000#32⟩

/-- The result of the body. -/
def result (x0 : Vec F S7680x256 .fp8e4m3) (x1 : Vec F S7680x128 .f32) (x2 : Vec F S20480x256 .fp8e4m3) (x3 : Vec F S1x20480 .f32) : Vec F S60x1x128 .f32 :=
  outAt ((start x0 x1 x2 x3).scaled cT) cE cL

/-- The student body on whole memrefs, the unread argument left alone. -/
theorem body_run (c : Dev nD) (E : Set ℕ) (arg0 : Memref sig .tc .vmem S7680x256 .fp8e4m3) (h0 : arg0.IsWhole) (arg1 : Memref sig .tc .vmem S7680x128 .f32) (h1 : arg1.IsWhole)
    (arg2 : Memref sig .tc .vmem S20480x256 .fp8e4m3) (h2 : arg2.IsWhole) (arg3 : Memref sig .tc .vmem S1x20480 .f32) (h3 : arg3.IsWhole) (arg4 : Memref sig .tc .vmem S1x20480 .f32) (h4 : arg4.IsWhole)
    (arg5 : Memref sig .tc .vmem S60x1x128 .f32) (h5 : arg5.IsWhole) (arg6 : Memref sig .tc .vmem S256x128 .f32) (h6 : arg6.IsWhole) (arg7 : Memref sig .tc .vmem S256x128 .f32) (h7 : arg7.IsWhole)
    (arg8 : Memref sig .tc .vmem S1x20480 .f32) (h8 : arg8.IsWhole)
    (x0 : Vec F S7680x256 .fp8e4m3) (x1 : Vec F S7680x128 .f32) (x2 : Vec F S20480x256 .fp8e4m3) (x3 : Vec F S1x20480 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg5 fullShare (result x0 x1 x2 x3) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc1_student arg0 h0 arg1 h1 arg2 h2 arg3 h3 arg4 h4 arg5 h5 arg6 h6 arg7 h7 arg8 h8) K := by
  rw [program_eq]
  iintro ⟨H0, H1, H2, H3, ⟨%O, H5⟩, ⟨%A, H6⟩, ⟨%B, H7⟩, ⟨%W, H8⟩, Hk⟩
  iapply (Student.body_run (U := UR sig nD τ) (defs := defs₀ (F := F)) (c := c) (M := ⟨arg0, arg1, arg2, arg3, arg5, arg6, arg7, arg8⟩) (s := start x0 x1 x2 x3) trips1 cT cE cL
    (fun k i hk A B O => rows_run c ⟨arg0, arg1, arg2, arg3, arg5, arg6, arg7, arg8⟩ ((start x0 x1 x2 x3).scaled cT) k i hk A B O) A B O W E K)
  rw [Student.trips_at ((start x0 x1 x2 x3).scaled cT) cE cL _ rfl 30, Student.trips_all]
  unfold holds
  isplitl [H0 H1 H2 H3 H5 H6 H7 H8]
  · isplitl [H0]; · iexact H0
    isplitl [H1]; · iexact H1
    isplitl [H2]; · iexact H2
    isplitl [H3]; · iexact H3
    isplitl [H5]; · iexact H5
    isplitl [H6]; · iexact H6
    isplitl [H7]; · iexact H7
    iexact H8
  iintro ⟨H0, H1, H2, H3, H5, H6, H7, H8⟩
  iapply Hk
  isplitl [H0]; · iexact H0
  isplitl [H1]; · iexact H1
  isplitl [H2]; · iexact H2
  isplitl [H3]; · iexact H3
  isplitl [H5]; · iexact H5
  isplitl [H6]; · iexists _; iexact H6
  isplitl [H7]; · iexists _; iexact H7
  iexists _; iexact H8

/-! ## The final body -/

/-- The arguments of the final body, as a state. -/
def start1 (x0 : Vec F S3840x256 .f32) (x1 : Vec F S30x1x128 .f32) (x2 : Vec F S60x1x128 .f32) (x3 : Vec F S7680x256 .fp8e4m3) (x4 : Vec F S7680x128 .f32) : Final.St F :=
  ⟨x0, x1, x2, x3, x4, fun _ => FloatOps.ofBits .f32 0x00000000#32, fun _ => FloatOps.ofBits .f32 0x00000000#32⟩

/-- The rows of losses of the arguments. -/
def rows1 (x0 : Vec F S3840x256 .f32) (x1 : Vec F S30x1x128 .f32) (x2 : Vec F S60x1x128 .f32) (x3 : Vec F S7680x256 .fp8e4m3) (x4 : Vec F S7680x128 .f32) :
    Fin 15 → Fin 4 → Fin 2 → FVec F S1x128 .f32 := Final.rows (start1 x0 x1 x2 x3 x4) fK fL

/-- The final body on whole memrefs. -/
theorem final_run (c : Dev nD) (E : Set ℕ) (arg0 : Memref sig .tc .vmem S3840x256 .f32) (h0 : arg0.IsWhole) (arg1 : Memref sig .tc .vmem S30x1x128 .f32) (h1 : arg1.IsWhole)
    (arg2 : Memref sig .tc .vmem S60x1x128 .f32) (h2 : arg2.IsWhole) (arg3 : Memref sig .tc .vmem S7680x256 .fp8e4m3) (h3 : arg3.IsWhole) (arg4 : Memref sig .tc .vmem S7680x128 .f32) (h4 : arg4.IsWhole)
    (arg5 : Memref sig .tc .vmem S2x4 .f32) (h5 : arg5.IsWhole) (arg6 : Memref sig .tc .vmem S2x4x5x384 .f32) (h6 : arg6.IsWhole)
    (x0 : Vec F S3840x256 .f32) (x1 : Vec F S30x1x128 .f32) (x2 : Vec F S60x1x128 .f32) (x3 : Vec F S7680x256 .fp8e4m3) (x4 : Vec F S7680x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (Final.means (Final.totalUpto (rows1 x0 x1 x2 x3 x4) 15 le_rfl))
            ∗ owns (c : Thread nD τ) arg6 fullShare (Final.lossOf (rows1 x0 x1 x2 x3 x4))) -∗ K ⟨⟩))
      ⊢ wp frame (wpE (defs₀ (F := F)) Variants.none c none) E (cc2_final arg0 h0 arg1 h1 arg2 h2 arg3 h3 arg4 h4 arg5 h5 arg6 h6) K := by
  rw [final_eq]
  iintro ⟨H0, H1, H2, H3, H4, ⟨%P, H5⟩, ⟨%O, H6⟩, Hk⟩
  iapply (Final.body_run (U := UR sig nD τ) (defs := defs₀ (F := F)) (c := c) (M := ⟨arg0, arg1, arg2, arg3, arg4, arg5, arg6⟩) (s := start1 x0 x1 x2 x3 x4) (P := P) (O := O) fK fL E K)
  rw [Final.lossOf_eq]
  unfold Final.holds
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]; · iexact H5
  iexact H6

/-! ## The pipelines' proof data -/

/-- A window's block of the buffers at a region's entry. -/
def blk0 (W : Valuation τ sig (Elt F)) (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))
def blk1 (W : Valuation τ sig (Elt F)) (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))
def blk2 (W : Valuation τ sig (Elt F)) (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

/-- The teacher region from the buffers at `W`: after the body each input's buffer at its block and the results' at the sums and the
    products of the blocks; the other scoped buffers at anything; nothing owed; full shares. -/
def dat0 (W : Valuation τ sig (Elt F)) (c : Dev nD) : Dat τ (Elt F) Unit ℕ (UR sig nD τ) ℕ cfg0 c where
  A w := W (Proc.devRef .tc (Pipeline.arrRef spec0 w))
  after w t := match w with
    | ⟨0, _⟩ => blk0 W 0 t
    | ⟨1, _⟩ => blk0 W 1 t
    | ⟨2, _⟩ => blk0 W 2 t
    | ⟨3, _⟩ => blk0 W 3 t
    | ⟨4, _⟩ => blk0 W 4 t
    | ⟨5, _⟩ => tsums (blk0 W 0 t) (blk0 W 1 t) (blk0 W 2 t) (blk0 W 3 t) (blk0 W 4 t)
    | ⟨6, _⟩ => tprods (blk0 W 0 t) (blk0 W 1 t) (blk0 W 2 t) (blk0 W 3 t) (blk0 W 4 t)
  Φ _ := Pipeline.scopedRest spec0 c
  q _ := fullShare
  owed _ := 0

/-- The student region from the buffers at `W`: after the body each input's buffer at its block and the result's at `result`
    of the blocks; the other scoped buffers at anything; nothing owed; full shares. -/
def dat1 (W : Valuation τ sig (Elt F)) (c : Dev nD) : Dat τ (Elt F) Unit ℕ (UR sig nD τ) ℕ cfg1 c where
  A w := W (Proc.devRef .tc (Pipeline.arrRef spec1 w))
  after w t := match w with
    | ⟨0, _⟩ => blk1 W 0 t
    | ⟨1, _⟩ => blk1 W 1 t
    | ⟨2, _⟩ => blk1 W 2 t
    | ⟨3, _⟩ => blk1 W 3 t
    | ⟨4, _⟩ => blk1 W 4 t
    | ⟨5, _⟩ => result (blk1 W 0 t) (blk1 W 1 t) (blk1 W 2 t) (blk1 W 3 t)
  Φ _ := Pipeline.scopedRest spec1 c
  q _ := fullShare
  owed _ := 0

/-- The final region from the buffers at `W`. -/
def dat2 (W : Valuation τ sig (Elt F)) (c : Dev nD) : Dat τ (Elt F) Unit ℕ (UR sig nD τ) ℕ cfg2 c where
  A w := W (Proc.devRef .tc (Pipeline.arrRef spec2 w))
  after w t := match w with
    | ⟨0, _⟩ => blk2 W 0 t
    | ⟨1, _⟩ => blk2 W 1 t
    | ⟨2, _⟩ => blk2 W 2 t
    | ⟨3, _⟩ => blk2 W 3 t
    | ⟨4, _⟩ => blk2 W 4 t
    | ⟨5, _⟩ => Final.means (Final.totalUpto (rows1 (blk2 W 0 t) (blk2 W 1 t) (blk2 W 2 t) (blk2 W 3 t) (blk2 W 4 t)) 15 le_rfl)
    | ⟨6, _⟩ => Final.lossOf (rows1 (blk2 W 0 t) (blk2 W 1 t) (blk2 W 2 t) (blk2 W 3 t) (blk2 W 4 t))
  Φ _ := Pipeline.scopedRest spec2 c
  q _ := fullShare
  owed _ := 0

variable (W : Valuation τ sig (Elt F))

theorem after0_0 (c : Dev nD) (t : Fin cfg0.N) : (dat0 W c).after 0 t = blk0 W 0 t := by dsimp only [dat0]
theorem after0_1 (c : Dev nD) (t : Fin cfg0.N) : (dat0 W c).after 1 t = blk0 W 1 t := by dsimp only [dat0]
theorem after0_2 (c : Dev nD) (t : Fin cfg0.N) : (dat0 W c).after 2 t = blk0 W 2 t := by dsimp only [dat0]
theorem after0_3 (c : Dev nD) (t : Fin cfg0.N) : (dat0 W c).after 3 t = blk0 W 3 t := by dsimp only [dat0]
theorem after0_4 (c : Dev nD) (t : Fin cfg0.N) : (dat0 W c).after 4 t = blk0 W 4 t := by dsimp only [dat0]
theorem after0_5 (c : Dev nD) (t : Fin cfg0.N) : (dat0 W c).after 5 t = tsums (blk0 W 0 t) (blk0 W 1 t) (blk0 W 2 t) (blk0 W 3 t) (blk0 W 4 t) := by dsimp only [dat0]
theorem after0_6 (c : Dev nD) (t : Fin cfg0.N) : (dat0 W c).after 6 t = tprods (blk0 W 0 t) (blk0 W 1 t) (blk0 W 2 t) (blk0 W 3 t) (blk0 W 4 t) := by dsimp only [dat0]
theorem before0_0 (c : Dev nD) (t : Fin cfg0.N) (d) : (dat0 W c).before 0 t d = blk0 W 0 t := by
  unfold Dat.before; rw [if_pos (fetch0_0 t)]; rfl
theorem before0_1 (c : Dev nD) (t : Fin cfg0.N) (d) : (dat0 W c).before 1 t d = blk0 W 1 t := by
  unfold Dat.before; rw [if_pos (fetch0_1 t)]; rfl
theorem before0_2 (c : Dev nD) (t : Fin cfg0.N) (d) : (dat0 W c).before 2 t d = blk0 W 2 t := by
  unfold Dat.before; rw [if_pos (fetch0_2 t)]; rfl
theorem before0_3 (c : Dev nD) (t : Fin cfg0.N) (d) : (dat0 W c).before 3 t d = blk0 W 3 t := by
  unfold Dat.before; rw [if_pos (fetch0_3 t)]; rfl
theorem before0_4 (c : Dev nD) (t : Fin cfg0.N) (d) : (dat0 W c).before 4 t d = blk0 W 4 t := by
  unfold Dat.before; rw [if_pos (fetch0_4 t)]; rfl
theorem after1_0 (c : Dev nD) (t : Fin cfg1.N) : (dat1 W c).after 0 t = blk1 W 0 t := by dsimp only [dat1]
theorem after1_1 (c : Dev nD) (t : Fin cfg1.N) : (dat1 W c).after 1 t = blk1 W 1 t := by dsimp only [dat1]
theorem after1_2 (c : Dev nD) (t : Fin cfg1.N) : (dat1 W c).after 2 t = blk1 W 2 t := by dsimp only [dat1]
theorem after1_3 (c : Dev nD) (t : Fin cfg1.N) : (dat1 W c).after 3 t = blk1 W 3 t := by dsimp only [dat1]
theorem after1_4 (c : Dev nD) (t : Fin cfg1.N) : (dat1 W c).after 4 t = blk1 W 4 t := by dsimp only [dat1]
theorem after1_5 (c : Dev nD) (t : Fin cfg1.N) : (dat1 W c).after 5 t = result (blk1 W 0 t) (blk1 W 1 t) (blk1 W 2 t) (blk1 W 3 t) := by dsimp only [dat1]
theorem before1_0 (c : Dev nD) (t : Fin cfg1.N) (d) : (dat1 W c).before 0 t d = blk1 W 0 t := by
  unfold Dat.before; rw [if_pos (fetch1_0 t)]; rfl
theorem before1_1 (c : Dev nD) (t : Fin cfg1.N) (d) : (dat1 W c).before 1 t d = blk1 W 1 t := by
  unfold Dat.before; rw [if_pos (fetch1_1 t)]; rfl
theorem before1_2 (c : Dev nD) (t : Fin cfg1.N) (d) : (dat1 W c).before 2 t d = blk1 W 2 t := by
  unfold Dat.before; rw [if_pos (fetch1_2 t)]; rfl
theorem before1_3 (c : Dev nD) (t : Fin cfg1.N) (d) : (dat1 W c).before 3 t d = blk1 W 3 t := by
  unfold Dat.before; rw [if_pos (fetch1_3 t)]; rfl
theorem before1_4 (c : Dev nD) (t : Fin cfg1.N) (d) : (dat1 W c).before 4 t d = blk1 W 4 t := by
  unfold Dat.before; rw [if_pos (fetch1_4 t)]; rfl
theorem after2_0 (c : Dev nD) (t : Fin cfg2.N) : (dat2 W c).after 0 t = blk2 W 0 t := by dsimp only [dat2]
theorem after2_1 (c : Dev nD) (t : Fin cfg2.N) : (dat2 W c).after 1 t = blk2 W 1 t := by dsimp only [dat2]
theorem after2_2 (c : Dev nD) (t : Fin cfg2.N) : (dat2 W c).after 2 t = blk2 W 2 t := by dsimp only [dat2]
theorem after2_3 (c : Dev nD) (t : Fin cfg2.N) : (dat2 W c).after 3 t = blk2 W 3 t := by dsimp only [dat2]
theorem after2_4 (c : Dev nD) (t : Fin cfg2.N) : (dat2 W c).after 4 t = blk2 W 4 t := by dsimp only [dat2]
theorem after2_5 (c : Dev nD) (t : Fin cfg2.N) : (dat2 W c).after 5 t = Final.means (Final.totalUpto (rows1 (blk2 W 0 t) (blk2 W 1 t) (blk2 W 2 t) (blk2 W 3 t) (blk2 W 4 t)) 15 le_rfl) := by dsimp only [dat2]
theorem after2_6 (c : Dev nD) (t : Fin cfg2.N) : (dat2 W c).after 6 t = Final.lossOf (rows1 (blk2 W 0 t) (blk2 W 1 t) (blk2 W 2 t) (blk2 W 3 t) (blk2 W 4 t)) := by dsimp only [dat2]
theorem before2_0 (c : Dev nD) (t : Fin cfg2.N) (d) : (dat2 W c).before 0 t d = blk2 W 0 t := by
  unfold Dat.before; rw [if_pos (fetch2_0 t)]; rfl
theorem before2_1 (c : Dev nD) (t : Fin cfg2.N) (d) : (dat2 W c).before 1 t d = blk2 W 1 t := by
  unfold Dat.before; rw [if_pos (fetch2_1 t)]; rfl
theorem before2_2 (c : Dev nD) (t : Fin cfg2.N) (d) : (dat2 W c).before 2 t d = blk2 W 2 t := by
  unfold Dat.before; rw [if_pos (fetch2_2 t)]; rfl
theorem before2_3 (c : Dev nD) (t : Fin cfg2.N) (d) : (dat2 W c).before 3 t d = blk2 W 3 t := by
  unfold Dat.before; rw [if_pos (fetch2_3 t)]; rfl
theorem before2_4 (c : Dev nD) (t : Fin cfg2.N) (d) : (dat2 W c).before 4 t d = blk2 W 4 t := by
  unfold Dat.before; rw [if_pos (fetch2_4 t)]; rfl

/-- The scoped buffers that stage nothing for the teacher: its four scratch buffers, and the rest. -/
theorem tscratch_eq (c : Dev nD) : ∃ R : sProp 𝕄, (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d) ∗ R) := by
  rw [scopedRest0_eq]
  simp only [owns_whole]
  exact ⟨_, rfl⟩

/-- The scoped buffers that stage nothing for the student: its three scratch buffers, and the rest. -/
theorem scratch_eq (c : Dev nD) : ∃ R0 R1 R2 R3 R4 R5 R6 R7 R8 R9 R10 R : sProp 𝕄, (Pipeline.scopedRest (Ix := Unit) (Name := ℕ) (U := UR sig nD τ) (Lvl := ℕ) (Val := Elt F) spec1 c : sProp 𝕄)
    = iprop(R0 ∗ R1 ∗ R2 ∗ R3 ∗ R4 ∗ R5 ∗ R6 ∗ R7 ∗ R8 ∗ R9 ∗ R10 ∗ (∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ R) := by
  rw [scopedRest1_eq]
  simp only [owns_whole]
  exact ⟨_, _, _, _, _, _, _, _, _, _, _, _, rfl⟩

/-- The teacher's body obligation. -/
theorem obligation0 (c : Dev nD) : BodyObligation (dat0 (F := F) W c) (defs₀ (F := F)) Variants.none () Set.univ := fun t => by
  rw [bigSep_W0, bigSep_W0]
  sl_whnfR [defs₀, Defs.onTc]
  simp only [before0_0, before0_1, before0_2, before0_3, before0_4]
  rw [show (dat0 W c).Φ t.succ = (dat0 W c).Φ t.castSucc from rfl,
    show (dat0 W c).owesAt () t.succ = (dat0 W c).owesAt () t.castSucc from rfl, after0_0, after0_1, after0_2, after0_3, after0_4, after0_5, after0_6,
    show (dat0 W c).Φ t.castSucc = Pipeline.scopedRest spec0 c from rfl]
  obtain ⟨R, hR⟩ := tscratch_eq (F := F) c
  rw [hR]
  iintro ⟨⟨S0, S1, S2, S3, HP⟩, Ho, ⟨%d0, H0⟩, ⟨%d1, H1⟩, ⟨%d2, H2⟩, ⟨%d3, H3⟩, ⟨%d4, H4⟩, ⟨%d5, H5⟩, ⟨%d6, H6⟩⟩
  iapply (tbody_run c Set.univ _ _ _ _ _ _ _ _ _ _ _ _ _ _ _ _ _ _ _ _ _ _ (blk0 W 0 t) (blk0 W 1 t) (blk0 W 2 t) (blk0 W 3 t) (blk0 W 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 HP]
  · isplitl [S0]; · iexact S0
    isplitl [S1]; · iexact S1
    isplitl [S2]; · iexact S2
    isplitl [S3]; · iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The student's body obligation. -/
theorem obligation1 (c : Dev nD) : BodyObligation (dat1 (F := F) W c) (defs₀ (F := F)) Variants.none () Set.univ := fun t => by
  rw [bigSep_W1, bigSep_W1]
  sl_whnfR [defs₀, Defs.onTc]
  simp only [before1_0, before1_1, before1_2, before1_3, before1_4]
  rw [show (dat1 W c).Φ t.succ = (dat1 W c).Φ t.castSucc from rfl,
    show (dat1 W c).owesAt () t.succ = (dat1 W c).owesAt () t.castSucc from rfl, after1_0, after1_1, after1_2, after1_3, after1_4, after1_5,
    show (dat1 W c).Φ t.castSucc = Pipeline.scopedRest spec1 c from rfl]
  obtain ⟨_, _, _, _, _, _, _, _, _, _, _, R, hR⟩ := scratch_eq (F := F) c
  rw [hR]
  iintro ⟨⟨Q0, Q1, Q2, Q3, Q4, Q5, Q6, Q7, Q8, Q9, Q10, S0, S1, S2, HP⟩, Ho, ⟨%d0, H0⟩, ⟨%d1, H1⟩, ⟨%d2, H2⟩, ⟨%d3, H3⟩, ⟨%d4, H4⟩, H5⟩
  iapply (body_run c Set.univ _ _ _ _ _ _ _ _ _ _ _ _ _ _ _ _ _ _ (blk1 W 0 t) (blk1 W 1 t) (blk1 W 2 t) (blk1 W 3 t) _)
  isplitl [H0]; · iexact H0
  isplitl [H1]; · iexact H1
  isplitl [H2]; · iexact H2
  isplitl [H3]; · iexact H3
  isplitl [H5]; · icases H5 with ⟨%d5, H5⟩; iexists _; iexact H5
  isplitl [S0]; · iexact S0
  isplitl [S1]; · iexact S1
  isplitl [S2]; · iexact S2
  iintro ⟨H0, H1, H2, H3, H5, S0, S1, S2⟩
  isplitl [Q0 Q1 Q2 Q3 Q4 Q5 Q6 Q7 Q8 Q9 Q10 S0 S1 S2 HP]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [S0]; · iexact S0
    isplitl [S1]; · iexact S1
    isplitl [S2]; · iexact S2
    iexact HP
  isplitl [Ho]; · iexact Ho
  isplitl [H0]; · iexact H0
  isplitl [H1]; · iexact H1
  isplitl [H2]; · iexact H2
  isplitl [H3]; · iexact H3
  isplitl [H4]; · iexact H4
  iexact H5

/-- The final kernel's body obligation. -/
theorem obligation2 (c : Dev nD) : BodyObligation (dat2 (F := F) W c) (defs₀ (F := F)) Variants.none () Set.univ := fun t => by
  rw [bigSep_W2, bigSep_W2]
  sl_whnfR [defs₀, Defs.onTc]
  simp only [before2_0, before2_1, before2_2, before2_3, before2_4]
  rw [show (dat2 W c).Φ t.succ = (dat2 W c).Φ t.castSucc from rfl,
    show (dat2 W c).owesAt () t.succ = (dat2 W c).owesAt () t.castSucc from rfl, after2_0, after2_1, after2_2, after2_3, after2_4, after2_5, after2_6]
  iintro ⟨HP, Ho, ⟨%d0, H0⟩, ⟨%d1, H1⟩, ⟨%d2, H2⟩, ⟨%d3, H3⟩, ⟨%d4, H4⟩, ⟨%d5, H5⟩, ⟨%d6, H6⟩⟩
  iapply (final_run c Set.univ _ _ _ _ _ _ _ _ _ _ _ _ _ _ (blk2 W 0 t) (blk2 W 1 t) (blk2 W 2 t) (blk2 W 3 t) (blk2 W 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## @main: the host operations, the three regions -/

variable (m : (ℓ : Loc nD τ sig) → Buf (Elt F) ℓ) (ρ : Dev nD → PrngReg)

/-- The buffers when the teacher, the student and the final region and @main's end are reached. -/
abbrev W1 (c : Dev nD) : Valuation τ sig (Elt F) := V1 m c
abbrev W2 (c : Dev nD) : Valuation τ sig (Elt F) := afterRegion (dat0 (W1 m c) c) (W1 m c)
abbrev W3 (c : Dev nD) : Valuation τ sig (Elt F) := afterRegion (dat1 (W2 m c) c) (W2 m c)
abbrev W4 (c : Dev nD) : Valuation τ sig (Elt F) := afterRegion (dat2 (W3 m c) c) (W3 m c)

/-- The three regions' proof data. -/
def pdats : (p : Fin 3) → (c : Dev nD) → Dat τ (Elt F) Unit ℕ (UR sig nD τ) ℕ (cfgs p) c
  | 0 => fun c => dat0 (W1 m c) c
  | 1 => fun c => dat1 (W2 m c) c
  | 2 => fun c => dat2 (W3 m c) c

/-- No core owes another anything. -/
abbrev Lv : GSem nD τ sig → Finset Unit := fun g => if g.1.2 = .tc then Finset.univ else ∅
abbrev lv : GSem nD τ sig → Unit → ℕ := fun _ _ => 0

theorem cut (p : Fin 3) : Pipeline.LevelCut (pcfgs (F := F)) adm () Lv lv p (fun _ => 0) (fun _ => 0) where
  hι _ _ _ := by simp [Lv]
  hιb _ _ _ := le_rfl
  hD _ _ _ h := absurd h (lt_irrefl _)

theorem enter0 (W : Dev nD → Valuation τ sig (Elt F)) (c : Dev nD) : iprop(Pipeline.scopedRest spec0 c ∗ emp) ⊢ (dat0 (W c) c).Φ 0 :=
  (Laws.sep_emp (P := Pipeline.scopedRest spec0 c)).1
theorem leave0 (W : Dev nD → Valuation τ sig (Elt F)) (c : Dev nD) : (dat0 (W c) c).Φ (Fin.last cfg0.N) ⊢ iprop(Pipeline.scopedRest spec0 c ∗ emp) :=
  (Laws.sep_emp (P := Pipeline.scopedRest spec0 c)).2
theorem enter1 (W : Dev nD → Valuation τ sig (Elt F)) (c : Dev nD) : iprop(Pipeline.scopedRest spec1 c ∗ emp) ⊢ (dat1 (W c) c).Φ 0 :=
  (Laws.sep_emp (P := Pipeline.scopedRest spec1 c)).1
theorem leave1 (W : Dev nD → Valuation τ sig (Elt F)) (c : Dev nD) : (dat1 (W c) c).Φ (Fin.last cfg1.N) ⊢ iprop(Pipeline.scopedRest spec1 c ∗ emp) :=
  (Laws.sep_emp (P := Pipeline.scopedRest spec1 c)).2
theorem enter2 (W : Dev nD → Valuation τ sig (Elt F)) (c : Dev nD) : iprop(Pipeline.scopedRest spec2 c ∗ emp) ⊢ (dat2 (W c) c).Φ 0 :=
  (Laws.sep_emp (P := Pipeline.scopedRest spec2 c)).1
theorem leave2 (W : Dev nD → Valuation τ sig (Elt F)) (c : Dev nD) : (dat2 (W c) c).Φ (Fin.last cfg2.N) ⊢ iprop(Pipeline.scopedRest spec2 c ∗ emp) :=
  (Laws.sep_emp (P := Pipeline.scopedRest spec2 c)).2

/-- The teacher region. -/
def R0 : RegionSeg (pcfgs (F := F)) adm (pdats m) () defs₀ Variants.none Lv lv 0 :=
  RegionSeg.ofHeldIn (pcfgs (F := F)) adm (pdats m) () defs₀ Variants.none Lv lv 0 (fun _ => 0) (Pipeline.ucRefs τ sig) (fun _ => iprop(emp)) (fun _ => iprop(emp))
    launch0.toP rfl (fun c => (obligation0 (W1 m c) c).loose) (fun _ _ => rfl) (fun _ => rfl) (fun c => (dat0 (W1 m c) c).share_full fun _ => rfl)
    (enter0 (W1 m)) (leave0 (W1 m)) (fun _ => 0) (cut 0) (fun _ => iprop(emp)) (W1 m) fun _ _ => rfl

/-- The student region. -/
def R1 : RegionSeg (pcfgs (F := F)) adm (pdats m) () defs₀ Variants.none Lv lv 1 :=
  RegionSeg.ofHeldIn (pcfgs (F := F)) adm (pdats m) () defs₀ Variants.none Lv lv 1 (fun _ => 0) (Pipeline.ucRefs τ sig) (fun _ => iprop(emp)) (fun _ => iprop(emp))
    launch1.toP rfl (fun c => (obligation1 (W2 m c) c).loose) (fun _ _ => rfl) (fun _ => rfl) (fun c => (dat1 (W2 m c) c).share_full fun _ => rfl)
    (enter1 (W2 m)) (leave1 (W2 m)) (fun _ => 0) (cut 1) (fun _ => iprop(emp)) (W2 m) fun _ _ => rfl

/-- The final region. -/
def R2 : RegionSeg (pcfgs (F := F)) adm (pdats m) () defs₀ Variants.none Lv lv 2 :=
  RegionSeg.ofHeldIn (pcfgs (F := F)) adm (pdats m) () defs₀ Variants.none Lv lv 2 (fun _ => 0) (Pipeline.ucRefs τ sig) (fun _ => iprop(emp)) (fun _ => iprop(emp))
    launch2.toP rfl (fun c => (obligation2 (W3 m c) c).loose) (fun _ _ => rfl) (fun _ => rfl) (fun c => (dat2 (W3 m c) c).share_full fun _ => rfl)
    (enter2 (W3 m)) (leave2 (W3 m)) (fun _ => 0) (cut 2) (fun _ => iprop(emp)) (W3 m) fun _ _ => rfl

/-- What rides beside the buffers: nothing owed. -/
abbrev rest (_ : Fin 4) (c : Dev nD) : sProp 𝕄 := iprop((∃ Wd, owes (c : Thread nD τ) (0 : CellTallies nD τ sig Unit) Wd) ∗ emp ∗ emp)

theorem arrs0 : Pipeline.arrRefs (τ := τ) (pcfgs (F := F) 0).spec ⊆ Pipeline.ucRefs τ sig := Pipeline.arrRefs_sub_ucRefs spec0 (by decide)
theorem hpre0 (c : Dev nD) : iprop(StableHlo.held (c : Thread nD τ) (Pipeline.ucRefs τ sig) (W1 m c) ∗ rest (F := F) 0 c) ⊢ (R0 m).pre c :=
  RegionSeg.ofHeldIn_pre (pcs := pcfgs (F := F)) (a := adm) (pdats := pdats m) (ι := ()) (defs₀ := defs₀) (𝒱₀ := Variants.none) (L := Lv) (lv := lv) (p := 0) (D := fun _ => 0)
    (S := Pipeline.ucRefs τ sig) (arrs0 (F := F)) (X := fun _ => iprop(emp)) (Y := fun _ => iprop(emp))
    (R := fun _ => iprop(emp)) (W := W1 m) c
theorem hpost0 (c : Dev nD) : (R0 m).post c ⊢ iprop(StableHlo.held (c : Thread nD τ) (Pipeline.ucRefs τ sig) (W2 m c) ∗ rest (F := F) 1 c) :=
  RegionSeg.ofHeldIn_post (pcs := pcfgs (F := F)) (a := adm) (pdats := pdats m) (ι := ()) (defs₀ := defs₀) (𝒱₀ := Variants.none) (L := Lv) (lv := lv) (p := 0) (D := fun _ => 0)
    (S := Pipeline.ucRefs τ sig) (arrs0 (F := F)) (X := fun _ => iprop(emp)) (Y := fun _ => iprop(emp))
    (R := fun _ => iprop(emp)) (W := W1 m) c
theorem arrs1 : Pipeline.arrRefs (τ := τ) (pcfgs (F := F) 1).spec ⊆ Pipeline.ucRefs τ sig := Pipeline.arrRefs_sub_ucRefs spec1 (by decide)
theorem hpre1 (c : Dev nD) : iprop(StableHlo.held (c : Thread nD τ) (Pipeline.ucRefs τ sig) (W2 m c) ∗ rest (F := F) 1 c) ⊢ (R1 m).pre c :=
  RegionSeg.ofHeldIn_pre (pcs := pcfgs (F := F)) (a := adm) (pdats := pdats m) (ι := ()) (defs₀ := defs₀) (𝒱₀ := Variants.none) (L := Lv) (lv := lv) (p := 1) (D := fun _ => 0)
    (S := Pipeline.ucRefs τ sig) (arrs1 (F := F)) (X := fun _ => iprop(emp)) (Y := fun _ => iprop(emp))
    (R := fun _ => iprop(emp)) (W := W2 m) c
theorem hpost1 (c : Dev nD) : (R1 m).post c ⊢ iprop(StableHlo.held (c : Thread nD τ) (Pipeline.ucRefs τ sig) (W3 m c) ∗ rest (F := F) 2 c) :=
  RegionSeg.ofHeldIn_post (pcs := pcfgs (F := F)) (a := adm) (pdats := pdats m) (ι := ()) (defs₀ := defs₀) (𝒱₀ := Variants.none) (L := Lv) (lv := lv) (p := 1) (D := fun _ => 0)
    (S := Pipeline.ucRefs τ sig) (arrs1 (F := F)) (X := fun _ => iprop(emp)) (Y := fun _ => iprop(emp))
    (R := fun _ => iprop(emp)) (W := W2 m) c
theorem arrs2 : Pipeline.arrRefs (τ := τ) (pcfgs (F := F) 2).spec ⊆ Pipeline.ucRefs τ sig := Pipeline.arrRefs_sub_ucRefs spec2 (by decide)
theorem hpre2 (c : Dev nD) : iprop(StableHlo.held (c : Thread nD τ) (Pipeline.ucRefs τ sig) (W3 m c) ∗ rest (F := F) 2 c) ⊢ (R2 m).pre c :=
  RegionSeg.ofHeldIn_pre (pcs := pcfgs (F := F)) (a := adm) (pdats := pdats m) (ι := ()) (defs₀ := defs₀) (𝒱₀ := Variants.none) (L := Lv) (lv := lv) (p := 2) (D := fun _ => 0)
    (S := Pipeline.ucRefs τ sig) (arrs2 (F := F)) (X := fun _ => iprop(emp)) (Y := fun _ => iprop(emp))
    (R := fun _ => iprop(emp)) (W := W3 m) c
theorem hpost2 (c : Dev nD) : (R2 m).post c ⊢ iprop(StableHlo.held (c : Thread nD τ) (Pipeline.ucRefs τ sig) (W4 m c) ∗ rest (F := F) 3 c) :=
  RegionSeg.ofHeldIn_post (pcs := pcfgs (F := F)) (a := adm) (pdats := pdats m) (ι := ()) (defs₀ := defs₀) (𝒱₀ := Variants.none) (L := Lv) (lv := lv) (p := 2) (D := fun _ => 0)
    (S := Pipeline.ucRefs τ sig) (arrs2 (F := F)) (X := fun _ => iprop(emp)) (Y := fun _ => iprop(emp))
    (R := fun _ => iprop(emp)) (W := W3 m) c

theorem rest_end (c : Dev nD) : rest (F := F) 3 c ⊢ (iprop(∃ Wd, owes (c : Thread nD τ) (0 : CellTallies nD τ sig Unit) Wd) : sProp 𝕄) := by
  iintro ⟨H, -⟩
  iexact H

/-- Every argument is as launched at @main's end. -/
theorem W4_arg (c : Dev nD) (r : Ref sig .tc) (h2 : ∀ w, Pipeline.arrRef spec2 w = r → (cfg2.win w).isOut = false) (h1 : ∀ w, Pipeline.arrRef spec1 w = r → (cfg1.win w).isOut = false)
    (h0 : ∀ w, Pipeline.arrRef spec0 w = r → (cfg0.win w).isOut = false) (h : r ∉ hostOps0_W) :
    W4 m c (Proc.devRef .tc r) = m ((c.tc : Thread nD τ).loc r) := by
  unfold W4 W3 W2
  rw [Pipeline.afterRegion_keeps _ _ launch2.win.arr_inj (fun _ => rfl) r h2, Pipeline.afterRegion_keeps _ _ launch1.win.arr_inj (fun _ => rfl) r h1, Pipeline.afterRegion_keeps _ _ launch0.win.arr_inj (fun _ => rfl) r h0]
  exact V1_of m c r h

set_option backward.isDefEq.respectTransparency.types false in
/-- Every execution ends with the two results at the arrays the final region leaves, every argument as launched, and the semaphores at zero. -/
theorem run_main : θ_run (defs (F := F)) (onTc (τ := τ) (main (F := F))) ⟨m, fun _ => 0, ρ⟩ (fun r => (∀ c : Dev nD,
      r.2.mem ((c.tc : Thread nD τ).loc main_v10_0) = (dat2 (W3 m c) c).arrAt 5 cfg2.N
      ∧ r.2.mem ((c.tc : Thread nD τ).loc main_v10_1) = (dat2 (W3 m c) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (pdats m) () cellOf_inj emb₁ defs₀ Variants.none Lv lv m ρ main
    (segs m Variants.none Lv lv (rest (F := F)) () (pdats m) (R0 m) (R1 m) (R2 m))
    (fun c Q => by
      rewrite [main_chain c, Seg.run_eq_chain,
        show (segs m Variants.none Lv lv (rest (F := F)) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) (fun g h => if_neg h)
    (fun _ => iprop(emp)) (Rounds.initOf (Pipeline.cells cfgs cellOf_inj) (Pipeline.launchToks cfgs cellOf_inj))
    (by
      iintro Hu; imodintro
      isplitl [Hu]
      · iapply (show (ownU _ : sProp 𝕄) ⊢ BI.own (emb₁ (Rounds.initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest (F := F) 0 c))
    (Tₙ := fun c => StableHlo.held (c : Thread nD τ) (Pipeline.ucRefs τ sig) (W4 m c))
    (hch := fun c => ⟨.rfl, hpre0 m c, (hpost0 m c).trans (hpre1 m c), (hpost1 m c).trans (hpre2 m c), (hpost2 m c).trans (BI.sep_mono (BI.Entails.refl _) (rest_end c))⟩)
    (hinit := Pipeline.initEach Lv lv fun c => ?_)
    (QY := fun c s => s.mem ((c.tc : Thread nD τ).loc main_v10_0) = (dat2 (W3 m c) c).arrAt 5 cfg2.N ∧ s.mem ((c.tc : Thread nD τ).loc main_v10_1) = (dat2 (W3 m c) c).arrAt 6 cfg2.N
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_arg4) = m ((c.tc : Thread nD τ).loc main_arg4) ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · rw [← Pipeline.unscopedBufs_held (Ix := Unit) (Name := ℕ) (U := UR sig nD τ) (Lvl := ℕ) c (V0 m c)]
    iintro ⟨⟨Hb, -, Ho, -, -, -⟩, -⟩
    imodintro
    isplitl [Hb]; · iexact Hb
    isplitl [Ho]; · iexists _; iexact Ho
    isplitl <;> iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v10_0) (Finset.mem_filter.mpr ⟨StableHlo.devRef_mem_tcRefs main_v10_0, by decide⟩)).trans (Pipeline.afterRegion_arr (dat2 (W3 m c) c) (W3 m c) launch2.win.arr_inj 5),
        (h (Proc.devRef .tc main_v10_1) (Finset.mem_filter.mpr ⟨StableHlo.devRef_mem_tcRefs main_v10_1, by decide⟩)).trans (Pipeline.afterRegion_arr (dat2 (W3 m c) c) (W3 m c) launch2.win.arr_inj 6),
        (h (Proc.devRef .tc main_arg0) (Finset.mem_filter.mpr ⟨StableHlo.devRef_mem_tcRefs main_arg0, by decide⟩)).trans (W4_arg m c main_arg0 (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide))⟩
    · iexact HSI

end Cert.KernelIdeal

end
-- ==== Proof.LogSumExp.lean ====
/-
  The logarithm of a sum of exponentials over the extended reals, in base two and in base `e`, with and without the
  maximum taken out.
-/
module

public import Idealize.ShloMosaic.PureOps.Ideal.Laws

@[expose] public section

noncomputable section

namespace Cert.LogSumExp

open Idealize.ShloMosaic

/-- `log 2`. -/
abbrev L : ℝ := Real.log 2

theorem L_pos : 0 < L := Real.log_pos (by norm_num)

theorem coe_L_nonneg : (0 : EReal) ≤ (L : EReal) := EReal.coe_nonneg.2 L_pos.le

/-- A power of two is the exponential of `log 2` times the exponent. -/
theorem exp2_eq (a : EReal) : Ideal.exp2 a = Ideal.exp (a * (L : EReal)) := by
  induction a using EReal.rec with
  | bot => rw [EReal.bot_mul_coe_of_pos L_pos]; rfl
  | top => rw [EReal.top_mul_coe_of_pos L_pos]; rfl
  | coe r =>
    rw [← EReal.coe_mul]
    show ((Real.rpow 2 r : ℝ) : EReal) = ((Real.exp (r * L) : ℝ) : EReal)
    rw [show Real.rpow 2 r = (2 : ℝ) ^ r from rfl, Real.rpow_def_of_pos (by norm_num), mul_comm]

theorem sub_mul_L (a b : EReal) : (a - b) * (L : EReal) = a * (L : EReal) - b * (L : EReal) :=
  EReal.sub_mul_of_nonneg_of_ne_top coe_L_nonneg (EReal.coe_ne_top _)

theorem add_mul_L (a b : EReal) : (a + b) * (L : EReal) = a * (L : EReal) + b * (L : EReal) :=
  EReal.right_distrib_of_nonneg_of_ne_top coe_L_nonneg (EReal.coe_ne_top _) a b

/-- Dividing by `log 2` and multiplying by it again. -/
theorem mul_inv_mul_L (a : EReal) : a * ((L⁻¹ : ℝ) : EReal) * (L : EReal) = a := by
  rw [mul_assoc, ← EReal.coe_mul, inv_mul_cancel₀ L_pos.ne', EReal.coe_one, mul_one]

theorem exp_nonneg (a : EReal) : 0 ≤ Ideal.exp a := by
  induction a using EReal.rec with
  | bot => exact le_rfl
  | top => exact le_top
  | coe r => exact EReal.coe_nonneg.2 (Real.exp_pos r).le

variable {ι : Type*} [Fintype ι]

/-- The maximum taken out: `max x + log Σ exp (x - max x)`. -/
def lse (x : ι → EReal) : EReal :=
  Finset.univ.sup x + Ideal.log (∑ n, Ideal.exp (x n - Finset.univ.sup x))

theorem sup_mul_L (y : ι → EReal) : Finset.univ.sup y * (L : EReal) = Finset.univ.sup fun n => y n * (L : EReal) :=
  Finset.apply_sup_eq_sup_comp_of_linearOrder (fun a : EReal => a * (L : EReal)) (fun _ _ h => mul_le_mul_of_nonneg_right h coe_L_nonneg)
    (EReal.bot_mul_coe_of_pos L_pos)

/-- Base two with the maximum taken out: whatever the logits are. -/
theorem shifted_eq (y : ι → EReal) :
    (Ideal.log (∑ n, Ideal.exp2 (y n - Finset.univ.sup y)) * ((L⁻¹ : ℝ) : EReal) + Finset.univ.sup y) * (L : EReal) = lse fun n => y n * (L : EReal) := by
  unfold lse
  rw [add_mul_L, mul_inv_mul_L, sup_mul_L, add_comm]
  congr 2
  exact Finset.sum_congr rfl fun n _ => by rw [exp2_eq, sub_mul_L, sup_mul_L]

/-- Taking a real `m` out of an exponential. -/
theorem exp_eq_mul (m : ℝ) (a : EReal) : Ideal.exp a = (Real.exp m : EReal) * Ideal.exp (a - m) := by
  induction a using EReal.rec with
  | bot => show (0 : EReal) = _ * Ideal.exp ⊥; rw [show Ideal.exp ⊥ = 0 from rfl, mul_zero]
  | top => rw [EReal.top_sub_coe, show Ideal.exp ⊤ = ⊤ from rfl, EReal.coe_mul_top_of_pos (Real.exp_pos m)]
  | coe r =>
    rw [← EReal.coe_sub]
    show ((Real.exp r : ℝ) : EReal) = (Real.exp m : EReal) * ((Real.exp (r - m) : ℝ) : EReal)
    rw [← EReal.coe_mul, ← Real.exp_add, add_sub_cancel]

theorem mul_sum (c : ℝ) (hc : 0 ≤ c) (f : ι → EReal) : (c : EReal) * ∑ n, f n = ∑ n, (c : EReal) * f n :=
  map_sum (⟨⟨fun a : EReal => (c : EReal) * a, mul_zero _⟩,
    fun a b => EReal.left_distrib_of_nonneg_of_ne_top (EReal.coe_nonneg.2 hc) (EReal.coe_ne_top _) a b⟩ : EReal →+ EReal) f Finset.univ

/-- The logarithm of the plain sum, when the sum is a positive real. -/
theorem plain_exp (x : ι → EReal) (h0 : 0 < ∑ n, Ideal.exp (x n)) (h1 : ∑ n, Ideal.exp (x n) ≠ ⊤) : Ideal.log (∑ n, Ideal.exp (x n)) = lse x := by
  have htop : ∀ n, x n ≠ ⊤ := fun n hn => h1 (top_unique (by
    have := Finset.single_le_sum (f := fun n => Ideal.exp (x n)) (fun n _ => exp_nonneg (x n)) (Finset.mem_univ n)
    rwa [show Ideal.exp (x n) = ⊤ by rw [hn]; rfl] at this))
  have hbot : Finset.univ.sup x ≠ ⊥ := fun hb => h0.ne' (Finset.sum_eq_zero fun n _ => by
    rw [show x n = ⊥ from bot_unique (hb ▸ Finset.le_sup (Finset.mem_univ n))]; rfl)
  have hm : Finset.univ.sup x ≠ ⊤ := by
    rw [← lt_top_iff_ne_top, Finset.sup_lt_iff (by exact bot_lt_top)]
    exact fun n _ => lt_top_iff_ne_top.2 (htop n)
  unfold lse
  generalize Finset.univ.sup x = m at hbot hm
  lift m to ℝ using ⟨hm, hbot⟩
  have e : ∑ n, Ideal.exp (x n) = (Real.exp m : EReal) * ∑ n, Ideal.exp (x n - m) := by
    rw [mul_sum _ (Real.exp_pos m).le]
    exact Finset.sum_congr rfl fun n _ => exp_eq_mul m (x n)
  rw [e] at h0 h1 ⊢
  have hT : 0 ≤ ∑ n, Ideal.exp (x n - m) := Finset.sum_nonneg fun n _ => exp_nonneg _
  generalize ∑ n, Ideal.exp (x n - m) = T at h0 h1 hT
  have hTt : T ≠ ⊤ := fun h => h1 (by rw [h, EReal.coe_mul_top_of_pos (Real.exp_pos m)])
  have hTb : T ≠ ⊥ := fun h => by rw [h] at hT; exact absurd hT (by decide)
  lift T to ℝ using ⟨hTt, hTb⟩
  rw [← EReal.coe_mul] at h0 ⊢
  have hT0 : 0 < T := by
    have := EReal.coe_pos.1 h0
    exact (mul_pos_iff_of_pos_left (Real.exp_pos m)).1 this
  show (if Real.exp m * T ≤ 0 then (⊥ : EReal) else (Real.log (Real.exp m * T) : EReal)) = (m : EReal) + (if T ≤ 0 then (⊥ : EReal) else (Real.log T : EReal))
  rw [if_neg (not_le.2 (mul_pos (Real.exp_pos m) hT0)), if_neg (not_le.2 hT0), Real.log_mul (Real.exp_pos m).ne' hT0.ne', Real.log_exp, EReal.coe_add]

/-- Base two without the maximum taken out, when the sum is a positive real. -/
theorem plain_eq (y : ι → EReal) (h0 : 0 < ∑ n, Ideal.exp2 (y n)) (h1 : ∑ n, Ideal.exp2 (y n) ≠ ⊤) :
    Ideal.log (∑ n, Ideal.exp2 (y n)) * ((L⁻¹ : ℝ) : EReal) * (L : EReal) = lse fun n => y n * (L : EReal) := by
  rw [mul_inv_mul_L]
  simp only [exp2_eq] at h0 h1 ⊢
  exact plain_exp _ h0 h1

end Cert.LogSumExp

end
-- ==== Proof.Rows.lean ====
/-
  The student kernel's body over the extended reals: each lane of a row block's accumulator holds a part of its row's sum,
  the row sums are sums over all columns, the row maxima the maxima over all columns, and every result is the logarithm
  of the row's sum of exponentials.
-/
module

public import proofs.«01_k».proof.Proof.Whole
public import proofs.«01_k».proof.Proof.LogSumExp
public import Idealize.ShloMosaic.Lib.MatmulPlain
public import Idealize.ShloMosaic.Lib.IdealHost

@[expose] public section

noncomputable section

namespace Cert.Student

open Idealize.ShloMosaic hiding ix1 ix2
open Idealize.ShloMosaic.ValueIdx (ix1 ix2)
open Cert.LogSumExp

/-! ### Forty steps as one sum and one maximum -/

theorem steps_sum (f : ℕ → EReal) (g : Fin 40 → EReal) (h0 : f 0 = 0) (hs : ∀ j (h : j < 40), f (j + 1) = f j + g ⟨j, h⟩) : f 40 = ∑ j, g j := by
  have key : ∀ k (hk : k ≤ 40), f k = ∑ j : Fin k, g ⟨j.val, by omega⟩ := by
    intro k
    induction k with
    | zero => intro _; rw [h0]; rfl
    | succ k ih =>
      intro hk
      rw [hs k (by omega), ih (by omega), Fin.sum_univ_castSucc]
      rfl
  exact key 40 le_rfl

theorem steps_max (f : ℕ → EReal) (g : Fin 40 → EReal) (h0 : f 0 = ⊥) (hs : ∀ j (h : j < 40), f (j + 1) = max (f j) (g ⟨j, h⟩)) (a : EReal) :
    f 40 ≤ a ↔ ∀ j, g j ≤ a := by
  have key : ∀ k (hk : k ≤ 40), f k ≤ a ↔ ∀ j (h : j < k), g ⟨j, by omega⟩ ≤ a := by
    intro k
    induction k with
    | zero => intro _; rw [h0]; exact ⟨fun _ j h => absurd h (Nat.not_lt_zero j), fun _ => bot_le⟩
    | succ k ih =>
      intro hk
      rw [hs k (by omega), max_le_iff, ih (by omega)]
      refine ⟨fun h j hj => ?_, fun h => ⟨fun j hj => h j (by omega), h k (by omega)⟩⟩
      rcases Nat.lt_succ_iff_lt_or_eq.1 hj with h' | h'
      · exact h.1 j h'
      · subst h'; exact h.2
  exact (key 40 le_rfl).trans ⟨fun h j => h j.val j.isLt, fun h j hj => h ⟨j, hj⟩⟩

/-! ### Rows and columns -/

/-- Row `p` of row block `i`, and lane `l` of the column block `c` of step `j`. -/
def row (i : Fin 30) (p : Fin 256) : Fin 7680 := ⟨256 * i.val + p.val, by omega⟩
def col (j : Fin 40) (c : Fin 4) (l : Fin 128) : Fin 20480 := ⟨512 * j.val + 128 * c.val + l.val, by omega⟩

/-- A column by its step, column block and lane. -/
def colEquiv : Fin 128 × Fin 40 × Fin 4 ≃ Fin 20480 where
  toFun x := col x.2.1 x.2.2 x.1
  invFun n := (⟨n.val % 128, by omega⟩, ⟨n.val / 512, by omega⟩, ⟨n.val % 512 / 128, by omega⟩)
  left_inv x := by
    obtain ⟨l, j, c⟩ := x
    have := l.isLt; have := j.isLt; have := c.isLt
    refine Prod.ext (Fin.ext ?_) (Prod.ext (Fin.ext ?_) (Fin.ext ?_)) <;> simp only [col] <;> omega
  right_inv n := Fin.ext (by simp only [col]; omega)

theorem sum_cols (f : Fin 20480 → EReal) : ∑ l : Fin 128, ∑ j : Fin 40, ∑ c : Fin 4, f (col j c l) = ∑ n, f n := by
  rw [← Equiv.sum_comp colEquiv f, Fintype.sum_prod_type]
  refine Finset.sum_congr rfl fun l _ => ?_
  rw [Fintype.sum_prod_type]
  rfl

theorem forall_cols (P : Fin 20480 → Prop) : (∀ l j c, P (col j c l)) ↔ ∀ n, P n :=
  ⟨fun h n => by rw [← colEquiv.apply_symm_apply n]; exact h _ _ _, fun h _ _ _ => h _⟩

variable (s : St Ideal) (i : Fin 30)

/-- The product of row `r` of the codes and row `n` of the prototypes. -/
def dot (C : FVec Ideal S7680x256 .fp8e4m3) (V : FVec Ideal S20480x256 .fp8e4m3) (r : Fin 7680) (n : Fin 20480) : EReal :=
  ∑ k : Fin 256, C (ix2 r k) * V (ix2 n k)

/-- The scaled logit of row `r` and column `n`. -/
def Y (sc : Fin 7680 → EReal) (r : Fin 7680) (n : Fin 20480) : EReal := dot s.codes s.protos r n * sc r * s.ws (ix2 0 n)

theorem prod_apply (C : FVec Ideal S7680x256 .fp8e4m3) (V : FVec Ideal S20480x256 .fp8e4m3) (j : Fin 40) (c : Fin 4) (p : Fin 256) (l : Fin 128) :
    prod C V i j (ix2 p ⟨128 * c.val + l.val, by omega⟩) = dot C V (row i p) (col j c l) := by
  show FloatOps.matmul (DotDims.transposedRhs 256 256 512) none _ _ _ _ = _
  rw [Ideal.matmul_transposedRhs_apply]
  rw [show (constant S256x512 .f32 0x00000000#32 : FVec Ideal S256x512 .f32) (ix2 p ⟨128 * c.val + l.val, by omega⟩) = 0 from Ideal.ofBits_zero_f32, zero_add]
  refine Finset.sum_congr rfl fun k _ => ?_
  refine congrArg₂ (· * ·) (congrArg C ?_) (congrArg V ?_)
  · exact emb2 _ (ix2 p k) (row i p) k rfl (Nat.zero_add _)
  · exact emb2 _ (ix2 (n0 := 512) ⟨128 * c.val + l.val, by omega⟩ k) (col j c l) k (by simp only [col, ix2]; omega) (Nat.zero_add _)

variable {sc : Fin 7680 → EReal} (hsc : ∀ r l, s.rep (ix2 r l) = sc r)
include hsc

theorem lg_apply (j : Fin 40) (c : Fin 4) (p : Fin 256) (l : Fin 128) : lg s i j c (ix2 p l) = Y s sc (row i p) (col j c l) := by
  unfold lg Y
  rw [← hsc (row i p) l, ← prod_apply]
  rfl

/-- A lane of the accumulator after all steps. -/
theorem accAt_apply (p : Fin 256) (l : Fin 128) : accAt s i 40 (ix2 p l) = ∑ j, ∑ c, Ideal.exp2 (Y s sc (row i p) (col j c l)) := by
  refine steps_sum (fun k => accAt s i k (ix2 p l)) _ Ideal.ofBits_zero_f32 fun j h => ?_
  show accAt s i (j + 1) (ix2 p l) = _
  rw [show accAt s i (j + 1) = fun y => accN s i ⟨j, h⟩ y (accAt s i j y) from dif_pos h]
  show accAt s i j (ix2 p l) + ((Ideal.exp2 (lg s i ⟨j, h⟩ 0 (ix2 p l)) + Ideal.exp2 (lg s i ⟨j, h⟩ 1 (ix2 p l))) + (Ideal.exp2 (lg s i ⟨j, h⟩ 2 (ix2 p l)) + Ideal.exp2 (lg s i ⟨j, h⟩ 3 (ix2 p l)))) = _
  simp only [lg_apply s i hsc, Fin.sum_univ_four]
  rw [← add_assoc (_ + _ : EReal)]

theorem subAt_apply (m : FVec Ideal S256x128 .f32) (p : Fin 256) (l : Fin 128) :
    subAt s m i 40 (ix2 p l) = ∑ j, ∑ c, Ideal.exp2 (Y s sc (row i p) (col j c l) - m (ix2 p l)) := by
  refine steps_sum (fun k => subAt s m i k (ix2 p l)) _ Ideal.ofBits_zero_f32 fun j h => ?_
  show subAt s m i (j + 1) (ix2 p l) = _
  rw [show subAt s m i (j + 1) = fun y => subN s m i ⟨j, h⟩ y (subAt s m i j y) from dif_pos h]
  show subAt s m i j (ix2 p l) + ((Ideal.exp2 (lg s i ⟨j, h⟩ 0 (ix2 p l) - m (ix2 p l)) + Ideal.exp2 (lg s i ⟨j, h⟩ 1 (ix2 p l) - m (ix2 p l)))
    + (Ideal.exp2 (lg s i ⟨j, h⟩ 2 (ix2 p l) - m (ix2 p l)) + Ideal.exp2 (lg s i ⟨j, h⟩ 3 (ix2 p l) - m (ix2 p l)))) = _
  simp only [lg_apply s i hsc, Fin.sum_univ_four]
  rw [← add_assoc (_ + _ : EReal)]

theorem maxAt_le (p : Fin 256) (l : Fin 128) (a : EReal) : maxAt s i 40 (ix2 p l) ≤ a ↔ ∀ j c, Y s sc (row i p) (col j c l) ≤ a := by
  have e : (Ideal.ofBits .f32 0xFF800000#32 : EReal) = ⊥ := by simp [Ideal.ofBits, Ideal.ieee]
  refine (steps_max (fun k => maxAt s i k (ix2 p l)) (fun j => max (max (lg s i j 0 (ix2 p l)) (lg s i j 1 (ix2 p l))) (max (lg s i j 2 (ix2 p l)) (lg s i j 3 (ix2 p l)))) e (fun j h => ?_) a).trans ?_
  · show maxAt s i (j + 1) (ix2 p l) = _
    rw [show maxAt s i (j + 1) = fun y => maxN s i ⟨j, h⟩ y (maxAt s i j y) from dif_pos h]
    rfl
  · refine forall_congr' fun j => ?_
    simp only [lg_apply s i hsc, max_le_iff, Fin.forall_fin_succ, Fin.forall_fin_zero_pi, IsEmpty.forall_iff, and_true]
    exact and_assoc

omit hsc

/-! ### The row sums and maxima -/

theorem halfOf_apply (X : FVec Ideal S256x128 .f32) (h : Fin 2) (q : Fin 128) (l : Fin 128) : halfOf X h (ix2 q l) = X (ix2 ⟨128 * h.val + q.val, by omega⟩ l) :=
  congrArg X (emb2 _ (ix2 q l) ⟨128 * h.val + q.val, by omega⟩ l rfl (Nat.zero_add _))

theorem turned_apply (X : FVec Ideal S128x128 .f32) (l q : Fin 128) : transpose S128x128 [1, 0] X transp (ix2 l q) = X (ix2 q l) :=
  transpose_apply _ _ _ _ _ fun b => by
    match b with
    | ⟨0, _⟩ => rfl
    | ⟨1, _⟩ => rfl

theorem sumOf_apply (X : FVec Ideal S256x128 .f32) (h : Fin 2) (q : Fin 128) : sumOf X h (ix2 0 q) = ∑ l : Fin 128, X (ix2 ⟨128 * h.val + q.val, by omega⟩ l) := by
  unfold sumOf rowSum
  rw [shapeCast_apply (k := ix1 q) (hk := by
    rw [Shape.rowMajor_val_one (d := ![128]), Shape.rowMajor_val_two (d := ![1, 128])]; simp [ix1, ix2])]
  refine (Ideal.multiReduction_add_single (a := 0) _ _ red_lane (.inl rfl) rfl (ix1 q)).trans ?_
  refine Finset.sum_congr rfl fun l _ => ?_
  refine Eq.trans ?_ ((turned_apply (halfOf X h) l q).trans (halfOf_apply X h q l))
  refine congrArg _ (funext fun a => Fin.ext ?_)
  match a with
  | ⟨0, _⟩ => rfl
  | ⟨1, _⟩ => rfl

theorem spread_apply (X : FVec Ideal S256x128 .f32) (p : Fin 256) (l : Fin 128) : spread X (ix2 p l) = Finset.univ.sup fun l' : Fin 128 => X (ix2 p l') := by
  have e : (Ideal.ofBits .f32 0xFF800000#32 : EReal) = ⊥ := by simp [Ideal.ofBits, Ideal.ieee]
  unfold spread
  rw [broadcastTo_apply (k := ix2 p 0) (hk := fun a => by
    match a with
    | ⟨0, _⟩ => rfl
    | ⟨1, _⟩ => rfl), shapeCast_self,
    shapeCast_apply (k := ix1 p) (hk := by
      rw [Shape.rowMajor_val_one (d := ![256]), Shape.rowMajor_val_two (d := ![256, 1])]; simp [ix1, ix2])]
  refine (Ideal.multiReduction_maximumf_single (a := 1) _ _ red_row (.inl rfl) rfl (ix1 p)).trans ?_
  show Finset.univ.fold max (Ideal.ofBits .f32 0xFF800000#32) _ = _
  rw [e]
  show Finset.univ.sup _ = _
  refine Finset.sup_congr rfl fun l' _ => congrArg X (funext fun a => Fin.ext ?_)
  match a with
  | ⟨0, _⟩ => rfl
  | ⟨1, _⟩ => rfl

/-- The row of half `h`, lane `q`. -/
def hrow (h : Fin 2) (q : Fin 128) : Fin 7680 := row i ⟨128 * h.val + q.val, by omega⟩

include hsc

theorem rowMax_apply (p : Fin 256) (l : Fin 128) : rowMax s i (ix2 p l) = Finset.univ.sup (Y s sc (row i p)) := by
  unfold rowMax
  rw [spread_apply]
  refine eq_of_forall_ge_iff fun a => ?_
  rw [Finset.sup_le_iff, Finset.sup_le_iff]
  simp only [Finset.mem_univ, true_imp_iff, maxAt_le s i hsc]
  exact forall_cols (fun n => Y s sc (row i p) n ≤ a)

theorem acc_sum (h : Fin 2) (q : Fin 128) : sumOf (accAt s i 40) h (ix2 0 q) = ∑ n, Ideal.exp2 (Y s sc (hrow i h q) n) := by
  rw [sumOf_apply]
  simp only [accAt_apply s i hsc]
  exact sum_cols fun n => Ideal.exp2 (Y s sc (hrow i h q) n)

theorem sub_sum (h : Fin 2) (q : Fin 128) : sumOf (subAt s (rowMax s i) i 40) h (ix2 0 q)
    = ∑ n, Ideal.exp2 (Y s sc (hrow i h q) n - Finset.univ.sup (Y s sc (hrow i h q))) := by
  rw [sumOf_apply]
  simp only [subAt_apply s i hsc, rowMax_apply s i hsc]
  exact sum_cols fun n => Ideal.exp2 (Y s sc (hrow i h q) n - Finset.univ.sup (Y s sc (hrow i h q)))

omit hsc

/-! ### The guard -/

/-- A row sum inside the two bounds. -/
def Fine (a : EReal) : Prop := Ideal.ofBits .f32 0x21800000#32 ≤ a ∧ a ≤ Ideal.ofBits .f32 0x76800000#32

theorem Fine.pos {a : EReal} (h : Fine a) : 0 < a := by
  refine lt_of_lt_of_le ?_ h.1
  simp [Ideal.ofBits, Ideal.ieee, -EReal.coe_mul]

theorem Fine.ne_top {a : EReal} (h : Fine a) : a ≠ ⊤ := by
  intro ha
  have h2 := h.2
  rw [ha] at h2
  revert h2
  simp [Ideal.ofBits, Ideal.ieee, -EReal.coe_mul]

theorem badOf_apply (x : FVec Ideal S1x128 .f32) (y : S1x128.Idx) [Decidable (Fine (x y))] : badOf x y = if Fine (x y) then 0 else 1 := by
  show Scalar.select (Ideal.cmp .oge (x y) (Ideal.ofBits .f32 0x21800000#32) &&& Ideal.cmp .ole (x y) (Ideal.ofBits .f32 0x76800000#32))
    (Ideal.ofBits .f32 0x00000000#32) (Ideal.ofBits .f32 0x3F800000#32) = _
  rw [Ideal.ofBits_zero_f32, Ideal.ofBits_one_f32]
  unfold Fine Ideal.cmp
  by_cases h1 : Ideal.ofBits .f32 0x21800000#32 ≤ x y <;> by_cases h2 : x y ≤ Ideal.ofBits .f32 0x76800000#32 <;> simp [h1, h2, Scalar.select]

theorem badOf_nonneg (x : FVec Ideal S1x128 .f32) (y : S1x128.Idx) : 0 ≤ badOf x y := by
  classical
  rw [badOf_apply]
  split_ifs
  · exact le_rfl
  · exact zero_le_one

theorem badSum_eq (b : FVec Ideal S1x128 .f32) : badSum b = ∑ y : S1x1x128.Idx, shapeCast S1x1x128 b cast_lane y := by
  unfold badSum extractAt
  rw [shapeCast_apply (k := ix1 0) (hk := by decide)]
  exact Ideal.multiReduction_add_total _ _ red_all (fun b => by fin_cases b; rfl) (.inl rfl) rfl _

/-- When the guard does not fire, every row sum is inside the bounds. -/
theorem fine_of_not_bad (X : FVec Ideal S256x128 .f32) (hb : ¬ Bad X) (h : Fin 2) (q : Fin 128) : Fine (sumOf X h (ix2 0 q)) := by
  classical
  by_contra hf
  refine hb ?_
  have hpos : (0 : EReal) < badSum (addf (badOf (sumOf X 0)) (badOf (sumOf X 1))) := by
    rw [badSum_eq]
    refine lt_of_lt_of_le zero_lt_one ?_
    have hn : ∀ y : S1x1x128.Idx, 0 ≤ shapeCast S1x1x128 (addf (badOf (sumOf X 0)) (badOf (sumOf X 1))) cast_lane y := fun y =>
      add_nonneg (badOf_nonneg _ _) (badOf_nonneg _ _)
    refine le_trans ?_ (Finset.single_le_sum (fun y _ => hn y) (Finset.mem_univ (ValueIdx.ix3 (n0 := 1) (n1 := 1) (n2 := 128) 0 0 q)))
    rw [shapeCast_apply (k := ix2 0 q) (hk := by
      rw [Shape.rowMajor_val_two (d := ![1, 128]), Shape.rowMajor_val_three (d := ![1, 1, 128])]; simp [ValueIdx.ix3, ix2])]
    show (1 : EReal) ≤ badOf (sumOf X 0) (ix2 0 q) + badOf (sumOf X 1) (ix2 0 q)
    have one : badOf (sumOf X h) (ix2 0 q) = 1 := by rw [badOf_apply, if_neg hf]
    match h with
    | 0 => rw [one]; exact le_add_of_nonneg_right (badOf_nonneg _ _)
    | 1 => rw [one]; exact le_add_of_nonneg_left (badOf_nonneg _ _)
  unfold Bad
  show Scalar.cmpi .ne (Scalar.extui (Ideal.cmp .ogt (badSum (addf (badOf (sumOf X 0)) (badOf (sumOf X 1)))) (Ideal.ofBits .f32 0x00000000#32)) : BitVec 32) 0#32 = 1#1
  rw [Ideal.ofBits_zero_f32]
  unfold Ideal.cmp
  rw [decide_eq_true hpos]
  rfl

/-! ### Every result -/

theorem plain_apply (cE cL : Ideal .f32) (x : FVec Ideal S1x128 .f32) (y : S1x128.Idx) : plain cE cL x y = Ideal.log (x y) * cE * cL := rfl

theorem shifted_apply (cE cL : Ideal .f32) (x : FVec Ideal S1x128 .f32) (m : FVec Ideal S128x128 .f32) (q : Fin 128) :
    shifted cE cL x m (ix2 0 q) = (Ideal.log (x (ix2 0 q)) * cE + m (ix2 q 0)) * cL := by
  rw [← turned_apply m 0 q]
  refine congrArg (fun z : EReal => (Ideal.log (x (ix2 0 q)) * cE + z) * cL) ?_
  exact extractStridedSlice_apply _ _ _ _ _ fun a => by
    match a with
    | ⟨0, _⟩ => rfl
    | ⟨1, _⟩ => exact (Nat.zero_add _).symm

include hsc

/-- Each result is the logarithm of its row's sum of exponentials, whichever pass wrote it. -/
theorem res_apply (cE cL : Ideal .f32) (hE : cE = ((L⁻¹ : ℝ) : EReal)) (hL : cL = (L : EReal)) (h : Fin 2) (q : Fin 128) :
    res s cE cL i h (ix2 0 q) = lse fun n => Y s sc (hrow i h q) n * (L : EReal) := by
  subst hE hL
  unfold res
  split_ifs with hb
  · unfold second
    rw [shifted_apply, sub_sum s i hsc, halfOf_apply, rowMax_apply s i hsc]
    exact shifted_eq (Y s sc (hrow i h q))
  · have hf := fine_of_not_bad _ hb h q
    rw [acc_sum s i hsc] at hf
    unfold first
    rw [plain_apply, acc_sum s i hsc]
    exact plain_eq _ hf.pos hf.ne_top

end Cert.Student

end
-- ==== Proof.Losses.lean ====
/-
  The losses and their means as functions of the arguments, over the extended reals, and the final kernel's body: each row
  of losses it stores, and the table of means.
-/
module

public import proofs.«01_k».proof.Proof.FinalRun
public import proofs.«01_k».proof.Proof.Rows

@[expose] public section

noncomputable section

namespace Cert.Final

open Idealize.ShloMosaic hiding ix1 ix2 ix3
open Idealize.ShloMosaic.ValueIdx (ix1 ix2 ix3 ix4)
open Cert.LogSumExp

/-! ### The losses -/

/-- Row `p` of a view of the student, and of a crop of the teacher. -/
def srow (v : Fin 4) (p : Fin 1920) : Fin 7680 := ⟨1920 * v.val + p.val, by omega⟩
def trow (i : Fin 2) (p : Fin 1920) : Fin 3840 := ⟨1920 * i.val + p.val, by omega⟩

/-- The loss of row `p` of the view `v` against the crop `i`: the student's logarithm of sums minus the product of the student's
    row and the teacher's, over the teacher's sum; zero for a view against its own crop. -/
def cell (S : Fin 7680 → EReal) (C : FVec Ideal S7680x256 .fp8e4m3) (G : FVec Ideal S3840x256 .f32) (T : Fin 3840 → EReal) (sc : Fin 7680 → EReal)
    (i : Fin 2) (v : Fin 4) (p : Fin 1920) : EReal :=
  if i.val = v.val then 0 else
    S (srow v p) - (∑ d : Fin 256, C (ix2 (srow v p) d) * G (ix2 (trow i p) d)) * sc (srow v p) * Ideal.div ((2 / 5 * L : ℝ) : EReal) (T (trow i p))

/-- The losses of the rows, laid out. -/
def losses (S : Fin 7680 → EReal) (C : FVec Ideal S7680x256 .fp8e4m3) (G : FVec Ideal S3840x256 .f32) (T : Fin 3840 → EReal) (sc : Fin 7680 → EReal) :
    FVec Ideal S2x4x5x384 .f32 := fun y =>
  cell S C G T sc (y 0) (y 1) ⟨384 * (y 2).val + (y 3).val, by
    have h2 : (y 2).val < 5 := (y 2).isLt
    have h3 : (y 3).val < 384 := (y 3).isLt
    omega⟩

/-- Their means over the rows. -/
def pairs (S : Fin 7680 → EReal) (C : FVec Ideal S7680x256 .fp8e4m3) (G : FVec Ideal S3840x256 .f32) (T : Fin 3840 → EReal) (sc : Fin 7680 → EReal) :
    FVec Ideal S2x4 .f32 := fun y =>
  Ideal.div (∑ p : Fin 1920, cell S C G T sc (y 0) (y 1) p) (Ideal.ofBits .f32 0x44F00000#32)

/-! ### Elementwise -/

theorem subf_at {S : Shape} (a b : FVec Ideal S .f32) (i : S.Idx) : subf a b i = (a i - b i : EReal) := rfl
theorem addf_at {S : Shape} (a b : FVec Ideal S .f32) (i : S.Idx) : addf a b i = (a i + b i : EReal) := rfl
theorem mulf_at {S : Shape} (a b : FVec Ideal S .f32) (i : S.Idx) : mulf a b i = (a i * b i : EReal) := rfl
theorem divf_at {S : Shape} (a b : FVec Ideal S .f32) (i : S.Idx) : divf a b i = Ideal.div (a i) (b i) := rfl
theorem extf_at {S : Shape} (a : FVec Ideal S .fp8e4m3) (h) (i : S.Idx) : (extf .f32 a h : FVec Ideal S .f32) i = (a i : EReal) := rfl

/-! ### A row of losses -/

/-- A division by `t` times `log 2`. -/
theorem div_mul_L (c : ℝ) (hc : 0 < c) (t : EReal) : Ideal.div (c : EReal) t * (L : EReal) = Ideal.div ((c * L : ℝ) : EReal) t := by
  unfold Ideal.div
  by_cases h : t = 0
  · rw [if_pos h, if_pos h, if_pos (EReal.coe_pos.2 hc), if_pos (EReal.coe_pos.2 (mul_pos hc L_pos)), EReal.top_mul_coe_of_pos L_pos]
  · rw [if_neg h, if_neg h, EReal.coe_mul, mul_right_comm]

/-- The scaled row products, summed lane by lane. -/
theorem lanes (f : Fin 256 → EReal) (s : EReal) (h0 : 0 ≤ s) (h1 : s ≠ ⊤) :
    ∑ l : Fin 128, (f ⟨l.val, by omega⟩ + f ⟨128 + l.val, by omega⟩) * s = (∑ d, f d) * s := by
  have hs : s ≠ ⊥ := fun h => by rw [h] at h0; exact absurd h0 (by decide)
  lift s to ℝ using ⟨h1, hs⟩
  have h0' : 0 ≤ s := EReal.coe_nonneg.1 h0
  rw [show (∑ l : Fin 128, (f ⟨l.val, by omega⟩ + f ⟨128 + l.val, by omega⟩) * (s : EReal)) = (s : EReal) * ∑ l : Fin 128, (f ⟨l.val, by omega⟩ + f ⟨128 + l.val, by omega⟩) by
    rw [mul_sum s h0']; exact Finset.sum_congr rfl fun l _ => mul_comm _ _, mul_comm, Finset.sum_add_distrib]
  rw [show (∑ d, f d) = _ from Fin.sum_univ_add (a := 128) (b := 128) f]
  rfl

theorem inv_apply (cK : Ideal .f32) (x : Vec Ideal S1x1x128 .f32) (q : Fin 128) : inv cK x (ix2 0 q) = Ideal.div cK (x (ix3 0 0 q)) := by
  unfold inv
  rw [divf_at, shapeCast_apply (k := ix3 0 0 q) (hk := by
    rw [Shape.rowMajor_val_three (d := ![1, 1, 128]), Shape.rowMajor_val_two (d := ![1, 128])]; simp [ix3, ix2])]
  rfl

theorem slice_apply {o : ℕ} (X : FVec Ideal S128x256 .f32) (h) (q l : Fin 128) (d : Fin 256) (hd : d.val = o + l.val) :
    extractStridedSlice S128x128 ![0, o] X h (ix2 q l) = X (ix2 q d) :=
  congrArg X (funext fun a => Fin.ext (by
    match a with
    | ⟨0, _⟩ => show 0 + q.val = q.val; omega
    | ⟨1, _⟩ => exact hd.symm))

theorem row_apply (cL : Ideal .f32) (g : Vec Ideal S128x256 .f32) (iv : FVec Ideal S1x128 .f32) (codes : Vec Ideal S128x256 .fp8e4m3) (rep : Vec Ideal S128x128 .f32)
    (s : Vec Ideal S1x1x128 .f32) (q : Fin 128) : row cL g iv codes rep s (ix2 0 q)
    = (s (ix3 0 0 q) - (∑ l : Fin 128, (codes (ix2 q ⟨l.val, by omega⟩) * g (ix2 q ⟨l.val, by omega⟩)
        + codes (ix2 q ⟨128 + l.val, by omega⟩) * g (ix2 q ⟨128 + l.val, by omega⟩)) * rep (ix2 q l)) * iv (ix2 0 q) * cL : EReal) := by
  unfold row
  rw [subf_at, mulf_at, mulf_at, shapeCast_apply (k := ix3 0 0 q) (hk := by
    rw [Shape.rowMajor_val_three (d := ![1, 1, 128]), Shape.rowMajor_val_two (d := ![1, 128])]; simp [ix3, ix2]),
    shapeCast_apply (k := ix1 q) (hk := by
      rw [Shape.rowMajor_val_one (d := ![128]), Shape.rowMajor_val_two (d := ![1, 128])]; simp [ix1, ix2])]
  refine congrArg (fun z : EReal => s (ix3 0 0 q) - z * iv (ix2 0 q) * cL) ?_
  refine (Ideal.multiReduction_add_single (a := 0) _ _ red_lane (.inl rfl) rfl (ix1 q)).trans ?_
  refine Finset.sum_congr rfl fun l _ => ?_
  have hl : l.val < 128 := l.isLt
  refine (congrArg _ (show red_lane.lift (ix1 q) l = ix2 l q from funext fun a => Fin.ext (by
    match a with
    | ⟨0, _⟩ => rfl
    | ⟨1, _⟩ => rfl))).trans ((Student.turned_apply _ l q).trans ?_)
  rw [mulf_at, addf_at, slice_apply _ _ q l ⟨l.val, by omega⟩ (by simp), slice_apply _ _ q l ⟨128 + l.val, by omega⟩ rfl, mulf_at, mulf_at, extf_at, extf_at,
    shapeCast_self, shapeCast_self]

variable (s : St Ideal) {cK cL : Ideal .f32} (hK : cK = ((2 / 5 : ℝ) : EReal)) (hL : cL = (L : EReal)) {sc : Fin 7680 → EReal}
  (hsc : ∀ r l, s.rep (ix2 r l) = sc r) (h0 : ∀ r, 0 ≤ sc r) (h1 : ∀ r, sc r ≠ ⊤)

/-- The rows of the student's logarithms and of the teacher's sums, one after another. -/
def sAt : Fin 7680 → EReal := fun r => s.s (ix3 ⟨r.val / 128, by omega⟩ 0 ⟨r.val % 128, by omega⟩)
def tAt : Fin 3840 → EReal := fun r => s.t (ix3 ⟨r.val / 128, by omega⟩ 0 ⟨r.val % 128, by omega⟩)

theorem emb3 {n m : ℕ} {o : ℕ} (inb) (i : Fin n) (q : Fin m) (hi : o = i.val) :
    (Rect.unit (s := (⟨3, ![n, 1, m]⟩ : Shape)) ![o, 0, 0] ![1, 1, m] inb).emb (ix3 0 0 q) = ix3 i 0 q := by
  funext a
  match a with
  | ⟨0, _⟩ => exact Fin.ext (by show o + 1 * 0 = i.val; omega)
  | ⟨1, _⟩ => rfl
  | ⟨2, _⟩ => exact Fin.ext (by show 0 + 1 * q.val = q.val; omega)

include hK hL hsc h0 h1 in
/-- A row of losses the kernel stores. -/
theorem rowAt_apply (v : Fin 4) (i : Fin 2) (t : Fin 15) (q : Fin 128) : rowAt s cK cL v i t (ix2 0 q)
    = cell (sAt s) s.codes s.g (tAt s) sc i v ⟨128 * t.val + q.val, by omega⟩ := by
  unfold rowAt cell
  by_cases hiv : i.val = v.val
  · rw [if_pos hiv, if_pos hiv]
    exact Ideal.ofBits_zero_f32
  rw [if_neg hiv, if_neg hiv, row_apply, inv_apply]
  have hr : ∀ l : Fin 128, VecWindow.window s.rep ![1920 * v.val + 128 * t.val, 0] S128x128.size (inbR v t) (ix2 q l) = sc (srow v ⟨128 * t.val + q.val, by omega⟩) := fun l =>
    (congrArg s.rep (Student.emb2 _ (ix2 q l) (srow v ⟨128 * t.val + q.val, by omega⟩) l (Nat.add_assoc _ _ _) (Nat.zero_add _))).trans (hsc _ _)
  have hc : ∀ d : Fin 256, VecWindow.window s.codes ![1920 * v.val + 128 * t.val, 0] S128x256.size (inbC v t) (ix2 q d) = s.codes (ix2 (srow v ⟨128 * t.val + q.val, by omega⟩) d) := fun d =>
    congrArg s.codes (Student.emb2 _ (ix2 q d) (srow v ⟨128 * t.val + q.val, by omega⟩) d (Nat.add_assoc _ _ _) (Nat.zero_add _))
  have hg : ∀ d : Fin 256, VecWindow.window s.g ![1920 * i.val + 128 * t.val, 0] S128x256.size (inbG i t) (ix2 q d) = s.g (ix2 (trow i ⟨128 * t.val + q.val, by omega⟩) d) := fun d =>
    congrArg s.g (Student.emb2 _ (ix2 q d) (trow i ⟨128 * t.val + q.val, by omega⟩) d (Nat.add_assoc _ _ _) (Nat.zero_add _))
  have hs : VecWindow.window s.s ![15 * v.val + t.val, 0, 0] S1x1x128.size (inbS v t) (ix3 0 0 q) = sAt s (srow v ⟨128 * t.val + q.val, by omega⟩) :=
    (congrArg s.s (emb3 _ ⟨15 * v.val + t.val, by omega⟩ q rfl)).trans (congrArg s.s (by
      congr 1 <;> exact Fin.ext (by simp only [srow]; omega)))
  have ht : VecWindow.window s.t ![15 * i.val + t.val, 0, 0] S1x1x128.size (inbT i t) (ix3 0 0 q) = tAt s (trow i ⟨128 * t.val + q.val, by omega⟩) :=
    (congrArg s.t (emb3 _ ⟨15 * i.val + t.val, by omega⟩ q rfl)).trans (congrArg s.t (by
      congr 1 <;> exact Fin.ext (by simp only [trow]; omega)))
  simp only [hr, hc, hg, hs, ht]
  rw [lanes (fun d => s.codes (ix2 (srow v ⟨128 * t.val + q.val, by omega⟩) d) * s.g (ix2 (trow i ⟨128 * t.val + q.val, by omega⟩) d)) _ (h0 _) (h1 _),
    mul_assoc _ (Ideal.div _ _), hK, hL, div_mul_L _ (by norm_num)]

/-! ### The table of means -/

theorem totalUpto_apply (R : Fin 15 → Fin 4 → Fin 2 → FVec Ideal S1x128 .f32) (hR : ∀ t v i q, i.val = v.val → R t v i (ix2 0 q) = (0 : EReal)) (v : Fin 4) (i : Fin 2) (q : Fin 128) :
    ∀ (n : ℕ) (h : n ≤ 15), totalUpto R n h v i (ix2 0 q) = ∑ t : Fin n, (R ⟨t.val, by omega⟩ v i (ix2 0 q) : EReal)
  | 0, _ => Ideal.ofBits_zero_f32
  | n + 1, h => by
    rw [Fin.sum_univ_castSucc]
    have ih := totalUpto_apply R hR v i q n (by omega)
    show acc (totalUpto R n (by omega)) (R ⟨n, h⟩) v i (ix2 0 q) = _
    unfold acc
    by_cases hiv : i.val = v.val
    · rw [if_pos hiv, ih, show (R ⟨(Fin.last n).val, _⟩ v i (ix2 0 q) : EReal) = 0 from hR _ v i q hiv, add_zero]
      rfl
    · rw [if_neg hiv, addf_at, ih]
      rfl

theorem mean_apply (x : FVec Ideal S1x128 .f32) : mean x (ix2 0 0) = Ideal.div (∑ q : Fin 128, x (ix2 0 q)) (Ideal.ofBits .f32 0x44F00000#32) := by
  unfold mean
  rw [divf_at, shapeCast_apply (k := ix1 0) (hk := by
    rw [Shape.rowMajor_val_one (d := ![1]), Shape.rowMajor_val_two (d := ![1, 1])]; simp [ix1, ix2])]
  refine congrArg (fun z : EReal => Ideal.div z _) ?_
  refine (Ideal.multiReduction_add_single (a := 1) _ _ red_row (.inl rfl) rfl (ix1 0)).trans ?_
  refine Finset.sum_congr rfl fun l _ => congrArg x (funext fun a => Fin.ext ?_)
  match a with
  | ⟨0, _⟩ => rfl
  | ⟨1, _⟩ => rfl

theorem place_apply (T : Fin 4 → Fin 2 → FVec Ideal S1x128 .f32) (i i' : Fin 2) (v v' : Fin 4) (p : FVec Ideal S2x4 .f32) :
    place T i v p (ix2 i' v') = if i' = i ∧ v' = v then mean (T v i) (ix2 0 0) else p (ix2 i' v') := by
  have hb : broadcastTo S2x4 (shapeCast S1x1 (mean (T v i)) cast_one') bcast_pair (ix2 i' v') = mean (T v i) (ix2 0 0) := by
    rw [broadcastTo_apply (k := ix2 0 0) (hk := fun a => by
      match a with
      | ⟨0, _⟩ => rfl
      | ⟨1, _⟩ => rfl), shapeCast_self]
  have hc : ∀ (i i' : Fin 2) (v v' : Fin 4), (andi (cmpi .eq (iota .tc S2x4 32 [0] iota_0) (broadcast S2x4 (BitVec.ofNat 32 i.val)))
    (cmpi .eq (iota .tc S2x4 32 [1] iota_1) (broadcast S2x4 (BitVec.ofNat 32 v.val)))) (ix2 i' v') = if i' = i ∧ v' = v then 1#1 else 0#1 := by
    decide
  unfold place
  show Scalar.select _ _ _ = _
  rw [hb, hc i i' v v']
  split_ifs <;> rfl

theorem means_apply (T : Fin 4 → Fin 2 → FVec Ideal S1x128 .f32) (i : Fin 2) (v : Fin 4) : means T (ix2 i v) = mean (T v i) (ix2 0 0) := by
  unfold means
  simp only [place_apply]
  fin_cases i <;> fin_cases v <;> simp

/-- A row by its block and lane. -/
theorem sum_rows (f : Fin 1920 → EReal) : ∑ q : Fin 128, ∑ t : Fin 15, f ⟨128 * t.val + q.val, by omega⟩ = ∑ p, f p := by
  rw [Finset.sum_comm, ← Fintype.sum_prod_type' (f := fun (t : Fin 15) (q : Fin 128) => f ⟨128 * t.val + q.val, by omega⟩)]
  refine Fintype.sum_equiv finProdFinEquiv _ _ fun x => congrArg f (Fin.ext ?_)
  show 128 * x.1.val + x.2.val = x.2.val + 128 * x.1.val
  omega

include hK hL hsc h0 h1 in
theorem losses_eq : lossOf (rows s cK cL) = losses (sAt s) s.codes s.g (tAt s) sc := by
  funext y
  obtain ⟨i, v, t, q, rfl⟩ := eq_at4 y
  rw [lossOf_apply, rows, rowAt_apply s hK hL hsc h0 h1]
  unfold losses
  refine congrArg _ (Fin.ext ?_)
  show 128 * t.val + q.val = 384 * (t.val / 3) + (128 * (t.val % 3) + q.val)
  omega

include hK hL hsc h0 h1 in
theorem pairs_eq : means (totalUpto (rows s cK cL) 15 le_rfl) = pairs (sAt s) s.codes s.g (tAt s) sc := by
  funext y
  obtain ⟨i, v, rfl⟩ : ∃ (i : Fin 2) (v : Fin 4), y = ix2 i v := ⟨y 0, y 1, funext fun a => by
    match a with
    | ⟨0, _⟩ => rfl
    | ⟨1, _⟩ => rfl⟩
  rw [means_apply, mean_apply]
  unfold pairs
  refine congrArg (fun z : EReal => Ideal.div z _) ?_
  refine Eq.trans ?_ (sum_rows _)
  refine Finset.sum_congr rfl fun q _ => ?_
  refine (totalUpto_apply _ (fun t v i q hiv => by
    rw [rows, rowAt, if_pos hiv]; exact Ideal.ofBits_zero_f32) _ _ q 15 le_rfl).trans ?_
  exact Finset.sum_congr rfl fun t _ => rowAt_apply s hK hL hsc h0 h1 _ _ _ q

end Cert.Final

end
-- ==== Proof.TRows.lean ====
/-
  The teacher kernel's body over the extended reals: the row sums are sums over all columns, the row maxima the maxima over
  all columns, and the products sums over all columns of weighted powers of two times prototypes.
-/
module

public import proofs.«01_k».proof.Proof.TWhole
public import proofs.«01_k».proof.Proof.Rows

@[expose] public section

noncomputable section

namespace Cert.Teacher

open Cert.Student (S20480x256 S1x20480 S256x128 S256x256 S512x256 S256x512 S1x128 spread sumOf Bad dimsZ steps_sum steps_max emb2 sumOf_apply spread_apply Fine fine_of_not_bad)
open Idealize.ShloMosaic hiding ix1 ix2
open Idealize.ShloMosaic.ValueIdx (ix1 ix2)
open Cert.LogSumExp

/-! ### Rows and columns -/

/-- Row `p` of row block `i`. -/
def row (i : Fin 15) (p : Fin 256) : Fin 3840 := ⟨256 * i.val + p.val, by omega⟩

/-- A column by its step and its place in the step's tile. -/
def tcol (j : Fin 40) (k : Fin 512) : Fin 20480 := ⟨512 * j.val + k.val, by omega⟩

theorem sum_tcols (f : Fin 20480 → EReal) : ∑ j : Fin 40, ∑ k : Fin 512, f (tcol j k) = ∑ n, f n := by
  rw [← Fintype.sum_prod_type' (f := fun (j : Fin 40) (k : Fin 512) => f (tcol j k))]
  refine Fintype.sum_equiv finProdFinEquiv _ _ fun x => congrArg f (Fin.ext ?_)
  show 512 * x.1.val + x.2.val = x.2.val + 512 * x.1.val
  omega

variable (s : St Ideal) (i : Fin 15)

/-- The product of row `r` of the codes and row `n` of the prototypes. -/
def dot (C : FVec Ideal S3840x256 .fp8e4m3) (V : FVec Ideal S20480x256 .fp8e4m3) (r : Fin 3840) (n : Fin 20480) : EReal :=
  ∑ k : Fin 256, C (ix2 r k) * V (ix2 n k)

/-- The scaled and centred logit of row `r` and column `n`. -/
def Y (sc : Fin 3840 → EReal) (r : Fin 3840) (n : Fin 20480) : EReal := dot s.codes s.protos r n * sc r * s.ws (ix2 0 n) - s.cb (ix2 0 n)

theorem prod_apply (C : FVec Ideal S3840x256 .fp8e4m3) (V : FVec Ideal S20480x256 .fp8e4m3) (j : Fin 40) (c : Fin 4) (p : Fin 256) (l : Fin 128) :
    prod C V i j (ix2 p ⟨128 * c.val + l.val, by omega⟩) = dot C V (row i p) (Student.col j c l) := by
  show FloatOps.matmul (DotDims.transposedRhs 256 256 512) none _ _ _ _ = _
  rw [Ideal.matmul_transposedRhs_apply]
  rw [show (constant S256x512 .f32 0x00000000#32 : FVec Ideal S256x512 .f32) (ix2 p ⟨128 * c.val + l.val, by omega⟩) = 0 from Ideal.ofBits_zero_f32, zero_add]
  refine Finset.sum_congr rfl fun k _ => ?_
  refine congrArg₂ (· * ·) (congrArg C ?_) (congrArg V ?_)
  · exact emb2 _ (ix2 p k) (row i p) k rfl (Nat.zero_add _)
  · exact emb2 _ (ix2 (n0 := 512) ⟨128 * c.val + l.val, by omega⟩ k) (Student.col j c l) k (by simp only [Student.col, ix2]; omega) (Nat.zero_add _)

variable {sc : Fin 3840 → EReal} (hsc : ∀ r l, s.rep (ix2 r l) = sc r)

include hsc in
theorem lg_apply (j : Fin 40) (c : Fin 4) (p : Fin 256) (l : Fin 128) : lg s i j c (ix2 p l) = Y s sc (row i p) (Student.col j c l) := by
  unfold lg Y
  rw [← hsc (row i p) l, ← prod_apply]
  rfl

/-- A lane of an accumulator after all steps. -/
theorem accAt_apply (E : Fin 40 → Fin 4 → S256x128.Idx → Ideal .f32) (y : S256x128.Idx) : accAt E 40 y = ∑ j, ∑ c, Ideal.exp2 (E j c y) := by
  refine steps_sum (fun k => accAt E k y) _ Ideal.ofBits_zero_f32 fun j h => ?_
  show accAt E (j + 1) y = _
  rw [show accAt E (j + 1) = fun y => accN (E ⟨j, h⟩) y (accAt E j y) from dif_pos h]
  show accAt E j y + ((Ideal.exp2 (E ⟨j, h⟩ 0 y) + Ideal.exp2 (E ⟨j, h⟩ 1 y)) + (Ideal.exp2 (E ⟨j, h⟩ 2 y) + Ideal.exp2 (E ⟨j, h⟩ 3 y))) = _
  rw [Fin.sum_univ_four, ← add_assoc (_ + _ : EReal)]

include hsc in
theorem maxAt_le (p : Fin 256) (l : Fin 128) (a : EReal) : maxAt s i 40 (ix2 p l) ≤ a ↔ ∀ j c, Y s sc (row i p) (Student.col j c l) ≤ a := by
  have e : (Ideal.ofBits .f32 0xFF800000#32 : EReal) = ⊥ := by simp [Ideal.ofBits, Ideal.ieee]
  refine (steps_max (fun k => maxAt s i k (ix2 p l)) (fun j => max (max (lg s i j 0 (ix2 p l)) (lg s i j 1 (ix2 p l))) (max (lg s i j 2 (ix2 p l)) (lg s i j 3 (ix2 p l)))) e (fun j h => ?_) a).trans ?_
  · show maxAt s i (j + 1) (ix2 p l) = _
    rw [show maxAt s i (j + 1) = fun y => maxN s i ⟨j, h⟩ y (maxAt s i j y) from dif_pos h]
    rfl
  · refine forall_congr' fun j => ?_
    simp only [lg_apply s i hsc, max_le_iff, Fin.forall_fin_succ, Fin.forall_fin_zero_pi, IsEmpty.forall_iff, and_true]
    exact and_assoc

include hsc in
theorem rowMax_apply (p : Fin 256) (l : Fin 128) : rowMax s i (ix2 p l) = Finset.univ.sup (Y s sc (row i p)) := by
  unfold rowMax
  rw [spread_apply]
  refine eq_of_forall_ge_iff fun a => ?_
  rw [Finset.sup_le_iff, Finset.sup_le_iff]
  simp only [Finset.mem_univ, true_imp_iff, maxAt_le s i hsc]
  exact Student.forall_cols (fun n => Y s sc (row i p) n ≤ a)

include hsc in
theorem lgm_apply (j : Fin 40) (c : Fin 4) (p : Fin 256) (l : Fin 128) :
    lgm s (rowMax s i) i j c (ix2 p l) = Y s sc (row i p) (Student.col j c l) - Finset.univ.sup (Y s sc (row i p)) := by
  rw [← lg_apply s i hsc j c p l, ← rowMax_apply s i hsc p l]
  rfl

/-- The row of half `h`, lane `q`. -/
def half (h : Fin 2) (q : Fin 128) : Fin 256 := ⟨128 * h.val + q.val, by omega⟩

/-- A row sum of the accumulator of exponents `E`. -/
theorem acc_sum (E : Fin 40 → Fin 4 → S256x128.Idx → Ideal .f32) (e : Fin 20480 → EReal) (h : Fin 2) (q : Fin 128)
    (hE : ∀ j c l, E j c (ix2 (half h q) l) = e (Student.col j c l)) : sumOf (accAt E 40) h (ix2 0 q) = ∑ n, Ideal.exp2 (e n) := by
  rw [sumOf_apply]
  simp only [accAt_apply]
  refine Eq.trans ?_ (Student.sum_cols fun n => Ideal.exp2 (e n))
  refine Finset.sum_congr rfl fun l _ => Finset.sum_congr rfl fun j _ => Finset.sum_congr rfl fun c _ => ?_
  exact congrArg Ideal.exp2 (hE j c l)

/-! ### The products -/

theorem dimsG_eq : dimsG = DotDims.plain 256 512 256 := rfl

theorem gdot_apply (P : FVec Ideal S256x512 .f32) (V : FVec Ideal S20480x256 .fp8e4m3) (j : Fin 40) (p d : Fin 256) :
    gdot P (vtile V j) (ix2 p d) = ∑ k : Fin 512, P (ix2 p k) * V (ix2 (tcol j k) d) := by
  show FloatOps.matmul (DotDims.plain 256 512 256) none _ _ _ _ = _
  rw [Ideal.matmul_plain_apply]
  rw [show (constant S256x256 .f32 0x00000000#32 : FVec Ideal S256x256 .f32) (ix2 p d) = 0 from Ideal.ofBits_zero_f32, zero_add]
  refine Finset.sum_congr rfl fun k _ => ?_
  refine congrArg (fun z : EReal => P (ix2 p k) * z) ?_
  show V _ = _
  exact congrArg V (emb2 _ (ix2 (n0 := 512) k d) (tcol j k) d rfl (Nat.zero_add _))

/-- A step's products, when the truncation does nothing and every weighted power of two is real. -/
theorem dg_apply {t : Ideal .f32 → Ideal .f32} (ht : ∀ x, t x = x) (V : FVec Ideal S20480x256 .fp8e4m3) (W : FVec Ideal S1x20480 .f32) (j : Fin 40)
    (E : Fin 4 → S256x128.Idx → Ideal .f32) (e : Fin 20480 → EReal) (p d : Fin 256)
    (hE : ∀ c l, E c (ix2 p l) = e (Student.col j c l)) (hr : ∀ n, ∃ a : ℝ, Ideal.exp2 (e n) * W (ix2 0 n) = (a : EReal)) :
    dg t V W j E (ix2 p d) = ∑ k : Fin 512, Ideal.exp2 (e (tcol j k)) * W (ix2 0 (tcol j k)) * V (ix2 (tcol j k) d) := by
  have hw : ∀ k : Fin 512, wval W j E (ix2 p k) = Ideal.exp2 (e (tcol j k)) * W (ix2 0 (tcol j k)) := fun k => by
    have hk : Student.col j ⟨k.val / 128, by omega⟩ ⟨k.val % 128, Nat.mod_lt _ (by decide)⟩ = tcol j k := Fin.ext (by
      show 512 * j.val + 128 * (k.val / 128) + k.val % 128 = 512 * j.val + k.val
      omega)
    rw [← hk]
    exact congrArg (fun z : EReal => Ideal.exp2 z * W (ix2 0 (Student.col j ⟨k.val / 128, by omega⟩ ⟨k.val % 128, Nat.mod_lt _ (by decide)⟩))) (hE _ _)
  show (gdot (fun z => t (wval W j E z)) (vtile V j) (ix2 p d) + gdot (fun z => FloatOps.subf (wval W j E z) (t (wval W j E z))) (vtile V j) (ix2 p d) : EReal) = _
  rw [gdot_apply, gdot_apply]
  simp only [ht]
  rw [show (∑ k : Fin 512, (FloatOps.subf (wval W j E (ix2 p k)) (wval W j E (ix2 p k)) : EReal) * V (ix2 (tcol j k) d)) = 0 from
    Finset.sum_eq_zero fun k _ => by
      rw [hw k]
      obtain ⟨a, ha⟩ := hr (tcol j k)
      rw [ha]
      show ((a : EReal) - a) * _ = 0
      rw [← EReal.coe_sub, sub_self, EReal.coe_zero, zero_mul], add_zero]
  exact Finset.sum_congr rfl fun k _ => by rw [hw k]

theorem gAt_sum (D : Fin 40 → FVec Ideal S256x256 .f32) (y : S256x256.Idx) (n : ℕ) (h : n + 2 ≤ 40) :
    ((gAt D n).1 y + (gAt D n).2 y : EReal) = ∑ j : Fin (n + 2), D ⟨j.val, by omega⟩ y := by
  induction n with
  | zero => rw [Fin.sum_univ_two]; rfl
  | succ n ih =>
    rw [Fin.sum_univ_castSucc]
    refine Eq.trans ?_ (congrArg (fun z : EReal => z + D ⟨n + 2, by omega⟩ y) (ih (by omega)))
    show ((gAt D n).2 y + ((gAt D n).1 y + (if h : n + 2 < 40 then D ⟨n + 2, h⟩ else D 0) y) : EReal) = _
    rw [dif_pos (show n + 2 < 40 by omega), ← add_assoc, add_comm ((gAt D n).2 y : EReal)]

theorem gsub_sum (D : Fin 40 → FVec Ideal S256x256 .f32) (y : S256x256.Idx) : gsub D 40 y = ∑ j, (D j y : EReal) := by
  refine steps_sum (fun k => gsub D k y) _ Ideal.ofBits_zero_f32 fun j h => ?_
  show gsub D (j + 1) y = _
  rw [show gsub D (j + 1) = addf (gsub D j) (D ⟨j, h⟩) from dif_pos h]
  rfl

/-- The products over all steps. -/
theorem prods_of {t : Ideal .f32 → Ideal .f32} (ht : ∀ x, t x = x) (V : FVec Ideal S20480x256 .fp8e4m3) (W : FVec Ideal S1x20480 .f32)
    (E : Fin 40 → Fin 4 → S256x128.Idx → Ideal .f32) (e : Fin 20480 → EReal) (p d : Fin 256)
    (hE : ∀ j c l, E j c (ix2 p l) = e (Student.col j c l)) (hr : ∀ n, ∃ a : ℝ, Ideal.exp2 (e n) * W (ix2 0 n) = (a : EReal)) :
    ∑ j, (dg t V W j (E j) (ix2 p d) : EReal) = ∑ n, Ideal.exp2 (e n) * W (ix2 0 n) * V (ix2 n d) := by
  refine Eq.trans ?_ (sum_tcols fun n => Ideal.exp2 (e n) * W (ix2 0 n) * V (ix2 n d))
  exact Finset.sum_congr rfl fun j _ => dg_apply ht V W j (E j) e p d (hE j) hr

/-! ### Powers of two -/

theorem exp2_nonneg (a : EReal) : 0 ≤ Ideal.exp2 a := by rw [exp2_eq]; exact exp_nonneg _

theorem exp_ne_top {a : EReal} (h : a ≠ ⊤) : Ideal.exp a ≠ ⊤ := by
  induction a using EReal.rec with
  | bot => exact EReal.zero_ne_top
  | top => exact absurd rfl h
  | coe r => exact EReal.coe_ne_top _

theorem exp_real {a : EReal} (h : Ideal.exp a ≠ ⊤) : ∃ b : ℝ, Ideal.exp a = (b : EReal) :=
  ⟨(Ideal.exp a).toReal, (EReal.coe_toReal h fun hb => absurd (exp_nonneg a) (by rw [hb]; decide)).symm⟩

/-- An exponent less the largest is never infinitely large. -/
theorem sub_sup_ne_top {ι : Type} [Fintype ι] (x : ι → EReal) (n : ι) : x n - Finset.univ.sup x ≠ ⊤ := by
  intro h
  have hle : x n ≤ Finset.univ.sup x := Finset.le_sup (Finset.mem_univ n)
  generalize Finset.univ.sup x = m at h hle
  induction m using EReal.rec with
  | bot =>
    rw [le_bot_iff.1 hle] at h
    exact absurd h (by simp)
  | top => exact absurd h (by simp)
  | coe r =>
    generalize x n = a at h hle
    induction a using EReal.rec with
    | bot => exact absurd h (by simp)
    | top => exact absurd (top_le_iff.1 hle) (EReal.coe_ne_top r)
    | coe q => exact absurd h (by rw [← EReal.coe_sub]; exact EReal.coe_ne_top _)

/-- What a row block's sums and products are: sums over all columns of the exponents `e`. -/
structure Sums (e : Fin 20480 → EReal) (T : EReal) (G : Fin 256 → EReal) : Prop where
  sum : T = ∑ n, Ideal.exp2 (e n)
  prods : ∀ d, G d = ∑ n, Ideal.exp2 (e n) * s.ws (ix2 0 n) * s.protos (ix2 n d)

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

include hsc in
/-- The sums and products of a row: those of its logits when the first pass is kept, and those of its logits less the largest else. -/
theorem block_sums {t : Ideal .f32 → Ideal .f32} (ht : ∀ x, t x = x) (hw : ∀ n, ∃ r : ℝ, s.ws (ix2 0 n) = (r : EReal)) (h : Fin 2) (q : Fin 128) :
    (Sums s (Y s sc (row i (half h q))) (sumOf (accOf s i) h (ix2 0 q)) (fun d => gOf t s i (ix2 (half h q) d)) ∧ Fine (sumOf (accOf s i) h (ix2 0 q)))
    ∨ Sums s (fun n => Y s sc (row i (half h q)) n - Finset.univ.sup (Y s sc (row i (half h q)))) (sumOf (accOf s i) h (ix2 0 q)) (fun d => gOf t s i (ix2 (half h q) d)) := by
  unfold accOf gOf
  by_cases hb : Bad (acc1 s i)
  · rw [if_pos hb, if_pos hb]
    refine Or.inr ⟨acc_sum (lgm s (rowMax s i) i) (fun n => Y s sc (row i (half h q)) n - Finset.univ.sup (Y s sc (row i (half h q)))) h q fun j c l => lgm_apply s i hsc j c _ l, fun d => ?_⟩
    unfold g2
    rw [gsub_sum]
    refine prods_of ht s.protos s.ws (fun j => lgm s (rowMax s i) i j) (fun n => Y s sc (row i (half h q)) n - Finset.univ.sup (Y s sc (row i (half h q)))) (half h q) d
      (fun j c l => lgm_apply s i hsc j c _ l) fun n => real_mul ?_ (hw n)
    rw [exp2_eq]
    refine exp_real (exp_ne_top fun hT => ?_)
    refine sub_sup_ne_top (Y s sc (row i (half h q))) n ?_
    generalize Y s sc (row i (half h q)) n - Finset.univ.sup (Y s sc (row i (half h q))) = a at hT ⊢
    induction a using EReal.rec with
    | bot => rw [EReal.bot_mul_coe_of_pos L_pos] at hT; exact hT
    | top => rfl
    | coe r => rw [← EReal.coe_mul] at hT; exact absurd hT (EReal.coe_ne_top _)
  · rw [if_neg hb, if_neg hb]
    have hf := fine_of_not_bad _ hb h q
    have hsum : sumOf (acc1 s i) h (ix2 0 q) = ∑ n, Ideal.exp2 (Y s sc (row i (half h q)) n) := acc_sum (lg s i) (Y s sc (row i (half h q))) h q fun j c l => lg_apply s i hsc j c _ l
    refine Or.inl ⟨⟨hsum, fun d => ?_⟩, hf⟩
    unfold g1
    refine (gAt_sum (fun j => dg t s.protos s.ws j (lg s i j)) (ix2 (half h q) d) 38 (by omega)).trans ?_
    refine prods_of ht s.protos s.ws (fun j => lg s i j) (Y s sc (row i (half h q))) (half h q) d
      (fun j c l => lg_apply s i hsc j c _ l) fun n => real_mul ?_ (hw n)
    have hne : Ideal.exp2 (Y s sc (row i (half h q)) n) ≠ ⊤ := fun hT => hf.ne_top (top_unique (by
      rw [hsum, ← hT]
      exact Finset.single_le_sum (f := fun n => Ideal.exp2 (Y s sc (row i (half h q)) n)) (fun n _ => exp2_nonneg _) (Finset.mem_univ n)))
    rw [exp2_eq] at hne ⊢
    exact exp_real hne

end Cert.Teacher

end
-- ==== Proof.Softmax.lean ====
/-
  A row's products with the prototypes over its sum of powers of two, against the row's probabilities applied to the
  prototypes: the same, whichever pass wrote the sum and the products.
-/
module

public import proofs.«01_k».proof.Proof.TRows

@[expose] public section

noncomputable section

namespace Cert.Softmax

open Idealize.ShloMosaic
open Cert.LogSumExp

variable {ι δ : Type} [Fintype ι] [Fintype δ]

/-- A row's exponentials, the largest logit taken out. -/
def expo (x : ι → EReal) (n : ι) : EReal := Ideal.exp (x n - Finset.univ.sup x)

/-- A row's weighted probabilities, applied to the prototypes. -/
def mix (x w : ι → EReal) (V : ι → δ → EReal) (d : δ) : EReal := ∑ n, expo x n * Ideal.div 1 (∑ k, expo x k) * w n * V n d

/-- Without the division. -/
def raw (x w : ι → EReal) (V : ι → δ → EReal) (d : δ) : EReal := ∑ n, expo x n * w n * V n d

theorem expo_real (x : ι → EReal) (n : ι) : ∃ a : ℝ, expo x n = (a : EReal) := Teacher.exp_real (Teacher.exp_ne_top (Teacher.sub_sup_ne_top x n))
theorem expo_nonneg (x : ι → EReal) (n : ι) : 0 ≤ expo x n := exp_nonneg _

theorem sum_real (f : ι → EReal) (h : ∀ n, ∃ a : ℝ, f n = (a : EReal)) : ∃ a : ℝ, ∑ n, f n = (a : EReal) := by
  choose a ha using h
  refine ⟨∑ n, a n, ?_⟩
  rw [Finset.sum_congr rfl fun n _ => ha n]
  exact (map_sum (⟨⟨fun r : ℝ => (r : EReal), EReal.coe_zero⟩, EReal.coe_add⟩ : ℝ →+ EReal) a Finset.univ).symm

/-- The product of a row of codes with the row's products, over the row's sum of powers of two. -/
theorem ratio {x w v : ι → EReal} {V : ι → δ → EReal} {ρ : ℝ} (hρ : 0 < ρ) {T : EReal} {G : δ → EReal} {f : ι → EReal}
    (hf : ∀ n, f n = (ρ : EReal) * expo x n) (hv : ∀ n, v n = w n * ((25 * L⁻¹ : ℝ) : EReal)) (hT : T = ∑ n, f n) (hG : ∀ d, G d = ∑ n, f n * v n * V n d)
    (C : δ → EReal) (σ : EReal) :
    (∑ d, C d * G d) * σ * Ideal.div ((2 / 5 * L : ℝ) : EReal) T = (∑ d, C d * mix x w V d) * σ * ((10 : ℝ) : EReal) := by
  have hL : 0 < L := L_pos
  obtain ⟨Z, hZ⟩ := sum_real (expo x) (expo_real x)
  have hZ0 : 0 ≤ Z := EReal.coe_nonneg.1 (by rw [← hZ]; exact Finset.sum_nonneg fun n _ => expo_nonneg x n)
  by_cases h0 : Z = 0
  · have he : ∀ n, expo x n = 0 := fun n => le_antisymm (by
      rw [show (0 : EReal) = ∑ n, expo x n by rw [hZ, h0]; rfl]
      exact Finset.single_le_sum (f := expo x) (fun n _ => expo_nonneg x n) (Finset.mem_univ n)) (expo_nonneg x n)
    have hG0 : ∀ d, G d = 0 := fun d => by
      rw [hG]
      exact Finset.sum_eq_zero fun n _ => by rw [hf, he, mul_zero, zero_mul, zero_mul]
    have hM0 : ∀ d, mix x w V d = 0 := fun d => Finset.sum_eq_zero fun n _ => by rw [he, zero_mul, zero_mul, zero_mul]
    simp only [hG0, hM0, mul_zero, Finset.sum_const_zero, zero_mul]
  · have hZp : 0 < Z := lt_of_le_of_ne hZ0 (Ne.symm h0)
    have hTZ : T = ((ρ * Z : ℝ) : EReal) := by
      rw [hT, EReal.coe_mul, ← hZ, mul_sum _ hρ.le]
      exact Finset.sum_congr rfl fun n _ => hf n
    have hκ : 0 ≤ ρ * (25 * L⁻¹) := by positivity
    have hGr : ∀ d, G d = ((ρ * (25 * L⁻¹) : ℝ) : EReal) * raw x w V d := fun d => by
      rw [hG, raw, mul_sum _ hκ]
      refine Finset.sum_congr rfl fun n _ => ?_
      rw [hf, hv, EReal.coe_mul ρ]
      ac_rfl
    have hMr : ∀ d, mix x w V d = ((1 / Z : ℝ) : EReal) * raw x w V d := fun d => by
      rw [mix, raw, mul_sum _ (by positivity)]
      refine Finset.sum_congr rfl fun n _ => ?_
      rw [hZ, Ideal.div_coe h0, one_mul]
      ac_rfl
    have e1 : ∑ d, C d * G d = ((ρ * (25 * L⁻¹) : ℝ) : EReal) * ∑ d, C d * raw x w V d := by
      rw [mul_sum _ hκ]
      exact Finset.sum_congr rfl fun d _ => by rw [hGr]; ac_rfl
    have e2 : ∑ d, C d * mix x w V d = ((1 / Z : ℝ) : EReal) * ∑ d, C d * raw x w V d := by
      rw [mul_sum _ (by positivity)]
      exact Finset.sum_congr rfl fun d _ => by rw [hMr]; ac_rfl
    rw [e1, e2, hTZ, Ideal.div_coe (by positivity), ← EReal.coe_mul]
    generalize ∑ d, C d * raw x w V d = B
    rw [show ((ρ * (25 * L⁻¹) : ℝ) : EReal) * B * σ * ((2 / 5 * L * (1 / (ρ * Z)) : ℝ) : EReal)
        = B * σ * (((ρ * (25 * L⁻¹) : ℝ) : EReal) * ((2 / 5 * L * (1 / (ρ * Z)) : ℝ) : EReal)) by ac_rfl,
      show ((1 / Z : ℝ) : EReal) * B * σ * ((10 : ℝ) : EReal) = B * σ * (((1 / Z : ℝ) : EReal) * ((10 : ℝ) : EReal)) by ac_rfl,
      ← EReal.coe_mul, ← EReal.coe_mul]
    congr 2
    field_simp
    norm_num

/-- The powers of two with the largest exponent taken out are the exponentials with the largest logit taken out. -/
theorem shifted_expo (y : ι → EReal) (n : ι) : Ideal.exp2 (y n - Finset.univ.sup y) = ((1 : ℝ) : EReal) * expo (fun k => y k * (L : EReal)) n := by
  rw [exp2_eq, sub_mul_L, sup_mul_L, EReal.coe_one, one_mul]
  rfl

/-- The exponentials are a multiple of them, when their sum is a positive real. -/
theorem exp_expo (x : ι → EReal) (h0 : 0 < ∑ n, Ideal.exp (x n)) (h1 : ∑ n, Ideal.exp (x n) ≠ ⊤) :
    ∃ ρ : ℝ, 0 < ρ ∧ ∀ n, Ideal.exp (x n) = (ρ : EReal) * expo x n := by
  unfold expo
  have htop : ∀ n, x n ≠ ⊤ := fun n hn => h1 (top_unique (by
    have := Finset.single_le_sum (f := fun n => Ideal.exp (x n)) (fun n _ => exp_nonneg (x n)) (Finset.mem_univ n)
    rwa [show Ideal.exp (x n) = ⊤ by rw [hn]; rfl] at this))
  have hbot : Finset.univ.sup x ≠ ⊥ := fun hb => h0.ne' (Finset.sum_eq_zero fun n _ => by
    rw [show x n = ⊥ from bot_unique (hb ▸ Finset.le_sup (Finset.mem_univ n))]; rfl)
  have hm : Finset.univ.sup x ≠ ⊤ := by
    rw [← lt_top_iff_ne_top, Finset.sup_lt_iff (by exact bot_lt_top)]
    exact fun n _ => lt_top_iff_ne_top.2 (htop n)
  generalize Finset.univ.sup x = m at hbot hm
  lift m to ℝ using ⟨hm, hbot⟩
  exact ⟨Real.exp m, Real.exp_pos m, fun n => exp_eq_mul m (x n)⟩

/-- The powers of two as they are, a multiple of them, when their sum is a positive real. -/
theorem plain_expo (y : ι → EReal) (h0 : 0 < ∑ n, Ideal.exp2 (y n)) (h1 : ∑ n, Ideal.exp2 (y n) ≠ ⊤) :
    ∃ ρ : ℝ, 0 < ρ ∧ ∀ n, Ideal.exp2 (y n) = (ρ : EReal) * expo (fun k => y k * (L : EReal)) n := by
  simp only [exp2_eq] at h0 h1 ⊢
  exact exp_expo (fun k => y k * (L : EReal)) h0 h1

end Cert.Softmax

namespace Cert.Teacher

open Idealize.ShloMosaic hiding ix1 ix2 ix3
open Idealize.ShloMosaic.ValueIdx (ix1 ix2 ix3)
open Cert.LogSumExp

variable (s : St Ideal) {sc : Fin 3840 → EReal} (hsc : ∀ r l, s.rep (ix2 r l) = sc r)

include hsc in
/-- A row of the body's products with a row of codes, over the body's sum of the row. -/
theorem ratio {t : Ideal .f32 → Ideal .f32} (ht : ∀ x, t x = x) {w : Fin 20480 → EReal} (hw : ∀ n, ∃ r : ℝ, w n = (r : EReal))
    (hv : ∀ n, s.ws (ix2 0 n) = w n * ((25 * L⁻¹ : ℝ) : EReal)) (C : Fin 256 → EReal) (σ : EReal) (r : Fin 3840) :
    (∑ d, C d * gOut t s (ix2 r d)) * σ * Ideal.div ((2 / 5 * L : ℝ) : EReal) (outAt s (ix3 ⟨r.val / 128, by omega⟩ 0 ⟨r.val % 128, by omega⟩))
      = (∑ d, C d * Softmax.mix (fun n => Y s sc r n * (L : EReal)) w (fun n d => (s.protos (ix2 n d) : EReal)) d) * σ * ((10 : ℝ) : EReal) := by
  have hws : ∀ n, ∃ a : ℝ, s.ws (ix2 0 n) = (a : EReal) := fun n => by
    rw [hv]; exact real_mul (hw n) ⟨_, rfl⟩
  have hb := block_sums s ⟨r.val / 256, by omega⟩ hsc ht hws ⟨r.val % 256 / 128, by omega⟩ ⟨r.val % 128, by omega⟩
  have hr : row ⟨r.val / 256, by omega⟩ (half ⟨r.val % 256 / 128, by omega⟩ ⟨r.val % 128, by omega⟩) = r := Fin.ext (by
    show 256 * (r.val / 256) + (128 * (r.val % 256 / 128) + r.val % 128) = r.val
    omega)
  have ho : outAt s (ix3 ⟨r.val / 128, by omega⟩ 0 ⟨r.val % 128, by omega⟩)
      = Student.sumOf (accOf s ⟨r.val / 256, by omega⟩) ⟨r.val % 256 / 128, by omega⟩ (ix2 0 ⟨r.val % 128, by omega⟩) := by
    unfold outAt
    exact sumOf_congr s _ (by show r.val / 128 / 2 = r.val / 256; omega) (by show r.val / 128 % 2 = r.val % 256 / 128; omega)
  have hg : ∀ d, gOut t s (ix2 r d) = gOf t s ⟨r.val / 256, by omega⟩ (ix2 (half ⟨r.val % 256 / 128, by omega⟩ ⟨r.val % 128, by omega⟩) d) := fun d => by
    have e : (⟨r.val % 256, Nat.mod_lt _ (by decide)⟩ : Fin 256) = half ⟨r.val % 256 / 128, by omega⟩ ⟨r.val % 128, by omega⟩ := Fin.ext (by
      show r.val % 256 = 128 * (r.val % 256 / 128) + r.val % 128
      omega)
    rw [← e]
    rfl
  rw [hr] at hb
  rw [ho]
  simp only [hg]
  rcases hb with ⟨hb, hf⟩ | hb
  · obtain ⟨ρ, hρ, he⟩ := Softmax.plain_expo (Y s sc r) (by rw [← hb.sum]; exact hf.pos) (by rw [← hb.sum]; exact hf.ne_top)
    exact Softmax.ratio hρ he hv hb.sum hb.prods C σ
  · exact Softmax.ratio one_pos (Softmax.shifted_expo (Y s sc r)) hv hb.sum hb.prods C σ

end Cert.Teacher

end
-- ==== Proof.Reference.lean ====
/-
  The reference's two result arrays over the extended reals: the losses of the rows and their means. The student's logarithms are
  those of the sums of exponentials of a row's logits, the maximum taken out; the teacher's probabilities are applied to the
  prototypes, weighted by their norms.
-/
module

public import proofs.«01_k».proof.Proof.Rows
public import proofs.«01_k».proof.Proof.Losses
public import proofs.«01_k».proof.Proof.Softmax
public import proofs.«01_k».proof.Proof.Gen.ReferenceIdeal.Value
public import Idealize.ShloMosaic.PureOps.IdealRules

@[expose] public section

noncomputable section

namespace Cert.ReferenceIdeal.Row

open Idealize.ShloMosaic hiding ix1 ix2 ix3 ix4
open Idealize.ShloMosaic.ValueIdx (ix1 ix2 ix3 ix4)
open Cert.ReferenceIdeal Cert.LogSumExp
open Facts₀ Facts

variable [Facts]

/-- The reference's logit of row `r` and column `n`. -/
def logit (C : FVec Ideal S7680x256 .fp8e4m3) (V : FVec Ideal S20480x256 .fp8e4m3) (sc : FVec Ideal S7680x1 .f32) (w : FVec Ideal S1x20480 .f32)
    (r : Fin 7680) (n : Fin 20480) : EReal :=
  Cert.Student.dot C V r n * sc (ix2 r 0) * w (ix2 0 n) * ((10 : ℝ) : EReal)

/-- The whole array of logits, as the payload computes it. -/
def logits (C : FVec Ideal S7680x256 .fp8e4m3) (V : FVec Ideal S20480x256 .fp8e4m3) (sc : FVec Ideal S7680x1 .f32) (w : FVec Ideal S1x20480 .f32) :
    FVec Ideal S7680x20480 .f32 :=
  divf (mulf (mulf (matmul dot_S7680x256_S20480x256_S7680x20480_1_1_0_0_n_n none (shapeCast S7680x256 C shapeCasts_S7680x256_S7680x256 : FVec Ideal S7680x256 .fp8e4m3) V (constant S7680x20480 .f32 0x00000000#32))
    (broadcastTo S7680x20480 (shapeCast S7680x1 sc shapeCasts_S7680x1_S7680x1) broadcasts_S7680x1_S7680x20480))
    (broadcastTo S7680x20480 (shapeCast S1x20480 w shapeCasts_S1x20480_S1x20480) broadcasts_S1x20480_S7680x20480))
    (broadcast S7680x20480 (Named.named κ "student_temp" 0x3DCCCCCD#32))

theorem logits_apply (C : FVec Ideal S7680x256 .fp8e4m3) (V : FVec Ideal S20480x256 .fp8e4m3) (sc : FVec Ideal S7680x1 .f32) (w : FVec Ideal S1x20480 .f32)
    (r : Fin 7680) (n : Fin 20480) : logits C V sc w (ix2 r n) = logit C V sc w r n := by
  unfold logits logit
  rw [shapeCast_self, shapeCast_self, shapeCast_self]
  show Ideal.div (FloatOps.matmul (DotDims.transposedRhs 7680 256 20480) none C V (constant S7680x20480 .f32 0x00000000#32) (ix2 r n)
      * broadcastTo S7680x20480 sc broadcasts_S7680x1_S7680x20480 (ix2 r n) * broadcastTo S7680x20480 w broadcasts_S1x20480_S7680x20480 (ix2 r n))
    (Named.named κ "student_temp" 0x3DCCCCCD#32 : Ideal .f32) = _
  rw [IdealRules.named_const.ideal_named_scalar (φ := .f32) κ "student_temp" (0x3DCCCCCD#32) ((1 / 10 : ℝ) : EReal) rfl, Ideal.div_coe (by norm_num),
    Ideal.matmul_transposedRhs_apply,
    show (constant S7680x20480 .f32 0x00000000#32 : FVec Ideal S7680x20480 .f32) (ix2 r n) = 0 from Ideal.ofBits_zero_f32, zero_add,
    broadcastTo_apply (k := ix2 r 0) (hk := fun a => by
      match a with
      | ⟨0, _⟩ => rfl
      | ⟨1, _⟩ => rfl),
    broadcastTo_apply (k := ix2 0 n) (hk := fun a => by
      match a with
      | ⟨0, _⟩ => rfl
      | ⟨1, _⟩ => rfl)]
  rw [show (1 / (1 / 10) : ℝ) = 10 by norm_num]
  rfl

/-- The row maxima and the row sums of an array. -/
def maxes (x : FVec Ideal S7680x20480 .f32) : FVec Ideal S7680x1 .f32 :=
  shapeCast S7680x1 (multiReduction .maximumf [1] S7680 x 0xFF800000#32 reduces_S7680x20480_S7680 (.inl rfl) rfl) shapeCasts_S7680_S7680x1
def sums (x : FVec Ideal S7680x20480 .f32) : FVec Ideal S7680x1 .f32 :=
  shapeCast S7680x1 (multiReduction .add [1] S7680 x 0x00000000#32 reduces_S7680x20480_S7680 (.inl rfl) rfl) shapeCasts_S7680_S7680x1

theorem max_apply (x : FVec Ideal S7680x20480 .f32) (r : Fin 7680) : maxes x (ix2 r 0) = Finset.univ.sup fun n : Fin 20480 => x (ix2 r n) := by
  unfold maxes
  have e : (Ideal.ofBits .f32 0xFF800000#32 : EReal) = ⊥ := by simp [Ideal.ofBits, Ideal.ieee]
  rw [shapeCast_apply (k := ix1 r) (hk := by
    rw [Shape.rowMajor_val_one (d := ![7680]), Shape.rowMajor_val_two (d := ![7680, 1])]; simp [ix1, ix2])]
  refine (Ideal.multiReduction_maximumf_single (a := 1) _ _ reduces_S7680x20480_S7680 (.inl rfl) rfl (ix1 r)).trans ?_
  show Finset.univ.fold max (Ideal.ofBits .f32 0xFF800000#32) _ = _
  rw [e]
  show Finset.univ.sup _ = _
  refine Finset.sup_congr rfl fun n _ => congrArg x (funext fun a => Fin.ext ?_)
  match a with
  | ⟨0, _⟩ => rfl
  | ⟨1, _⟩ => rfl

theorem sum_apply (x : FVec Ideal S7680x20480 .f32) (r : Fin 7680) : sums x (ix2 r 0) = ∑ n : Fin 20480, x (ix2 r n) := by
  unfold sums
  rw [shapeCast_apply (k := ix1 r) (hk := by
    rw [Shape.rowMajor_val_one (d := ![7680]), Shape.rowMajor_val_two (d := ![7680, 1])]; simp [ix1, ix2])]
  refine (Ideal.multiReduction_add_single (a := 1) _ _ reduces_S7680x20480_S7680 (.inl rfl) rfl (ix1 r)).trans ?_
  refine Finset.sum_congr rfl fun n _ => congrArg x (funext fun a => Fin.ext ?_)
  match a with
  | ⟨0, _⟩ => rfl
  | ⟨1, _⟩ => rfl

theorem addf_at {S : Shape} (a b : FVec Ideal S .f32) (i : S.Idx) : addf a b i = (a i + b i : EReal) := rfl
theorem log_at {S : Shape} (a : FVec Ideal S .f32) (i : S.Idx) : log a i = Ideal.log (a i) := rfl
theorem expSub_at {S : Shape} (a b : FVec Ideal S .f32) (i : S.Idx) : exp (subf a b) i = Ideal.exp (a i - b i) := rfl

/-- A row's maximum taken out, as the payload does. -/
def tail (x : FVec Ideal S7680x20480 .f32) : FVec Ideal S7680x1 .f32 :=
  addf (maxes x) (log (sums (exp (subf x (broadcastTo S7680x20480 (maxes x) broadcasts_S7680x1_S7680x20480)))))

theorem tail_apply (x : FVec Ideal S7680x20480 .f32) (r : Fin 7680) : tail x (ix2 r 0) = lse fun n => x (ix2 r n) := by
  have hm : maxes x (ix2 r 0) = Finset.univ.sup fun n : Fin 20480 => x (ix2 r n) := max_apply x r
  unfold tail
  rw [addf_at, log_at, sum_apply, hm]
  unfold lse
  refine congrArg (fun a : EReal => _ + Ideal.log a) (Finset.sum_congr rfl fun n _ => ?_)
  rw [expSub_at]
  rw [broadcastTo_apply (k := ix2 r 0) (hk := fun a => by
      match a with
      | ⟨0, _⟩ => rfl
      | ⟨1, _⟩ => rfl), hm]

theorem pay_eq (C : FVec Ideal S7680x256 .fp8e4m3) (V : FVec Ideal S20480x256 .fp8e4m3) (sc : FVec Ideal S7680x1 .f32) (w : FVec Ideal S1x20480 .f32) :
    Gen.k0_pay8 (F := Ideal) (Gen.k0_pay7 C) V sc w = tail (logits C V sc w) := rfl

/-- The student's logarithm of row `r`. -/
theorem pay_apply (C : FVec Ideal S7680x256 .fp8e4m3) (V : FVec Ideal S20480x256 .fp8e4m3) (sc : FVec Ideal S7680x1 .f32) (w : FVec Ideal S1x20480 .f32)
    (r : Fin 7680) : Gen.k0_pay8 (F := Ideal) (Gen.k0_pay7 C) V sc w (ix2 r 0) = lse (logit C V sc w r) := by
  rw [pay_eq, tail_apply]
  simp only [logits_apply]

/-! ### The teacher's probabilities -/

/-- The teacher's logit of row `r` and column `n`. -/
def tlogit (C : FVec Ideal S3840x256 .fp8e4m3) (V : FVec Ideal S20480x256 .fp8e4m3) (sc : FVec Ideal S3840x1 .f32) (w cen : FVec Ideal S1x20480 .f32)
    (r : Fin 3840) (n : Fin 20480) : EReal :=
  (Cert.Teacher.dot C V r n * sc (ix2 r 0) * w (ix2 0 n) - cen (ix2 0 n)) * ((25 : ℝ) : EReal)

/-- The whole array of them, as the payload computes it. -/
def tlogits (C : FVec Ideal S3840x256 .fp8e4m3) (V : FVec Ideal S20480x256 .fp8e4m3) (sc : FVec Ideal S3840x1 .f32) (w cen : FVec Ideal S1x20480 .f32) :
    FVec Ideal S3840x20480 .f32 :=
  divf (subf (mulf (mulf (matmul dot_S3840x256_S20480x256_S3840x20480_1_1_0_0_n_n none (shapeCast S3840x256 C shapeCasts_S3840x256_S3840x256 : FVec Ideal S3840x256 .fp8e4m3) V (constant S3840x20480 .f32 0x00000000#32))
    (broadcastTo S3840x20480 (shapeCast S3840x1 sc shapeCasts_S3840x1_S3840x1) broadcasts_S3840x1_S3840x20480))
    (broadcastTo S3840x20480 (shapeCast S1x20480 w shapeCasts_S1x20480_S1x20480) broadcasts_S1x20480_S3840x20480))
    (broadcastTo S3840x20480 (shapeCast S1x20480 cen shapeCasts_S1x20480_S1x20480) broadcasts_S1x20480_S3840x20480))
    (broadcast S3840x20480 (Named.named κ "teacher_temp" 0x3D23D70A#32))

theorem col_bcast (x : FVec Ideal S3840x1 .f32) (r : Fin 3840) (n : Fin 20480) : broadcastTo S3840x20480 x broadcasts_S3840x1_S3840x20480 (ix2 r n) = x (ix2 r 0) :=
  broadcastTo_apply _ _ _ _ fun a => by
    match a with
    | ⟨0, _⟩ => rfl
    | ⟨1, _⟩ => rfl
theorem row_bcast (x : FVec Ideal S1x20480 .f32) (r : Fin 3840) (n : Fin 20480) : broadcastTo S3840x20480 x broadcasts_S1x20480_S3840x20480 (ix2 r n) = x (ix2 0 n) :=
  broadcastTo_apply _ _ _ _ fun a => by
    match a with
    | ⟨0, _⟩ => rfl
    | ⟨1, _⟩ => rfl

theorem tlogits_apply (C : FVec Ideal S3840x256 .fp8e4m3) (V : FVec Ideal S20480x256 .fp8e4m3) (sc : FVec Ideal S3840x1 .f32) (w cen : FVec Ideal S1x20480 .f32)
    (r : Fin 3840) (n : Fin 20480) : tlogits C V sc w cen (ix2 r n) = tlogit C V sc w cen r n := by
  unfold tlogits tlogit
  rw [shapeCast_self, shapeCast_self, shapeCast_self, shapeCast_self]
  show Ideal.div (FloatOps.matmul (DotDims.transposedRhs 3840 256 20480) none C V (constant S3840x20480 .f32 0x00000000#32) (ix2 r n)
      * broadcastTo S3840x20480 sc broadcasts_S3840x1_S3840x20480 (ix2 r n) * broadcastTo S3840x20480 w broadcasts_S1x20480_S3840x20480 (ix2 r n)
      - broadcastTo S3840x20480 cen broadcasts_S1x20480_S3840x20480 (ix2 r n))
    (Named.named κ "teacher_temp" 0x3D23D70A#32 : Ideal .f32) = _
  rw [IdealRules.named_const.ideal_named_scalar (φ := .f32) κ "teacher_temp" (0x3D23D70A#32) ((1 / 25 : ℝ) : EReal) rfl, Ideal.div_coe (by norm_num),
    Ideal.matmul_transposedRhs_apply,
    show (constant S3840x20480 .f32 0x00000000#32 : FVec Ideal S3840x20480 .f32) (ix2 r n) = 0 from Ideal.ofBits_zero_f32, zero_add,
    col_bcast, row_bcast, row_bcast]
  rw [show (1 / (1 / 25) : ℝ) = 25 by norm_num]
  rfl

/-- The row maxima and the row sums. -/
def tmaxes (x : FVec Ideal S3840x20480 .f32) : FVec Ideal S3840x1 .f32 :=
  shapeCast S3840x1 (multiReduction .maximumf [1] S3840 x 0xFF800000#32 reduces_S3840x20480_S3840 (.inl rfl) rfl) shapeCasts_S3840_S3840x1
def tsums (x : FVec Ideal S3840x20480 .f32) : FVec Ideal S3840x1 .f32 :=
  shapeCast S3840x1 (multiReduction .add [1] S3840 x 0x00000000#32 reduces_S3840x20480_S3840 (.inl rfl) rfl) shapeCasts_S3840_S3840x1

theorem tmax_apply (x : FVec Ideal S3840x20480 .f32) (r : Fin 3840) : tmaxes x (ix2 r 0) = Finset.univ.sup fun n : Fin 20480 => x (ix2 r n) := by
  unfold tmaxes
  have e : (Ideal.ofBits .f32 0xFF800000#32 : EReal) = ⊥ := by simp [Ideal.ofBits, Ideal.ieee]
  rw [shapeCast_apply (k := ix1 r) (hk := by
    rw [Shape.rowMajor_val_one (d := ![3840]), Shape.rowMajor_val_two (d := ![3840, 1])]; simp [ix1, ix2])]
  refine (Ideal.multiReduction_maximumf_single (a := 1) _ _ reduces_S3840x20480_S3840 (.inl rfl) rfl (ix1 r)).trans ?_
  show Finset.univ.fold max (Ideal.ofBits .f32 0xFF800000#32) _ = _
  rw [e]
  show Finset.univ.sup _ = _
  refine Finset.sup_congr rfl fun n _ => congrArg x (funext fun a => Fin.ext ?_)
  match a with
  | ⟨0, _⟩ => rfl
  | ⟨1, _⟩ => rfl

theorem tsum_apply (x : FVec Ideal S3840x20480 .f32) (r : Fin 3840) : tsums x (ix2 r 0) = ∑ n : Fin 20480, x (ix2 r n) := by
  unfold tsums
  rw [shapeCast_apply (k := ix1 r) (hk := by
    rw [Shape.rowMajor_val_one (d := ![3840]), Shape.rowMajor_val_two (d := ![3840, 1])]; simp [ix1, ix2])]
  refine (Ideal.multiReduction_add_single (a := 1) _ _ reduces_S3840x20480_S3840 (.inl rfl) rfl (ix1 r)).trans ?_
  refine Finset.sum_congr rfl fun n _ => congrArg x (funext fun a => Fin.ext ?_)
  match a with
  | ⟨0, _⟩ => rfl
  | ⟨1, _⟩ => rfl

/-- The exponentials, the row maxima taken out, and the probabilities. -/
def expos (x : FVec Ideal S3840x20480 .f32) : FVec Ideal S3840x20480 .f32 := exp (subf x (broadcastTo S3840x20480 (tmaxes x) broadcasts_S3840x1_S3840x20480))
def probs (x : FVec Ideal S3840x20480 .f32) : FVec Ideal S3840x20480 .f32 :=
  mulf (expos x) (broadcastTo S3840x20480 (divf (broadcast S3840x1 (Scalar.ofBits .f32 0x3F800000#32)) (tsums (expos x))) broadcasts_S3840x1_S3840x20480)

theorem expos_apply (x : FVec Ideal S3840x20480 .f32) (r : Fin 3840) (n : Fin 20480) : expos x (ix2 r n) = Softmax.expo (fun k => x (ix2 r k)) n := by
  unfold expos Softmax.expo
  rw [expSub_at, col_bcast, tmax_apply]

theorem probs_apply (x : FVec Ideal S3840x20480 .f32) (r : Fin 3840) (n : Fin 20480) :
    probs x (ix2 r n) = Softmax.expo (fun k => x (ix2 r k)) n * Ideal.div 1 (∑ j, Softmax.expo (fun k => x (ix2 r k)) j) := by
  unfold probs
  rw [Final.mulf_at, col_bcast, expos_apply, Final.divf_at, tsum_apply]
  rw [show (broadcast S3840x1 (Scalar.ofBits .f32 0x3F800000#32) : FVec Ideal S3840x1 .f32) (ix2 r 0) = 1 from Ideal.ofBits_one_f32]
  simp only [expos_apply]

theorem mix_eq (C : FVec Ideal S3840x256 .fp8e4m3) (V : FVec Ideal S20480x256 .fp8e4m3) (sc : FVec Ideal S3840x1 .f32) (w cen : FVec Ideal S1x20480 .f32) :
    Gen.k0_pay6 (F := Ideal) C V sc w cen w V = matmul dot_S3840x20480_S20480x256_S3840x256_1_0_0_1_n_n none
      (mulf (probs (tlogits C V sc w cen)) (broadcastTo S3840x20480 (shapeCast S1x20480 w shapeCasts_S1x20480_S1x20480) broadcasts_S1x20480_S3840x20480))
      (extf .f32 V bitsLt_fp8e4m3_f32 : FVec Ideal S20480x256 .f32) (constant S3840x256 .f32 0x00000000#32) := rfl

/-- The teacher's row `r` of products with the prototypes. -/
theorem mix_apply (C : FVec Ideal S3840x256 .fp8e4m3) (V : FVec Ideal S20480x256 .fp8e4m3) (sc : FVec Ideal S3840x1 .f32) (w cen : FVec Ideal S1x20480 .f32)
    (r : Fin 3840) (d : Fin 256) : Gen.k0_pay6 (F := Ideal) C V sc w cen w V (ix2 r d)
      = Softmax.mix (tlogit C V sc w cen r) (fun n => w (ix2 0 n)) (fun n d => (V (ix2 n d) : EReal)) d := by
  rw [mix_eq, shapeCast_self]
  show FloatOps.matmul (DotDims.plain 3840 20480 256) none _ _ _ _ = _
  rw [Ideal.matmul_plain_apply]
  rw [show (constant S3840x256 .f32 0x00000000#32 : FVec Ideal S3840x256 .f32) (ix2 r d) = 0 from Ideal.ofBits_zero_f32, zero_add]
  unfold Softmax.mix
  refine Finset.sum_congr rfl fun n _ => ?_
  rw [Final.mulf_at, probs_apply, row_bcast]
  simp only [tlogits_apply]
  rfl

/-! ### A view against a crop -/

/-- The loss of row `p` of the view `v` against the crop `i`: the student's logarithm of sums minus the product of the student's
    row and the teacher's; zero for a view against its own crop. -/
def cell (S : Fin 7680 → EReal) (C : FVec Ideal S7680x256 .fp8e4m3) (M : Fin 3840 → Fin 256 → EReal) (sc : Fin 7680 → EReal) (i : Fin 2) (v : Fin 4) (p : Fin 1920) : EReal :=
  if i.val = v.val then 0 else
    S (Final.srow v p) - (∑ d : Fin 256, C (ix2 (Final.srow v p) d) * M (Final.trow i p) d) * sc (Final.srow v p) * ((10 : ℝ) : EReal)

/-- The losses of the rows, laid out, and their means over the rows. -/
def losses (S : Fin 7680 → EReal) (C : FVec Ideal S7680x256 .fp8e4m3) (M : Fin 3840 → Fin 256 → EReal) (sc : Fin 7680 → EReal) : FVec Ideal S2x4x5x384 .f32 := fun y =>
  cell S C M sc (y 0) (y 1) ⟨384 * (y 2).val + (y 3).val, by
    have h2 : (y 2).val < 5 := (y 2).isLt
    have h3 : (y 3).val < 384 := (y 3).isLt
    omega⟩
def pairs (S : Fin 7680 → EReal) (C : FVec Ideal S7680x256 .fp8e4m3) (M : Fin 3840 → Fin 256 → EReal) (sc : Fin 7680 → EReal) : FVec Ideal S2x4 .f32 := fun y =>
  Ideal.div (∑ p : Fin 1920, cell S C M sc (y 0) (y 1) p) (Ideal.ofBits .f32 0x44F00000#32)

/-- The losses of a view's rows against a crop's, from the whole logarithms, codes and products and the rows of the view's scales. -/
def column (o o' : ℕ) (h1 : S7680x1.Slices ![o, 0] S1920x1) (h2 : S7680x256.Slices ![o, 0] S1920x256) (h3 : S3840x256.Slices ![o', 0] S1920x256)
    (S : FVec Ideal S7680x1 .f32) (C : FVec Ideal S7680x256 .f32) (g : FVec Ideal S3840x256 .f32) (s : FVec Ideal S1920x1 .f32) : FVec Ideal S1920x1 .f32 :=
  subf (extractStridedSlice S1920x1 ![o, 0] S h1)
    (divf (mulf (shapeCast S1920x1 (multiReduction .add [1] S1920 (mulf (extractStridedSlice S1920x256 ![o, 0] C h2) (extractStridedSlice S1920x256 ![o', 0] g h3)) 0x00000000#32 reduces_S1920x256_S1920 (.inl rfl) rfl) shapeCasts_S1920_S1920x1)
      (shapeCast S1920x1 s shapeCasts_S1920x1_S1920x1))
      (broadcast S1920x1 (Named.named κ "student_temp" 0x3DCCCCCD#32)))

theorem named_temp : (Named.named κ "student_temp" 0x3DCCCCCD#32 : Ideal .f32) = ((1 / 10 : ℝ) : EReal) :=
  IdealRules.named_const.ideal_named_scalar (φ := .f32) κ "student_temp" _ _ rfl

theorem sliceCol {o : ℕ} (X : FVec Ideal S7680x1 .f32) (h) (p : Fin 1920) (r : Fin 7680) (hr : r.val = o + p.val) :
    extractStridedSlice S1920x1 ![o, 0] X h (ix2 p 0) = X (ix2 r 0) :=
  congrArg X (funext fun a => Fin.ext (by
    match a with
    | ⟨0, _⟩ => exact hr.symm
    | ⟨1, _⟩ => rfl))
theorem sliceRow {o : ℕ} (X : FVec Ideal S7680x256 .f32) (h) (p : Fin 1920) (d : Fin 256) (r : Fin 7680) (hr : r.val = o + p.val) :
    extractStridedSlice S1920x256 ![o, 0] X h (ix2 p d) = X (ix2 r d) :=
  congrArg X (funext fun a => Fin.ext (by
    match a with
    | ⟨0, _⟩ => exact hr.symm
    | ⟨1, _⟩ => exact Nat.zero_add _))
theorem sliceT {o : ℕ} (X : FVec Ideal S3840x256 .f32) (h) (p : Fin 1920) (d : Fin 256) (r : Fin 3840) (hr : r.val = o + p.val) :
    extractStridedSlice S1920x256 ![o, 0] X h (ix2 p d) = X (ix2 r d) :=
  congrArg X (funext fun a => Fin.ext (by
    match a with
    | ⟨0, _⟩ => exact hr.symm
    | ⟨1, _⟩ => exact Nat.zero_add _))

theorem column_apply (o o' : ℕ) (h1 : S7680x1.Slices ![o, 0] S1920x1) (h2 : S7680x256.Slices ![o, 0] S1920x256) (h3 : S3840x256.Slices ![o', 0] S1920x256)
    (S : FVec Ideal S7680x1 .f32) (C : FVec Ideal S7680x256 .f32) (g : FVec Ideal S3840x256 .f32) (s : FVec Ideal S1920x1 .f32) (p : Fin 1920) (r : Fin 7680) (hr : r.val = o + p.val)
    (r' : Fin 3840) (hr' : r'.val = o' + p.val) :
    column o o' h1 h2 h3 S C g s (ix2 p 0) = (S (ix2 r 0) - (∑ d : Fin 256, C (ix2 r d) * g (ix2 r' d)) * s (ix2 p 0) * ((10 : ℝ) : EReal) : EReal) := by
  unfold column
  rw [Final.subf_at, Final.divf_at, Final.mulf_at, shapeCast_self, sliceCol _ _ p r hr,
    shapeCast_apply (k := ix1 p) (hk := by
      rw [Shape.rowMajor_val_one (d := ![1920]), Shape.rowMajor_val_two (d := ![1920, 1])]; simp [ix1, ix2])]
  rw [show (broadcast S1920x1 (Named.named κ "student_temp" 0x3DCCCCCD#32) : FVec Ideal S1920x1 .f32) (ix2 p 0) = ((1 / 10 : ℝ) : EReal) from named_temp,
    Ideal.div_coe (by norm_num), show (1 / (1 / 10) : ℝ) = 10 by norm_num]
  refine congrArg (fun z : EReal => S (ix2 r 0) - z * s (ix2 p 0) * _) ?_
  refine (Ideal.multiReduction_add_single (a := 1) _ _ reduces_S1920x256_S1920 (.inl rfl) rfl (ix1 p)).trans ?_
  refine Finset.sum_congr rfl fun l _ => ?_
  have e : reduces_S1920x256_S1920.lift (ix1 p) l = ix2 (n1 := 256) p l := funext fun a => Fin.ext (by
    match a with
    | ⟨0, _⟩ => rfl
    | ⟨1, _⟩ => rfl)
  rw [e, Final.mulf_at]
  exact congrArg₂ (fun z z' : EReal => z * z') (sliceRow _ _ p l r hr) (sliceT _ _ p l r' hr')

/-! ### The pieces -/

/-- A view's losses as stored, and their mean. -/
def laid (col : FVec Ideal S1920x1 .f32) : FVec Ideal S1x1x5x384 .f32 :=
  shapeCast S1x1x5x384 (shapeCast S5x384 col shapeCasts_S1920x1_S5x384) shapeCasts_S5x384_S1x1x5x384
def mean (col : FVec Ideal S1920x1 .f32) : FVec Ideal S1x1 .f32 :=
  divf (shapeCast S1x1 (multiReduction .add [0] S1 col 0x00000000#32 reduces_S1920x1_S1 (.inl rfl) rfl) shapeCasts_S1_S1x1) (broadcast S1x1 (Scalar.ofBits .f32 0x44F00000#32))

theorem laid_apply (col : FVec Ideal S1920x1 .f32) (a : Fin 5) (b : Fin 384) : laid col (ix4 0 0 a b) = col (ix2 ⟨384 * a.val + b.val, by omega⟩ 0) := by
  unfold laid
  rw [shapeCast_apply (k := ix2 a b) (hk := by
    rw [Shape.rowMajor_val_two (d := ![5, 384]), Shape.rowMajor_val_four (d := ![1, 1, 5, 384])]; simp [ix4, ix2]),
    shapeCast_apply (k := ix2 (n0 := 1920) ⟨384 * a.val + b.val, by omega⟩ 0) (hk := by
      rw [Shape.rowMajor_val_two (d := ![1920, 1]), Shape.rowMajor_val_two (d := ![5, 384])]; simp [ix2]; omega)]

theorem mean_apply (col : FVec Ideal S1920x1 .f32) : mean col (ix2 0 0) = Ideal.div (∑ p : Fin 1920, col (ix2 p 0)) (Ideal.ofBits .f32 0x44F00000#32) := by
  unfold mean
  rw [Final.divf_at, shapeCast_apply (k := ix1 0) (hk := by
    rw [Shape.rowMajor_val_one (d := ![1]), Shape.rowMajor_val_two (d := ![1, 1])]; simp [ix1, ix2])]
  refine congrArg (fun z : EReal => Ideal.div z _) ?_
  refine (Ideal.multiReduction_add_single (a := 0) _ _ reduces_S1920x1_S1 (.inl rfl) rfl (ix1 0)).trans ?_
  refine Finset.sum_congr rfl fun l _ => congrArg col (funext fun a => Fin.ext ?_)
  match a with
  | ⟨0, _⟩ => rfl
  | ⟨1, _⟩ => rfl

variable (x0 : Vec Ideal S3840x256 .fp8e4m3) (x1 : Vec Ideal S3840x1 .f32) (x2 : Vec Ideal S7680x256 .fp8e4m3) (x3 : Vec Ideal S7680x1 .f32) (x4 : Vec Ideal S20480x256 .fp8e4m3)
  (x5 : Vec Ideal S1x20480 .f32) (x6 : Vec Ideal S1x20480 .f32)

/-- The student's logarithms, the teacher's products and the student's scales, by row. -/
def lseAt : Fin 7680 → EReal := fun r => lse (logit x2 x4 x3 x5 r)
def mixAt : Fin 3840 → Fin 256 → EReal := fun r => Softmax.mix (tlogit x0 x4 x1 x5 x6 r) (fun n => x5 (ix2 0 n)) (fun n d => (x4 (ix2 n d) : EReal))
def scaleAt : Fin 7680 → EReal := fun r => x3 (ix2 r 0)

/-- One loss. -/
abbrev cellAt (i : Fin 2) (v : Fin 4) (p : Fin 1920) : EReal := cell (lseAt x2 x3 x4 x5) x2 (mixAt x0 x1 x4 x5 x6) (scaleAt x3) i v p

/-- The zeros of a view against its own crop. -/
def zeroCol : FVec Ideal S1920x1 .f32 := broadcast S1920x1 (Scalar.ofBits .f32 0x00000000#32)

theorem zeroCol_cell (i : Fin 2) (v : Fin 4) (hiv : i.val = v.val) (p : Fin 1920) : zeroCol (ix2 p 0) = cellAt x0 x1 x2 x3 x4 x5 x6 i v p := by
  unfold cellAt cell
  rw [if_pos hiv]
  exact Ideal.ofBits_zero_f32

variable {x0 x1 x2 x3 x4 x5 x6} in
theorem laid_piece (i : Fin 2) (v : Fin 4) (inb) (col : FVec Ideal S1920x1 .f32) (h : ∀ p, col (ix2 p 0) = cellAt x0 x1 x2 x3 x4 x5 x6 i v p) (x : S1x1x5x384.Idx) :
    laid col x = losses (lseAt x2 x3 x4 x5) x2 (mixAt x0 x1 x4 x5 x6) (scaleAt x3) ((Rect.unit (s := S2x4x5x384) ![i.val, v.val, 0, 0] S1x1x5x384.size inb).emb x) := by
  obtain ⟨a, b, rfl⟩ : ∃ (a : Fin 5) (b : Fin 384), x = ix4 0 0 a b := ⟨x 2, x 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have e : (Rect.unit (s := S2x4x5x384) ![i.val, v.val, 0, 0] S1x1x5x384.size inb).emb (ix4 0 0 a b) = ix4 i v a b := funext fun c => Fin.ext (by
    match c with
    | ⟨0, _⟩ => rfl
    | ⟨1, _⟩ => rfl
    | ⟨2, _⟩ => show 0 + 1 * a.val = a.val; omega
    | ⟨3, _⟩ => show 0 + 1 * b.val = b.val; omega)
  rw [laid_apply, h]
  exact (congrArg (losses (lseAt x2 x3 x4 x5) x2 (mixAt x0 x1 x4 x5 x6) (scaleAt x3)) e).symm

variable {x0 x1 x2 x3 x4 x5 x6} in
theorem mean_piece (i : Fin 2) (v : Fin 4) (inb) (col : FVec Ideal S1920x1 .f32) (h : ∀ p, col (ix2 p 0) = cellAt x0 x1 x2 x3 x4 x5 x6 i v p) (x : S1x1.Idx) :
    mean col x = pairs (lseAt x2 x3 x4 x5) x2 (mixAt x0 x1 x4 x5 x6) (scaleAt x3) ((Rect.unit (s := S2x4) ![i.val, v.val] S1x1.size inb).emb x) := by
  obtain rfl : x = ix2 0 0 := funext fun a => by
    match a with
    | ⟨0, _⟩ => exact Subsingleton.elim (α := Fin 1) _ _
    | ⟨1, _⟩ => exact Subsingleton.elim (α := Fin 1) _ _
  have e : (Rect.unit (s := S2x4) ![i.val, v.val] S1x1.size inb).emb (ix2 0 0) = ix2 i v := funext fun c => Fin.ext (by
    match c with
    | ⟨0, _⟩ => rfl
    | ⟨1, _⟩ => rfl)
  rw [mean_apply]
  refine Eq.trans ?_ (congrArg (pairs (lseAt x2 x3 x4 x5) x2 (mixAt x0 x1 x4 x5 x6) (scaleAt x3)) e).symm
  exact congrArg (fun z : EReal => Ideal.div z _) (Finset.sum_congr rfl fun p _ => h p)

/-! ### The result arrays -/

/-- The products, the logarithms and the wide codes the body holds. -/
def mixed : FVec Ideal S3840x256 .f32 :=
  Gen.k0_pay6 (F := Ideal) (View.ld x0 Gen.r0_0) (View.ld x4 Gen.r0_1) (View.ld x1 Gen.r0_2) (View.ld x5 Gen.r0_3) (View.ld x6 Gen.r0_3) (View.ld x5 Gen.r0_3) (View.ld x4 Gen.r0_1)
def lseCol : FVec Ideal S7680x1 .f32 := Gen.k0_pay8 (F := Ideal) (Gen.k0_pay7 (View.ld x2 Gen.r0_4)) (View.ld x4 Gen.r0_1) (View.ld x3 Gen.r0_5) (View.ld x5 Gen.r0_3)
def wide : FVec Ideal S7680x256 .f32 := Gen.k0_pay9 (F := Ideal) (View.ld x2 Gen.r0_4)

theorem whole0 : View.ld x0 Gen.r0_0 = x0 := View.ld_unit_lit _ _ (by decide)
theorem whole1 : View.ld x1 Gen.r0_2 = x1 := View.ld_unit_lit _ _ (by decide)
theorem whole2 : View.ld x2 Gen.r0_4 = x2 := View.ld_unit_lit _ _ (by decide)
theorem whole3 : View.ld x3 Gen.r0_5 = x3 := View.ld_unit_lit _ _ (by decide)
theorem whole4 : View.ld x4 Gen.r0_1 = x4 := View.ld_unit_lit _ _ (by decide)
theorem whole5 : View.ld x5 Gen.r0_3 = x5 := View.ld_unit_lit _ _ (by decide)

theorem mixed_apply (r : Fin 3840) (d : Fin 256) : mixed x0 x1 x4 x5 x6 (ix2 r d) = mixAt x0 x1 x4 x5 x6 r d := by
  unfold mixed
  rw [whole0, whole4, whole1, whole5, whole5, mix_apply]
  rfl

theorem lseCol_apply (r : Fin 7680) : lseCol x2 x3 x4 x5 (ix2 r 0) = lseAt x2 x3 x4 x5 r := by
  unfold lseCol
  rw [pay_apply, whole2, whole4, whole3, whole5]
  rfl

theorem wide_apply (r : Fin 7680) (d : Fin 256) : wide x2 (ix2 r d) = (x2 (ix2 r d) : EReal) := by
  unfold wide Gen.k0_pay9
  rw [whole2, Final.extf_at, shapeCast_self]

theorem col_cell (i : Fin 2) (v : Fin 4) (hiv : i.val ≠ v.val) (h1 : S7680x1.Slices ![1920 * v.val, 0] S1920x1) (h2 : S7680x256.Slices ![1920 * v.val, 0] S1920x256)
    (h3 : S3840x256.Slices ![1920 * i.val, 0] S1920x256) (is) (p : Fin 1920) :
    column (1920 * v.val) (1920 * i.val) h1 h2 h3 (lseCol x2 x3 x4 x5) (wide x2) (mixed x0 x1 x4 x5 x6) (View.ld x3 (Rect.unit (s := S7680x1) ![1920 * v.val, 0] S1920x1.size is)) (ix2 p 0)
      = cellAt x0 x1 x2 x3 x4 x5 x6 i v p := by
  rw [column_apply _ _ _ _ _ _ _ _ _ p (Final.srow v p) rfl (Final.trow i p) rfl]
  unfold cellAt cell
  rw [if_neg hiv, lseCol_apply]
  have es : View.ld x3 (Rect.unit (s := S7680x1) ![1920 * v.val, 0] S1920x1.size is) (ix2 p 0) = scaleAt x3 (Final.srow v p) :=
    congrArg x3 (Student.emb2 _ (ix2 p 0) (Final.srow v p) 0 rfl rfl)
  rw [es]
  simp only [wide_apply, mixed_apply]

theorem out_losses : Gen.out0_8 (F := Ideal) x0 x1 x2 x3 x4 x5 x6 = losses (lseAt x2 x3 x4 x5) x2 (mixAt x0 x1 x4 x5 x6) (scaleAt x3) := by
  funext y
  unfold Gen.out0_8 Gen.k0_pay38 Gen.k0_pay37 Gen.k0_pay36 Gen.k0_pay35 Gen.k0_pay34
  refine View.canon_apply_of_pieces _ _ ?_ y (Gen.cover0_8 _ _ _ _ _ _ _ _ y)
  intro q hq
  simp only [List.mem_cons, List.not_mem_nil, or_false] at hq
  rcases hq with rfl | rfl | rfl | rfl | rfl | rfl | rfl | rfl
  · exact laid_piece 1 3 (by decide) (column 5760 1920 (by decide) (by decide) (by decide) (lseCol x2 x3 x4 x5) (wide x2) (mixed x0 x1 x4 x5 x6) _) (col_cell x0 x1 x2 x3 x4 x5 x6 1 3 (by decide) (by decide) (by decide) (by decide) _)
  · exact laid_piece 1 2 (by decide) (column 3840 1920 (by decide) (by decide) (by decide) (lseCol x2 x3 x4 x5) (wide x2) (mixed x0 x1 x4 x5 x6) _) (col_cell x0 x1 x2 x3 x4 x5 x6 1 2 (by decide) (by decide) (by decide) (by decide) _)
  · exact laid_piece 1 1 (by decide) zeroCol (zeroCol_cell x0 x1 x2 x3 x4 x5 x6 1 1 rfl)
  · exact laid_piece 1 0 (by decide) (column 0 1920 (by decide) (by decide) (by decide) (lseCol x2 x3 x4 x5) (wide x2) (mixed x0 x1 x4 x5 x6) _) (col_cell x0 x1 x2 x3 x4 x5 x6 1 0 (by decide) (by decide) (by decide) (by decide) _)
  · exact laid_piece 0 3 (by decide) (column 5760 0 (by decide) (by decide) (by decide) (lseCol x2 x3 x4 x5) (wide x2) (mixed x0 x1 x4 x5 x6) _) (col_cell x0 x1 x2 x3 x4 x5 x6 0 3 (by decide) (by decide) (by decide) (by decide) _)
  · exact laid_piece 0 2 (by decide) (column 3840 0 (by decide) (by decide) (by decide) (lseCol x2 x3 x4 x5) (wide x2) (mixed x0 x1 x4 x5 x6) _) (col_cell x0 x1 x2 x3 x4 x5 x6 0 2 (by decide) (by decide) (by decide) (by decide) _)
  · exact laid_piece 0 1 (by decide) (column 1920 0 (by decide) (by decide) (by decide) (lseCol x2 x3 x4 x5) (wide x2) (mixed x0 x1 x4 x5 x6) _) (col_cell x0 x1 x2 x3 x4 x5 x6 0 1 (by decide) (by decide) (by decide) (by decide) _)
  · exact laid_piece 0 0 (by decide) zeroCol (zeroCol_cell x0 x1 x2 x3 x4 x5 x6 0 0 rfl)

theorem out_pairs : Gen.out0_7 (F := Ideal) x0 x1 x2 x3 x4 x5 x6 = pairs (lseAt x2 x3 x4 x5) x2 (mixAt x0 x1 x4 x5 x6) (scaleAt x3) := by
  funext y
  unfold Gen.out0_7 Gen.k0_pay38 Gen.k0_pay37 Gen.k0_pay36 Gen.k0_pay35 Gen.k0_pay34
  refine View.canon_apply_of_pieces _ _ ?_ y (Gen.cover0_7 _ _ _ _ _ _ _ _ y)
  intro q hq
  simp only [List.mem_cons, List.not_mem_nil, or_false] at hq
  rcases hq with rfl | rfl | rfl | rfl | rfl | rfl | rfl | rfl
  · exact mean_piece 1 3 (by decide) (column 5760 1920 (by decide) (by decide) (by decide) (lseCol x2 x3 x4 x5) (wide x2) (mixed x0 x1 x4 x5 x6) _) (col_cell x0 x1 x2 x3 x4 x5 x6 1 3 (by decide) (by decide) (by decide) (by decide) _)
  · exact mean_piece 1 2 (by decide) (column 3840 1920 (by decide) (by decide) (by decide) (lseCol x2 x3 x4 x5) (wide x2) (mixed x0 x1 x4 x5 x6) _) (col_cell x0 x1 x2 x3 x4 x5 x6 1 2 (by decide) (by decide) (by decide) (by decide) _)
  · exact mean_piece 1 1 (by decide) zeroCol (zeroCol_cell x0 x1 x2 x3 x4 x5 x6 1 1 rfl)
  · exact mean_piece 1 0 (by decide) (column 0 1920 (by decide) (by decide) (by decide) (lseCol x2 x3 x4 x5) (wide x2) (mixed x0 x1 x4 x5 x6) _) (col_cell x0 x1 x2 x3 x4 x5 x6 1 0 (by decide) (by decide) (by decide) (by decide) _)
  · exact mean_piece 0 3 (by decide) (column 5760 0 (by decide) (by decide) (by decide) (lseCol x2 x3 x4 x5) (wide x2) (mixed x0 x1 x4 x5 x6) _) (col_cell x0 x1 x2 x3 x4 x5 x6 0 3 (by decide) (by decide) (by decide) (by decide) _)
  · exact mean_piece 0 2 (by decide) (column 3840 0 (by decide) (by decide) (by decide) (lseCol x2 x3 x4 x5) (wide x2) (mixed x0 x1 x4 x5 x6) _) (col_cell x0 x1 x2 x3 x4 x5 x6 0 2 (by decide) (by decide) (by decide) (by decide) _)
  · exact mean_piece 0 1 (by decide) (column 1920 0 (by decide) (by decide) (by decide) (lseCol x2 x3 x4 x5) (wide x2) (mixed x0 x1 x4 x5 x6) _) (col_cell x0 x1 x2 x3 x4 x5 x6 0 1 (by decide) (by decide) (by decide) (by decide) _)
  · exact mean_piece 0 0 (by decide) zeroCol (zeroCol_cell x0 x1 x2 x3 x4 x5 x6 0 0 rfl)

end Cert.ReferenceIdeal.Row

end
-- ==== Proof.Value.lean ====
/-
  What the two programs leave in their result arrays, over the extended reals: the same functions of the arguments.
-/
module

public import proofs.«01_k».proof.Defs
public import proofs.«01_k».proof.Proof.Reference
public import proofs.«01_k».proof.Proof.Losses
public import proofs.«01_k».proof.Proof.Softmax
public import proofs.«01_k».proof.Proof.PI.Body
public import proofs.«01_k».proof.Proof.Gen.Pre_args_ok
public import Idealize.ShloMosaic.Lib.Claim
public import Idealize.ShloMosaic.Lib.ReduceAll
public import Idealize.ShloMosaic.Lib.Pipeline.ValueKit.Point

@[expose] public section

noncomputable section

namespace Cert.KernelIdeal.Value

open Idealize.ShloMosaic hiding ix1 ix2 ix3
open Idealize.ShloMosaic.TcCoe Idealize.SL.Sem
open Idealize.ShloMosaic.ValueIdx (ix1 ix2 ix3)
open Cert.KernelIdeal Cert.KernelIdeal.Gen
open Cert.LogSumExp

/-! ## The value -/

section
variable (a0 : Vec Ideal S2x5x384x256 .fp8e4m3) (a1 : Vec Ideal S2x5x384 .f32) (a2 : Vec Ideal S4x5x384x256 .fp8e4m3) (a3 : Vec Ideal S4x5x384 .f32)
  (a4 : Vec Ideal S20480x256 .fp8e4m3) (a5 : Vec Ideal S20480 .f32) (a6 : Vec Ideal S20480 .f32)

/-- The arguments laid out by row. -/
abbrev tcodesOf : Vec Ideal S3840x256 .fp8e4m3 := shapeCast S3840x256 a0 shapeCasts_S2x5x384x256_S3840x256
abbrev tscalesOf : Vec Ideal S3840x1 .f32 := shapeCast S3840x1 a1 shapeCasts_S2x5x384_S3840x1
abbrev codesOf : Vec Ideal S7680x256 .fp8e4m3 := shapeCast S7680x256 a2 shapeCasts_S4x5x384x256_S7680x256
abbrev scalesOf : Vec Ideal S7680x1 .f32 := shapeCast S7680x1 a3 shapeCasts_S4x5x384_S7680x1
abbrev normsOf : Vec Ideal S1x20480 .f32 := shapeCast S1x20480 a5 shapeCasts_S20480_S1x20480

/-- The scales of the rows, each repeated over the lanes. -/
abbrev trepOf : Vec Ideal S3840x128 .f32 := broadcastInDim S3840x128 ![0, 1] bcast_S3840x1_S3840x128_0_1 (tscalesOf a1)
abbrev repOf : Vec Ideal S7680x128 .f32 := broadcastInDim S7680x128 ![0, 1] bcast_S7680x1_S7680x128_0_1 (scalesOf a3)

/-- The student's logarithm of the sum of exponentials of row `r` of the logits, and the teacher's products with the prototypes. -/
def lseOf : Fin 7680 → EReal := Cert.ReferenceIdeal.Row.lseAt (codesOf a2) (scalesOf a3) a4 (normsOf a5)
def mixOf : Fin 3840 → Fin 256 → EReal := Cert.ReferenceIdeal.Row.mixAt (tcodesOf a0) (tscalesOf a1) a4 (normsOf a5) (normsOf a6)

/-- The two results: the losses of the rows, and their means. -/
def lossesOf : Vec Ideal S2x4x5x384 .f32 :=
  Cert.ReferenceIdeal.Row.losses (lseOf a2 a3 a4 a5) (codesOf a2) (mixOf a0 a1 a4 a5 a6) (Cert.ReferenceIdeal.Row.scaleAt (scalesOf a3))
def pairsOf : Vec Ideal S2x4 .f32 :=
  Cert.ReferenceIdeal.Row.pairs (lseOf a2 a3 a4 a5) (codesOf a2) (mixOf a0 a1 a4 a5 a6) (Cert.ReferenceIdeal.Row.scaleAt (scalesOf a3))

/-- The student's result: at `(a, 0, q)` the logarithm of row `128 a + q`. -/
def value : Vec Ideal S60x1x128 .f32 := fun y =>
  lseOf a2 a3 a4 a5 ⟨128 * (y 0).val + (y 2).val, by
    have h0 : (y 0).val < 60 := (y 0).isLt
    have h2 : (y 2).val < 128 := (y 2).isLt
    omega⟩

/-- What the teacher leaves: the sums and the products. -/
abbrev teacher : Cert.Teacher.St Ideal := (tstart (tcodesOf a0) (trepOf a1) a4 (normsOf a5) (normsOf a6)).scaled tT
abbrev sumsOf : Vec Ideal S30x1x128 .f32 := tsums (tcodesOf a0) (trepOf a1) a4 (normsOf a5) (normsOf a6)
abbrev prodsOf : Vec Ideal S3840x256 .f32 := tprods (tcodesOf a0) (trepOf a1) a4 (normsOf a5) (normsOf a6)
end

/-! ## The result of the student's body -/

theorem cE_eq : (cE : Ideal .f32) = ((L⁻¹ : ℝ) : EReal) := IdealRules.named_const.ideal_named_scalar (φ := .f32) κ "log2e" _ _ rfl
theorem cL_eq : (cL : Ideal .f32) = (L : EReal) := IdealRules.named_const.ideal_named_scalar (φ := .f32) κ "ln2" _ _ rfl
theorem cT_eq : (cT : Ideal .f32) = ((10 * L⁻¹ : ℝ) : EReal) := IdealRules.named_const.ideal_named_scalar (φ := .f32) κ "log2e_over_student_temp" _ _ rfl
theorem tT_eq : (tT : Ideal .f32) = ((25 * L⁻¹ : ℝ) : EReal) := IdealRules.named_const.ideal_named_scalar (φ := .f32) κ "log2e_over_teacher_temp" _ _ rfl
theorem fK_eq : (fK : Ideal .f32) = ((2 / 5 : ℝ) : EReal) := IdealRules.named_const.ideal_named_scalar (φ := .f32) κ "temps" _ _ rfl
theorem fL_eq : (fL : Ideal .f32) = (L : EReal) := IdealRules.named_const.ideal_named_scalar (φ := .f32) κ "ln2" _ _ rfl

/-- A scaled logit back in natural units. -/
theorem unit (d s w : EReal) : d * s * (w * ((10 * L⁻¹ : ℝ) : EReal)) * (L : EReal) = d * s * w * ((10 : ℝ) : EReal) := by
  have hL : L ≠ 0 := (Real.log_pos one_lt_two).ne'
  rw [mul_assoc, mul_assoc w, ← EReal.coe_mul, mul_assoc (10 : ℝ), inv_mul_cancel₀ hL, mul_one, ← mul_assoc]

theorem rep_apply (x : FVec Ideal S7680x1 .f32) (r : Fin 7680) (l : Fin 128) :
    broadcastInDim S7680x128 ![0, 1] bcast_S7680x1_S7680x128_0_1 x (ix2 r l) = x (ix2 r 0) :=
  congrArg x (funext fun a => by
    match a with
    | ⟨0, _⟩ => rfl
    | ⟨1, _⟩ => rfl)

theorem result_apply (a2 : Vec Ideal S4x5x384x256 .fp8e4m3) (a3 : Vec Ideal S4x5x384 .f32) (a4 : Vec Ideal S20480x256 .fp8e4m3) (a5 : Vec Ideal S20480 .f32) :
    result (codesOf a2) (repOf a3) a4 (normsOf a5) = value a2 a3 a4 a5 := by
  funext y
  unfold result Student.outAt value
  refine (Student.res_apply (sc := fun r => scalesOf a3 (ix2 r 0)) (hsc := fun r l => rep_apply (scalesOf a3) r l)
    (hE := cE_eq) (hL := cL_eq) ..).trans ?_
  unfold lseOf ReferenceIdeal.Row.lseAt
  refine congrArg lse (funext fun n => ?_)
  have hr : Student.hrow ⟨(y 0).val / 2, by have : (y 0).val < 60 := (y 0).isLt; omega⟩ ⟨(y 0).val % 2, Nat.mod_lt _ (by decide)⟩ (y 2)
      = ⟨128 * (y 0).val + (y 2).val, by have : (y 0).val < 60 := (y 0).isLt; have : (y 2).val < 128 := (y 2).isLt; omega⟩ := by
    refine Fin.ext ?_
    show 256 * ((y 0).val / 2) + (128 * ((y 0).val % 2) + (y 2).val) = 128 * (y 0).val + (y 2).val
    omega
  unfold Student.Y ReferenceIdeal.Row.logit
  rw [hr]
  refine (congrArg (fun z : EReal => _ * (_ * z) * (L : EReal)) cT_eq).trans ?_
  exact unit _ _ _

/-! ## The results of the teacher's body -/

/-- A scaled and centred logit back in natural units. -/
theorem tunit (d s w b : EReal) :
    (d * s * (w * ((25 * L⁻¹ : ℝ) : EReal)) - b * ((25 * L⁻¹ : ℝ) : EReal)) * (L : EReal) = (d * s * w - b) * ((25 : ℝ) : EReal) := by
  have hL : L ≠ 0 := (Real.log_pos one_lt_two).ne'
  have hk : (0 : EReal) ≤ ((25 * L⁻¹ : ℝ) : EReal) := EReal.coe_nonneg.2 (mul_nonneg (by norm_num) (inv_nonneg.2 (Real.log_pos one_lt_two).le))
  rw [← mul_assoc, ← EReal.sub_mul_of_nonneg_of_ne_top hk (EReal.coe_ne_top _), mul_assoc, ← EReal.coe_mul, mul_assoc (25 : ℝ), inv_mul_cancel₀ hL, mul_one]

theorem trep_apply (x : FVec Ideal S3840x1 .f32) (r : Fin 3840) (l : Fin 128) :
    broadcastInDim S3840x128 ![0, 1] bcast_S3840x1_S3840x128_0_1 x (ix2 r l) = x (ix2 r 0) :=
  congrArg x (funext fun a => by
    match a with
    | ⟨0, _⟩ => rfl
    | ⟨1, _⟩ => rfl)

/-- Every weight is a real number. -/
def RealWeights (a5 : Vec Ideal S20480 .f32) : Prop := ∀ j, ∃ r : ℝ, (a5 j : EReal) = r

theorem norms_real (a5 : Vec Ideal S20480 .f32) (h : RealWeights a5) (n : Fin 20480) : ∃ r : ℝ, (normsOf a5 (ix2 0 n) : EReal) = r := h _

/-- A row of codes with the teacher's products, over its sum: with the products of its probabilities. -/
theorem prods_ratio (a0 : Vec Ideal S2x5x384x256 .fp8e4m3) (a1 : Vec Ideal S2x5x384 .f32) (a4 : Vec Ideal S20480x256 .fp8e4m3) (a5 a6 : Vec Ideal S20480 .f32)
    (hw : RealWeights a5) (C : Fin 256 → EReal) (σ : EReal) (r : Fin 3840) :
    (∑ d, C d * prodsOf a0 a1 a4 a5 a6 (ix2 r d)) * σ * Ideal.div ((2 / 5 * L : ℝ) : EReal) (sumsOf a0 a1 a4 a5 a6 (ix3 ⟨r.val / 128, by omega⟩ 0 ⟨r.val % 128, by omega⟩))
      = (∑ d, C d * mixOf a0 a1 a4 a5 a6 r d) * σ * ((10 : ℝ) : EReal) := by
  have h := Cert.Teacher.ratio (teacher a0 a1 a4 a5 a6) (sc := fun r => tscalesOf a1 (ix2 r 0)) (fun r l => trep_apply (tscalesOf a1) r l) (t := trunc1) (fun x => rfl)
    (w := fun n => normsOf a5 (ix2 0 n)) (norms_real a5 hw) (fun n => congrArg (fun z : EReal => _ * z) tT_eq) C σ r
  refine h.trans ?_
  refine congrArg (fun z : EReal => z * σ * ((10 : ℝ) : EReal)) (Finset.sum_congr rfl fun d _ => congrArg (fun z : EReal => C d * z) ?_)
  unfold mixOf Cert.ReferenceIdeal.Row.mixAt
  refine congrArg (fun x => Cert.Softmax.mix x _ _ d) (funext fun n => ?_)
  unfold Cert.ReferenceIdeal.Row.tlogit
  refine Eq.trans ?_ (tunit _ _ _ _)
  refine congrArg (fun z : EReal => z * (L : EReal)) ?_
  exact congrArg (fun z : EReal => _ * (_ * z) - _ * z) tT_eq

/-! ## The arrays the regions find -/

variable (m : (ℓ : Loc nD τ sig) → Buf (Elt Ideal) ℓ) (ρ : Dev nD → PrngReg)

theorem tcodes_V (c : Dev nD) : (V1 m c (Proc.devRef .tc main_v0) : Vec Ideal S3840x256 .fp8e4m3) = tcodesOf (m ((c : Thread nD τ).loc main_arg0)) := by
  show (StableHlo.after hostOps0 (V0 m c) (Proc.devRef .tc main_v0) : Vec Ideal S3840x256 .fp8e4m3) = _
  entry_read
  rfl
theorem codes_V (c : Dev nD) : (V1 m c (Proc.devRef .tc main_v1) : Vec Ideal S7680x256 .fp8e4m3) = codesOf (m ((c : Thread nD τ).loc main_arg2)) := by
  show (StableHlo.after hostOps0 (V0 m c) (Proc.devRef .tc main_v1) : Vec Ideal S7680x256 .fp8e4m3) = _
  entry_read
  rfl
theorem trep_V (c : Dev nD) : (V1 m c (Proc.devRef .tc main_v3) : Vec Ideal S3840x128 .f32) = trepOf (m ((c : Thread nD τ).loc main_arg1)) := by
  show (StableHlo.after hostOps0 (V0 m c) (Proc.devRef .tc main_v3) : Vec Ideal S3840x128 .f32) = _
  entry_read
  rfl
theorem rep_V (c : Dev nD) : (V1 m c (Proc.devRef .tc main_v5) : Vec Ideal S7680x128 .f32) = repOf (m ((c : Thread nD τ).loc main_arg3)) := by
  show (StableHlo.after hostOps0 (V0 m c) (Proc.devRef .tc main_v5) : Vec Ideal S7680x128 .f32) = _
  entry_read
  rfl
theorem w_V (c : Dev nD) : (V1 m c (Proc.devRef .tc main_v6) : Vec Ideal S1x20480 .f32) = normsOf (m ((c : Thread nD τ).loc main_arg5)) := by
  show (StableHlo.after hostOps0 (V0 m c) (Proc.devRef .tc main_v6) : Vec Ideal S1x20480 .f32) = _
  entry_read
  rfl
theorem cen_V (c : Dev nD) : (V1 m c (Proc.devRef .tc main_v7) : Vec Ideal S1x20480 .f32) = normsOf (m ((c : Thread nD τ).loc main_arg6)) := by
  show (StableHlo.after hostOps0 (V0 m c) (Proc.devRef .tc main_v7) : Vec Ideal S1x20480 .f32) = _
  entry_read
  rfl
theorem arg4_V (c : Dev nD) : (V1 m c (Proc.devRef .tc main_arg4) : Vec Ideal S20480x256 .fp8e4m3) = m ((c : Thread nD τ).loc main_arg4) := V1_of m c _ (by decide)

section
variable (W : Valuation τ sig (Elt Ideal))

theorem idx0_0 : ∀ a, win0_0.index t0_0 a = 0 := by decide +kernel
theorem idx0_1 : ∀ a, win0_1.index t0_0 a = 0 := by decide +kernel
theorem idx0_2 : ∀ a, win0_2.index t0_0 a = 0 := by decide +kernel
theorem idx0_3 : ∀ a, win0_3.index t0_0 a = 0 := by decide +kernel
theorem idx0_4 : ∀ a, win0_4.index t0_0 a = 0 := by decide +kernel
theorem idx1_0 : ∀ a, win1_0.index t1_0 a = 0 := by decide +kernel
theorem idx1_1 : ∀ a, win1_1.index t1_0 a = 0 := by decide +kernel
theorem idx1_2 : ∀ a, win1_2.index t1_0 a = 0 := by decide +kernel
theorem idx1_3 : ∀ a, win1_3.index t1_0 a = 0 := by decide +kernel
theorem idx2_0 : ∀ a, win2_0.index t2_0 a = 0 := by decide +kernel
theorem idx2_1 : ∀ a, win2_1.index t2_0 a = 0 := by decide +kernel
theorem idx2_2 : ∀ a, win2_2.index t2_0 a = 0 := by decide +kernel
theorem idx2_3 : ∀ a, win2_3.index t2_0 a = 0 := by decide +kernel
theorem idx2_4 : ∀ a, win2_4.index t2_0 a = 0 := by decide +kernel

theorem blk0_0 : (blk0 W 0 t0_0 : Vec Ideal S3840x256 .fp8e4m3) = W (Proc.devRef .tc main_v0) := by
  funext y; blk_ext [blk0] <;> rw [idx0_0] <;> omega
theorem blk0_1 : (blk0 W 1 t0_0 : Vec Ideal S3840x128 .f32) = W (Proc.devRef .tc main_v3) := by
  funext y; blk_ext [blk0] <;> rw [idx0_1] <;> omega
theorem blk0_2 : (blk0 W 2 t0_0 : Vec Ideal S20480x256 .fp8e4m3) = W (Proc.devRef .tc main_arg4) := by
  funext y; blk_ext [blk0] <;> rw [idx0_2] <;> omega
theorem blk0_3 : (blk0 W 3 t0_0 : Vec Ideal S1x20480 .f32) = W (Proc.devRef .tc main_v6) := by
  funext y; blk_ext [blk0] <;> rw [idx0_3] <;> omega
theorem blk0_4 : (blk0 W 4 t0_0 : Vec Ideal S1x20480 .f32) = W (Proc.devRef .tc main_v7) := by
  funext y; blk_ext [blk0] <;> rw [idx0_4] <;> omega
theorem blk1_0 : (blk1 W 0 t1_0 : Vec Ideal S7680x256 .fp8e4m3) = W (Proc.devRef .tc main_v1) := by
  funext y; blk_ext [blk1] <;> rw [idx1_0] <;> omega
theorem blk1_1 : (blk1 W 1 t1_0 : Vec Ideal S7680x128 .f32) = W (Proc.devRef .tc main_v5) := by
  funext y; blk_ext [blk1] <;> rw [idx1_1] <;> omega
theorem blk1_2 : (blk1 W 2 t1_0 : Vec Ideal S20480x256 .fp8e4m3) = W (Proc.devRef .tc main_arg4) := by
  funext y; blk_ext [blk1] <;> rw [idx1_2] <;> omega
theorem blk1_3 : (blk1 W 3 t1_0 : Vec Ideal S1x20480 .f32) = W (Proc.devRef .tc main_v6) := by
  funext y; blk_ext [blk1] <;> rw [idx1_3] <;> omega
theorem blk2_0 : (blk2 W 0 t2_0 : Vec Ideal S3840x256 .f32) = W (Proc.devRef .tc main_v8_1) := by
  funext y; blk_ext [blk2] <;> rw [idx2_0] <;> omega
theorem blk2_1 : (blk2 W 1 t2_0 : Vec Ideal S30x1x128 .f32) = W (Proc.devRef .tc main_v8_0) := by
  funext y; blk_ext [blk2] <;> rw [idx2_1] <;> omega
theorem blk2_2 : (blk2 W 2 t2_0 : Vec Ideal S60x1x128 .f32) = W (Proc.devRef .tc main_v9) := by
  funext y; blk_ext [blk2] <;> rw [idx2_2] <;> omega
theorem blk2_3 : (blk2 W 3 t2_0 : Vec Ideal S7680x256 .fp8e4m3) = W (Proc.devRef .tc main_v1) := by
  funext y; blk_ext [blk2] <;> rw [idx2_3] <;> omega
theorem blk2_4 : (blk2 W 4 t2_0 : Vec Ideal S7680x128 .f32) = W (Proc.devRef .tc main_v5) := by
  funext y; blk_ext [blk2] <;> rw [idx2_4] <;> omega

/-- The result arrays of the teacher, of the student and of the final call after their regions. -/
theorem sums_arr (c : Dev nD) : (dat0 W c).arrAt 5 cfg0.N = tsums (blk0 W 0 t0_0) (blk0 W 1 t0_0) (blk0 W 2 t0_0) (blk0 W 3 t0_0) (blk0 W 4 t0_0) :=
  (dat0 W c).arrAt_eq_of_after_last 5 t0_0 (by decide +kernel) _ fun j => by
    blk_simp [after0_5]
theorem prods_arr (c : Dev nD) : (dat0 W c).arrAt 6 cfg0.N = tprods (blk0 W 0 t0_0) (blk0 W 1 t0_0) (blk0 W 2 t0_0) (blk0 W 3 t0_0) (blk0 W 4 t0_0) :=
  (dat0 W c).arrAt_eq_of_after_last 6 t0_0 (by decide +kernel) _ fun j => by
    blk_simp [after0_6]
theorem student_arr (c : Dev nD) : (dat1 W c).arrAt 5 cfg1.N = result (blk1 W 0 t1_0) (blk1 W 1 t1_0) (blk1 W 2 t1_0) (blk1 W 3 t1_0) :=
  (dat1 W c).arrAt_eq_of_after_last 5 t1_0 (by decide +kernel) _ fun j => by
    blk_simp [after1_5]
theorem pairs_arr (c : Dev nD) : (dat2 W c).arrAt 5 cfg2.N
    = Final.means (Final.totalUpto (rows1 (blk2 W 0 t2_0) (blk2 W 1 t2_0) (blk2 W 2 t2_0) (blk2 W 3 t2_0) (blk2 W 4 t2_0)) 15 le_rfl) :=
  (dat2 W c).arrAt_eq_of_after_last 5 t2_0 (by decide +kernel) _ fun j => by
    blk_simp [after2_5]
theorem losses_arr (c : Dev nD) : (dat2 W c).arrAt 6 cfg2.N
    = Final.lossOf (rows1 (blk2 W 0 t2_0) (blk2 W 1 t2_0) (blk2 W 2 t2_0) (blk2 W 3 t2_0) (blk2 W 4 t2_0)) :=
  (dat2 W c).arrAt_eq_of_after_last 6 t2_0 (by decide +kernel) _ fun j => by
    blk_simp [after2_6]
end

theorem keep_W2 (c : Dev nD) (r : Ref sig .tc) (h : ∀ w, Pipeline.arrRef spec0 w = r → (cfg0.win w).isOut = false) : W2 m c (Proc.devRef .tc r) = V1 m c (Proc.devRef .tc r) :=
  Pipeline.afterRegion_keeps _ _ launch0.win.arr_inj (fun _ => rfl) r h
theorem keep_W3 (c : Dev nD) (r : Ref sig .tc) (h : ∀ w, Pipeline.arrRef spec1 w = r → (cfg1.win w).isOut = false) : W3 m c (Proc.devRef .tc r) = W2 m c (Proc.devRef .tc r) :=
  Pipeline.afterRegion_keeps _ _ launch1.win.arr_inj (fun _ => rfl) r h

theorem sums_W2 (c : Dev nD) : (W2 m c (Proc.devRef .tc main_v8_0) : Vec Ideal S30x1x128 .f32)
    = sumsOf (m ((c : Thread nD τ).loc main_arg0)) (m ((c : Thread nD τ).loc main_arg1)) (m ((c : Thread nD τ).loc main_arg4)) (m ((c : Thread nD τ).loc main_arg5)) (m ((c : Thread nD τ).loc main_arg6)) := by
  refine (Pipeline.afterRegion_arr (dat0 (W1 m c) c) (W1 m c) launch0.win.arr_inj 5).trans ?_
  rw [sums_arr, blk0_0, blk0_1, blk0_2, blk0_3, blk0_4]
  unfold W1
  rw [tcodes_V, trep_V, arg4_V, w_V, cen_V]
theorem prods_W2 (c : Dev nD) : (W2 m c (Proc.devRef .tc main_v8_1) : Vec Ideal S3840x256 .f32)
    = prodsOf (m ((c : Thread nD τ).loc main_arg0)) (m ((c : Thread nD τ).loc main_arg1)) (m ((c : Thread nD τ).loc main_arg4)) (m ((c : Thread nD τ).loc main_arg5)) (m ((c : Thread nD τ).loc main_arg6)) := by
  refine (Pipeline.afterRegion_arr (dat0 (W1 m c) c) (W1 m c) launch0.win.arr_inj 6).trans ?_
  rw [prods_arr, blk0_0, blk0_1, blk0_2, blk0_3, blk0_4]
  unfold W1
  rw [tcodes_V, trep_V, arg4_V, w_V, cen_V]

theorem student_W3 (c : Dev nD) : (W3 m c (Proc.devRef .tc main_v9) : Vec Ideal S60x1x128 .f32)
    = value (m ((c : Thread nD τ).loc main_arg2)) (m ((c : Thread nD τ).loc main_arg3)) (m ((c : Thread nD τ).loc main_arg4)) (m ((c : Thread nD τ).loc main_arg5)) := by
  refine (Pipeline.afterRegion_arr (dat1 (W2 m c) c) (W2 m c) launch1.win.arr_inj 5).trans ?_
  rw [student_arr, blk1_0, blk1_1, blk1_2, blk1_3, keep_W2 m c main_v1 (by decide), keep_W2 m c main_v5 (by decide), keep_W2 m c main_arg4 (by decide), keep_W2 m c main_v6 (by decide),
    codes_V, rep_V, arg4_V, w_V]
  exact result_apply _ _ _ _

theorem rows_W3 (c : Dev nD) : rows1 (blk2 (W3 m c) 0 t2_0) (blk2 (W3 m c) 1 t2_0) (blk2 (W3 m c) 2 t2_0) (blk2 (W3 m c) 3 t2_0) (blk2 (W3 m c) 4 t2_0)
    = rows1 (prodsOf (m ((c : Thread nD τ).loc main_arg0)) (m ((c : Thread nD τ).loc main_arg1)) (m ((c : Thread nD τ).loc main_arg4)) (m ((c : Thread nD τ).loc main_arg5)) (m ((c : Thread nD τ).loc main_arg6))) (sumsOf (m ((c : Thread nD τ).loc main_arg0)) (m ((c : Thread nD τ).loc main_arg1)) (m ((c : Thread nD τ).loc main_arg4)) (m ((c : Thread nD τ).loc main_arg5)) (m ((c : Thread nD τ).loc main_arg6)))
      (value (m ((c : Thread nD τ).loc main_arg2)) (m ((c : Thread nD τ).loc main_arg3)) (m ((c : Thread nD τ).loc main_arg4)) (m ((c : Thread nD τ).loc main_arg5))) (codesOf (m ((c : Thread nD τ).loc main_arg2))) (repOf (m ((c : Thread nD τ).loc main_arg3))) := by
  rw [blk2_0, blk2_1, blk2_2, blk2_3, blk2_4, student_W3, keep_W3 m c main_v8_1 (by decide), keep_W3 m c main_v8_0 (by decide), keep_W3 m c main_v1 (by decide),
    keep_W3 m c main_v5 (by decide), prods_W2, sums_W2, keep_W2 m c main_v1 (by decide), keep_W2 m c main_v5 (by decide), codes_V, rep_V]

/-! ## The results of the final body -/

/-- No scale is negative, and none infinite. -/
def Ok (a3 : Vec Ideal S4x5x384 .f32) : Prop := ∀ j, (0 : EReal) ≤ a3 j ∧ (a3 j : EReal) ≠ ⊤

section
variable (a0 : Vec Ideal S2x5x384x256 .fp8e4m3) (a1 : Vec Ideal S2x5x384 .f32) (a2 : Vec Ideal S4x5x384x256 .fp8e4m3) (a3 : Vec Ideal S4x5x384 .f32)
  (a4 : Vec Ideal S20480x256 .fp8e4m3) (a5 : Vec Ideal S20480 .f32) (a6 : Vec Ideal S20480 .f32) (hs : Ok a3) (hw : RealWeights a5)

/-- What the final body starts from. -/
abbrev found : Final.St Ideal := start1 (prodsOf a0 a1 a4 a5 a6) (sumsOf a0 a1 a4 a5 a6) (value a2 a3 a4 a5) (codesOf a2) (repOf a3)

theorem sAt_found : Final.sAt (found a0 a1 a2 a3 a4 a5 a6) = lseOf a2 a3 a4 a5 := by
  funext r
  refine congrArg (lseOf a2 a3 a4 a5) (Fin.ext ?_)
  show 128 * (r.val / 128) + r.val % 128 = r.val
  omega

include hw in
/-- One loss, through the teacher's sums and through its probabilities. -/
theorem cell_found (i : Fin 2) (v : Fin 4) (p : Fin 1920) :
    Final.cell (lseOf a2 a3 a4 a5) (codesOf a2) (prodsOf a0 a1 a4 a5 a6) (Final.tAt (found a0 a1 a2 a3 a4 a5 a6)) (Cert.ReferenceIdeal.Row.scaleAt (scalesOf a3)) i v p
      = Cert.ReferenceIdeal.Row.cell (lseOf a2 a3 a4 a5) (codesOf a2) (mixOf a0 a1 a4 a5 a6) (Cert.ReferenceIdeal.Row.scaleAt (scalesOf a3)) i v p := by
  unfold Final.cell Cert.ReferenceIdeal.Row.cell
  refine congrArg (fun z : EReal => if i.val = v.val then 0 else lseOf a2 a3 a4 a5 (Final.srow v p) - z) ?_
  exact prods_ratio a0 a1 a4 a5 a6 hw (fun d => codesOf a2 (ix2 (Final.srow v p) d)) _ (Final.trow i p)

include hs hw in
theorem losses_found : Final.lossOf (rows1 (prodsOf a0 a1 a4 a5 a6) (sumsOf a0 a1 a4 a5 a6) (value a2 a3 a4 a5) (codesOf a2) (repOf a3)) = lossesOf a0 a1 a2 a3 a4 a5 a6 := by
  have h := Final.losses_eq (found a0 a1 a2 a3 a4 a5 a6) fK_eq fL_eq (sc := Cert.ReferenceIdeal.Row.scaleAt (scalesOf a3)) (fun r l => rep_apply (scalesOf a3) r l)
    (fun r => (hs _).1) (fun r => (hs _).2)
  rw [sAt_found] at h
  exact h.trans (funext fun y => cell_found a0 a1 a2 a3 a4 a5 a6 hw _ _ _)

include hs hw in
theorem pairs_found : Final.means (Final.totalUpto (rows1 (prodsOf a0 a1 a4 a5 a6) (sumsOf a0 a1 a4 a5 a6) (value a2 a3 a4 a5) (codesOf a2) (repOf a3)) 15 le_rfl)
    = pairsOf a0 a1 a2 a3 a4 a5 a6 := by
  have h := Final.pairs_eq (found a0 a1 a2 a3 a4 a5 a6) fK_eq fL_eq (sc := Cert.ReferenceIdeal.Row.scaleAt (scalesOf a3)) (fun r l => rep_apply (scalesOf a3) r l)
    (fun r => (hs _).1) (fun r => (hs _).2)
  rw [sAt_found] at h
  exact h.trans (funext fun y => congrArg (fun z : EReal => Ideal.div z _) (Finset.sum_congr rfl fun p _ => cell_found a0 a1 a2 a3 a4 a5 a6 hw _ _ p))
end

theorem inf_eq : Ideal.ofBits .f32 0x7F800000#32 = ⊤ := by simp [Ideal.ofBits, Ideal.ieee]
theorem ninf_eq : Ideal.ofBits .f32 0xFF800000#32 = ⊥ := by simp [Ideal.ofBits, Ideal.ieee]

/-- The comparisons of the precondition. -/
theorem scale_ok (x : EReal) (h0 : Ideal.cmp .oge x (Ideal.ofBits .f32 0x00000000#32) = 1#1) (h1 : Ideal.cmp .olt x (Ideal.ofBits .f32 0x7F800000#32) = 1#1) : 0 ≤ x ∧ x ≠ ⊤ := by
  rw [Ideal.ofBits_zero_f32] at h0
  rw [inf_eq] at h1
  unfold Ideal.cmp at h0 h1
  refine ⟨?_, ?_⟩
  · by_contra h
    simp [h] at h0
  · rintro rfl
    simp at h1
theorem weight_ok (x : EReal) (h0 : Ideal.cmp .ogt x (Ideal.ofBits .f32 0xFF800000#32) = 1#1) (h1 : Ideal.cmp .olt x (Ideal.ofBits .f32 0x7F800000#32) = 1#1) : ∃ r : ℝ, x = r := by
  rw [ninf_eq] at h0
  rw [inf_eq] at h1
  unfold Ideal.cmp at h0 h1
  induction x using EReal.rec with
  | bot => simp at h0
  | top => simp at h1
  | coe r => exact ⟨r, rfl⟩

/-- What the precondition gives. -/
theorem split (hm : Cert.Pre_KernelIdeal_args_ok m) (c : Dev nD) : Ok (m ((c : Thread nD τ).loc main_arg3)) ∧ RealWeights (m ((c : Thread nD τ).loc main_arg5)) := by
  have h := congrFun (hm c) (Shape.Idx.first (by decide))
  dsimp only [Cert.Pre_args_ok.fn] at h
  haveI : Subsingleton Cert.Pre_args_ok.S_.Idx := ⟨fun a b => funext fun x => x.elim0⟩
  have h2 := IntOp.andi_eq_one.1 h
  refine ⟨fun j => ?_, fun j => ?_⟩
  · have h3 := IntOp.andi_eq_one.1 (Host.reduce_andi_all _ _ _ _ _ h2.1 j)
    exact scale_ok _ h3.1 h3.2
  · have h3 := IntOp.andi_eq_one.1 (Host.reduce_andi_all _ _ _ _ _ h2.2 j)
    exact weight_ok _ h3.1 h3.2

/-- The two result arrays after the run. -/
theorem final_pairs (hm : Cert.Pre_KernelIdeal_args_ok m) (c : Dev nD) : (dat2 (W3 m c) c).arrAt 5 cfg2.N
    = pairsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [pairs_arr, rows_W3]
  exact pairs_found _ _ _ _ _ _ _ (split m hm c).1 (split m hm c).2
theorem final_losses (hm : Cert.Pre_KernelIdeal_args_ok m) (c : Dev nD) : (dat2 (W3 m c) c).arrAt 6 cfg2.N
    = lossesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [losses_arr, rows_W3]
  exact losses_found _ _ _ _ _ _ _ (split m hm c).1 (split m hm c).2

/-- Every execution of the @main of the kernel leaves the two values in the results and the arguments unchanged. -/
theorem run (hm : Cert.Pre_KernelIdeal_args_ok m) : θ_run defs (onTc (τ := τ) (main (F := Ideal))) ⟨m, fun _ => 0, ρ⟩ fun r => ∀ c : Dev nD,
    r.2.mem ((c.tc : Thread nD τ).loc main_v10_0) = pairsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v10_1) = lossesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h.1 c).1.trans (final_pairs m hm c), (h.1 c).2.1.trans (final_losses m hm c), (h.1 c).2.2⟩) (run_main m ρ)

end Cert.KernelIdeal.Value

/-! ## The reference -/

namespace Cert.ReferenceIdeal.Value

open Idealize.ShloMosaic hiding ix1 ix2 ix3
open Idealize.ShloMosaic.TcCoe Idealize.SL.Sem
open Idealize.ShloMosaic.ValueIdx (ix1 ix2 ix3)
open Cert.ReferenceIdeal Cert.ReferenceIdeal.Gen
open Cert.KernelIdeal.Value (tcodesOf tscalesOf codesOf scalesOf normsOf lossesOf pairsOf)

variable (m : (ℓ : Loc nD τ sig) → Buf (Elt Ideal) ℓ) (ρ : Dev nD → PrngReg)

theorem tcodes_V (c : Dev nD) : (V m c main_v0 : Vec Ideal S3840x256 .fp8e4m3) = tcodesOf (m ((c : Thread nD τ).loc main_arg0)) := by
  entry_read
  rfl
theorem tsc_V (c : Dev nD) : (V m c main_v1 : Vec Ideal S3840x1 .f32) = tscalesOf (m ((c : Thread nD τ).loc main_arg1)) := by
  entry_read
  rfl
theorem codes_V (c : Dev nD) : (V m c main_v2 : Vec Ideal S7680x256 .fp8e4m3) = codesOf (m ((c : Thread nD τ).loc main_arg2)) := by
  entry_read
  rfl
theorem sc_V (c : Dev nD) : (V m c main_v3 : Vec Ideal S7680x1 .f32) = scalesOf (m ((c : Thread nD τ).loc main_arg3)) := by
  entry_read
  rfl
theorem w_V (c : Dev nD) : (V m c main_v4 : Vec Ideal S1x20480 .f32) = normsOf (m ((c : Thread nD τ).loc main_arg5)) := by
  entry_read
  rfl
theorem cen_V (c : Dev nD) : (V m c main_v5 : Vec Ideal S1x20480 .f32) = normsOf (m ((c : Thread nD τ).loc main_arg6)) := by
  entry_read
  rfl

theorem idx0 : ∀ a, win0_0.index t0_0 a = 0 := by decide +kernel
theorem idx1 : ∀ a, win0_1.index t0_0 a = 0 := by decide +kernel
theorem idx2 : ∀ a, win0_2.index t0_0 a = 0 := by decide +kernel
theorem idx3 : ∀ a, win0_3.index t0_0 a = 0 := by decide +kernel
theorem idx4 : ∀ a, win0_4.index t0_0 a = 0 := by decide +kernel
theorem idx5 : ∀ a, win0_5.index t0_0 a = 0 := by decide +kernel
theorem idx6 : ∀ a, win0_6.index t0_0 a = 0 := by decide +kernel

theorem tcodes_blk (c : Dev nD) : (iblk m c 0 t0_0 : Vec Ideal S3840x256 .fp8e4m3) = V m c main_v0 := by
  funext y; blk_ext [iblk] <;> rw [idx0] <;> omega
theorem tsc_blk (c : Dev nD) : (iblk m c 1 t0_0 : Vec Ideal S3840x1 .f32) = V m c main_v1 := by
  funext y; blk_ext [iblk] <;> rw [idx1] <;> omega
theorem codes_blk (c : Dev nD) : (iblk m c 2 t0_0 : Vec Ideal S7680x256 .fp8e4m3) = V m c main_v2 := by
  funext y; blk_ext [iblk] <;> rw [idx2] <;> omega
theorem sc_blk (c : Dev nD) : (iblk m c 3 t0_0 : Vec Ideal S7680x1 .f32) = V m c main_v3 := by
  funext y; blk_ext [iblk] <;> rw [idx3] <;> omega
theorem protos_blk (c : Dev nD) : (iblk m c 4 t0_0 : Vec Ideal S20480x256 .fp8e4m3) = V m c main_arg4 := by
  funext y; blk_ext [iblk] <;> rw [idx4] <;> omega
theorem w_blk (c : Dev nD) : (iblk m c 5 t0_0 : Vec Ideal S1x20480 .f32) = V m c main_v4 := by
  funext y; blk_ext [iblk] <;> rw [idx5] <;> omega
theorem cen_blk (c : Dev nD) : (iblk m c 6 t0_0 : Vec Ideal S1x20480 .f32) = V m c main_v5 := by
  funext y; blk_ext [iblk] <;> rw [idx6] <;> omega

theorem pairs_arr (c : Dev nD) : (dats m 0 c).arrAt 7 cfg0.N
    = out0_7 (F := Ideal) (iblk m c 0 t0_0) (iblk m c 1 t0_0) (iblk m c 2 t0_0) (iblk m c 3 t0_0) (iblk m c 4 t0_0) (iblk m c 5 t0_0) (iblk m c 6 t0_0) :=
  (dats m 0 c).arrAt_eq_of_after_last 7 t0_0 (by decide +kernel) _ fun j => by
    blk_simp [after0_7]
theorem losses_arr (c : Dev nD) : (dats m 0 c).arrAt 8 cfg0.N
    = out0_8 (F := Ideal) (iblk m c 0 t0_0) (iblk m c 1 t0_0) (iblk m c 2 t0_0) (iblk m c 3 t0_0) (iblk m c 4 t0_0) (iblk m c 5 t0_0) (iblk m c 6 t0_0) :=
  (dats m 0 c).arrAt_eq_of_after_last 8 t0_0 (by decide +kernel) _ fun j => by
    blk_simp [after0_8]

theorem final_pairs (c : Dev nD) : (dats m 0 c).arrAt 7 cfg0.N
    = pairsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [pairs_arr, tcodes_blk, tsc_blk, codes_blk, sc_blk, protos_blk, w_blk, cen_blk, tcodes_V, tsc_V, codes_V, sc_V, w_V, cen_V, V_main_arg4]
  exact Row.out_pairs _ _ _ _ _ _ _
theorem final_losses (c : Dev nD) : (dats m 0 c).arrAt 8 cfg0.N
    = lossesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [losses_arr, tcodes_blk, tsc_blk, codes_blk, sc_blk, protos_blk, w_blk, cen_blk, tcodes_V, tsc_V, codes_V, sc_V, w_V, cen_V, V_main_arg4]
  exact Row.out_losses _ _ _ _ _ _ _

/-- Every execution of the @main of the reference leaves the two values in the results and the arguments unchanged. -/
theorem run : θ_run defs (onTc (τ := τ) (main (F := Ideal))) ⟨m, fun _ => 0, ρ⟩ fun r => ∀ c : Dev nD,
    r.2.mem ((c.tc : Thread nD τ).loc main_v6_0) = pairsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v6_1) = lossesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (final_pairs m c), (h c).2.1.trans (final_losses m c), (h c).2.2⟩) (run_blocks m ρ)

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_args_ok
public import proofs.«01_k».proof.Proof.P.Body
public import proofs.«01_k».proof.Proof.PI.Body
public import proofs.«01_k».proof.Proof.Value
public import Idealize.ShloMosaic.Adequacy
public import Idealize.ShloMosaic.Init

@[expose] public section

noncomputable section

namespace Cert.Proof

open Idealize.ShloMosaic Idealize.SL.Sem Cert.Kernel

/-- The runs of the two kernels, with what they leave in the results left out. -/
theorem frame_Kernel : Cert.quiescent_Kernel := fun m g _ =>
  (θ_run _ _ _).mono (fun _ h => ⟨fun c => (h.1 c).2.2, h.2⟩) (Cert.Kernel.run_main m g)
theorem frame_KernelIdeal : Cert.quiescent_KernelIdeal := fun m g _ =>
  (θ_run _ _ _).mono (fun _ h => ⟨fun c => (h.1 c).2.2, h.2⟩) (Cert.KernelIdeal.run_main m g)

/-- The kernel and the reference leave the same two result arrays. -/
theorem algebraic : Cert.algebraic_KernelIdeal_ReferenceIdeal_pre_args_ok := by
  intro m g m' g' hm hargs
  refine ⟨_, _, Cert.KernelIdeal.Value.run m g hm, (θ_run _ _ _).mono (fun r h c => ⟨(h c).1.trans ?_, (h c).2.1.trans ?_, (h c).2.2⟩) (Cert.ReferenceIdeal.Value.run m' g')⟩
  all_goals
    obtain ⟨h0, h1, h2, h3, h4, h5, h6⟩ := hargs c
    rw [h0, h1, h2, h3, h4, h5, h6]

theorem claim : Cert.Claim := ⟨Cert.Kernel.Gen.facts, Cert.KernelIdeal.Gen.facts, Cert.ReferenceIdeal.Gen.facts, Cert.Pre_args_ok.Gen.facts,
  frame_Kernel, frame_KernelIdeal, fun m g _ => frame_KernelIdeal m g trivial,
  fun m g _ => Cert.ReferenceIdeal.Gen.frame m g, fun m g _ => Cert.ReferenceIdeal.Gen.frame m g,
  ⟨IdealRules.named_const.statement Cert.KernelIdeal.κ "log2e_over_teacher_temp" .f32 0x421044FE#32 _ rfl,
    IdealRules.bf16_pack.statement _,
    IdealRules.named_const.statement Cert.KernelIdeal.κ "log2e_over_student_temp" .f32 0x4166D4CA#32 _ rfl,
    IdealRules.named_const.statement Cert.KernelIdeal.κ "log2e" .f32 0x3FB8AA3B#32 _ rfl,
    IdealRules.named_const.statement Cert.KernelIdeal.κ "ln2" .f32 0x3F317218#32 _ rfl,
    IdealRules.named_const.statement Cert.KernelIdeal.κ "temps" .f32 0x3ECCCCCD#32 _ rfl⟩, algebraic⟩

end Cert.Proof

end
